-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_ModulRefIdeal (m : (ℓ : Loc Cert.ModulRefIdeal.nD Cert.ModulRefIdeal.τ Cert.ModulRefIdeal.sig) → Buf (Elt Ideal) ℓ) : Prop :=
  True

def Pre_Gdread (m : (ℓ : Loc Cert.Gdread.nD Cert.Gdread.τ Cert.Gdread.sig) → Buf (Elt Bits) ℓ) : Prop :=
  True

def Pre_GdreadIdeal (m : (ℓ : Loc Cert.GdreadIdeal.nD Cert.GdreadIdeal.τ Cert.GdreadIdeal.sig) → Buf (Elt Ideal) ℓ) : Prop :=
  True

def Pre_GdreadRefIdeal (m : (ℓ : Loc Cert.GdreadRefIdeal.nD Cert.GdreadRefIdeal.τ Cert.GdreadRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3)
      ∧ r.2.mem ((c.tc : Thread Cert.FfnAct.nD Cert.FfnAct.τ).loc Cert.FfnAct.main_arg4) = m ((c.tc : Thread Cert.FfnAct.nD Cert.FfnAct.τ).loc Cert.FfnAct.main_arg4))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ r.2.sem = fun _ => 0)

def quiescent_ModulRefIdeal [hModulRefIdeal : Cert.ModulRefIdeal.Facts] : Prop :=
  ∀ (m : (ℓ : Loc Cert.ModulRefIdeal.nD Cert.ModulRefIdeal.τ Cert.ModulRefIdeal.sig) → Buf (Elt Ideal) ℓ) (g : Dev Cert.ModulRefIdeal.nD → PrngReg), Pre_ModulRefIdeal m →
    θ_run (Cert.ModulRefIdeal.defs (F := Ideal)) (onTc (τ := Cert.ModulRefIdeal.τ) (Cert.ModulRefIdeal.main (F := Ideal))) ⟨m, fun _ => 0, g⟩ (fun r => (∀ c : Dev Cert.ModulRefIdeal.nD,
      r.2.mem ((c.tc : Thread Cert.ModulRefIdeal.nD Cert.ModulRefIdeal.τ).loc Cert.ModulRefIdeal.main_arg0) = m ((c.tc : Thread Cert.ModulRefIdeal.nD Cert.ModulRefIdeal.τ).loc Cert.ModulRefIdeal.main_arg0)
      ∧ r.2.mem ((c.tc : Thread Cert.ModulRefIdeal.nD Cert.ModulRefIdeal.τ).loc Cert.ModulRefIdeal.main_arg1) = m ((c.tc : Thread Cert.ModulRefIdeal.nD Cert.ModulRefIdeal.τ).loc Cert.ModulRefIdeal.main_arg1)
      ∧ r.2.mem ((c.tc : Thread Cert.ModulRefIdeal.nD Cert.ModulRefIdeal.τ).loc Cert.ModulRefIdeal.main_arg2) = m ((c.tc : Thread Cert.ModulRefIdeal.nD Cert.ModulRefIdeal.τ).loc Cert.ModulRefIdeal.main_arg2))
      ∧ r.2.sem = fun _ => 0)

def quiescent_Gdread [hGdread : Cert.Gdread.Facts] : Prop :=
  ∀ (m : (ℓ : Loc Cert.Gdread.nD Cert.Gdread.τ Cert.Gdread.sig) → Buf (Elt Bits) ℓ) (g : Dev Cert.Gdread.nD → PrngReg), Pre_Gdread m →
    θ_run (Cert.Gdread.defs (F := Bits)) (onTc (τ := Cert.Gdread.τ) (Cert.Gdread.main (F := Bits))) ⟨m, fun _ => 0, g⟩ (fun r => (∀ c : Dev Cert.Gdread.nD,
      r.2.mem ((c.tc : Thread Cert.Gdread.nD Cert.Gdread.τ).loc Cert.Gdread.main_arg0) = m ((c.tc : Thread Cert.Gdread.nD Cert.Gdread.τ).loc Cert.Gdread.main_arg0)
      ∧ r.2.mem ((c.tc : Thread Cert.Gdread.nD Cert.Gdread.τ).loc Cert.Gdread.main_arg1) = m ((c.tc : Thread Cert.Gdread.nD Cert.Gdread.τ).loc Cert.Gdread.main_arg1)
      ∧ r.2.mem ((c.tc : Thread Cert.Gdread.nD Cert.Gdread.τ).loc Cert.Gdread.main_arg2) = m ((c.tc : Thread Cert.Gdread.nD Cert.Gdread.τ).loc Cert.Gdread.main_arg2)
      ∧ r.2.mem ((c.tc : Thread Cert.Gdread.nD Cert.Gdread.τ).loc Cert.Gdread.main_arg3) = m ((c.tc : Thread Cert.Gdread.nD Cert.Gdread.τ).loc Cert.Gdread.main_arg3))
      ∧ r.2.sem = fun _ => 0)

def quiescent_GdreadIdeal [hGdreadIdeal : Cert.GdreadIdeal.Facts] : Prop :=
  ∀ (m : (ℓ : Loc Cert.GdreadIdeal.nD Cert.GdreadIdeal.τ Cert.GdreadIdeal.sig) → Buf (Elt Ideal) ℓ) (g : Dev Cert.GdreadIdeal.nD → PrngReg), Pre_GdreadIdeal m →
    θ_run (Cert.GdreadIdeal.defs (F := Ideal)) (onTc (τ := Cert.GdreadIdeal.τ) (Cert.GdreadIdeal.main (F := Ideal))) ⟨m, fun _ => 0, g⟩ (fun r => (∀ c : Dev Cert.GdreadIdeal.nD,
      r.2.mem ((c.tc : Thread Cert.GdreadIdeal.nD Cert.GdreadIdeal.τ).loc Cert.GdreadIdeal.main_arg0) = m ((c.tc : Thread Cert.GdreadIdeal.nD Cert.GdreadIdeal.τ).loc Cert.GdreadIdeal.main_arg0)
      ∧ r.2.mem ((c.tc : Thread Cert.GdreadIdeal.nD Cert.GdreadIdeal.τ).loc Cert.GdreadIdeal.main_arg1) = m ((c.tc : Thread Cert.GdreadIdeal.nD Cert.GdreadIdeal.τ).loc Cert.GdreadIdeal.main_arg1)
      ∧ r.2.mem ((c.tc : Thread Cert.GdreadIdeal.nD Cert.GdreadIdeal.τ).loc Cert.GdreadIdeal.main_arg2) = m ((c.tc : Thread Cert.GdreadIdeal.nD Cert.GdreadIdeal.τ).loc Cert.GdreadIdeal.main_arg2)
      ∧ r.2.mem ((c.tc : Thread Cert.GdreadIdeal.nD Cert.GdreadIdeal.τ).loc Cert.GdreadIdeal.main_arg3) = m ((c.tc : Thread Cert.GdreadIdeal.nD Cert.GdreadIdeal.τ).loc Cert.GdreadIdeal.main_arg3))
      ∧ r.2.sem = fun _ => 0)

def quiescent_GdreadRefIdeal [hGdreadRefIdeal : Cert.GdreadRefIdeal.Facts] : Prop :=
  ∀ (m : (ℓ : Loc Cert.GdreadRefIdeal.nD Cert.GdreadRefIdeal.τ Cert.GdreadRefIdeal.sig) → Buf (Elt Ideal) ℓ) (g : Dev Cert.GdreadRefIdeal.nD → PrngReg), Pre_GdreadRefIdeal m →
    θ_run (Cert.GdreadRefIdeal.defs (F := Ideal)) (onTc (τ := Cert.GdreadRefIdeal.τ) (Cert.GdreadRefIdeal.main (F := Ideal))) ⟨m, fun _ => 0, g⟩ (fun r => (∀ c : Dev Cert.GdreadRefIdeal.nD,
      r.2.mem ((c.tc : Thread Cert.GdreadRefIdeal.nD Cert.GdreadRefIdeal.τ).loc Cert.GdreadRefIdeal.main_arg0) = m ((c.tc : Thread Cert.GdreadRefIdeal.nD Cert.GdreadRefIdeal.τ).loc Cert.GdreadRefIdeal.main_arg0)
      ∧ r.2.mem ((c.tc : Thread Cert.GdreadRefIdeal.nD Cert.GdreadRefIdeal.τ).loc Cert.GdreadRefIdeal.main_arg1) = m ((c.tc : Thread Cert.GdreadRefIdeal.nD Cert.GdreadRefIdeal.τ).loc Cert.GdreadRefIdeal.main_arg1)
      ∧ r.2.mem ((c.tc : Thread Cert.GdreadRefIdeal.nD Cert.GdreadRefIdeal.τ).loc Cert.GdreadRefIdeal.main_arg2) = m ((c.tc : Thread Cert.GdreadRefIdeal.nD Cert.GdreadRefIdeal.τ).loc Cert.GdreadRefIdeal.main_arg2)
      ∧ r.2.mem ((c.tc : Thread Cert.GdreadRefIdeal.nD Cert.GdreadRefIdeal.τ).loc Cert.GdreadRefIdeal.main_arg3) = m ((c.tc : Thread Cert.GdreadRefIdeal.nD Cert.GdreadRefIdeal.τ).loc Cert.GdreadRefIdeal.main_arg3))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v42_6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v25) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v8) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v20) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)
      ∧ m' ((c.tc : Thread Cert.FfnActRefIdeal.nD Cert.FfnActRefIdeal.τ).loc Cert.FfnActRefIdeal.main_arg4) = m ((c.tc : Thread Cert.FfnActIdeal.nD Cert.FfnActIdeal.τ).loc Cert.FfnActIdeal.main_arg4)) →
    ∃ (v0 : (c : Dev Cert.FfnActIdeal.nD) → Buf (Elt Ideal) ((c.tc : Thread Cert.FfnActIdeal.nD Cert.FfnActIdeal.τ).loc Cert.FfnActIdeal.main_v0)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
          ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v103) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3)
          ∧ r.2.mem ((c.tc : Thread Cert.FfnActRefIdeal.nD Cert.FfnActRefIdeal.τ).loc Cert.FfnActRefIdeal.main_arg4) = m' ((c.tc : Thread Cert.FfnActRefIdeal.nD Cert.FfnActRefIdeal.τ).loc Cert.FfnActRefIdeal.main_arg4))

def preserves_Modul_ModulIdeal : Prop :=
  True

def algebraic_ModulIdeal_ModulRefIdeal [hModulIdeal : Cert.ModulIdeal.Facts] [hModulRefIdeal : Cert.ModulRefIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.ModulRefIdeal.nD Cert.ModulRefIdeal.τ Cert.ModulRefIdeal.sig) → Buf (Elt Ideal) ℓ) (g' : Dev Cert.ModulRefIdeal.nD → PrngReg), Pre_ModulIdeal m →
    (∀ c : Dev Cert.ModulIdeal.nD,
      m' ((c.tc : Thread Cert.ModulRefIdeal.nD Cert.ModulRefIdeal.τ).loc Cert.ModulRefIdeal.main_arg0) = m ((c.tc : Thread Cert.ModulIdeal.nD Cert.ModulIdeal.τ).loc Cert.ModulIdeal.main_arg0)
      ∧ m' ((c.tc : Thread Cert.ModulRefIdeal.nD Cert.ModulRefIdeal.τ).loc Cert.ModulRefIdeal.main_arg1) = m ((c.tc : Thread Cert.ModulIdeal.nD Cert.ModulIdeal.τ).loc Cert.ModulIdeal.main_arg1)
      ∧ m' ((c.tc : Thread Cert.ModulRefIdeal.nD Cert.ModulRefIdeal.τ).loc Cert.ModulRefIdeal.main_arg2) = m ((c.tc : Thread Cert.ModulIdeal.nD Cert.ModulIdeal.τ).loc Cert.ModulIdeal.main_arg2)) →
    ∃ (v0 : (c : Dev Cert.ModulIdeal.nD) → Buf (Elt Ideal) ((c.tc : Thread Cert.ModulIdeal.nD Cert.ModulIdeal.τ).loc Cert.ModulIdeal.main_v0)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v0) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ θ_run (Cert.ModulRefIdeal.defs (F := Ideal)) (onTc (τ := Cert.ModulRefIdeal.τ) (Cert.ModulRefIdeal.main (F := Ideal))) ⟨m', fun _ => 0, g'⟩ (fun r => ∀ c : Dev Cert.ModulRefIdeal.nD,
          r.2.mem ((c.tc : Thread Cert.ModulRefIdeal.nD Cert.ModulRefIdeal.τ).loc Cert.ModulRefIdeal.main_v3) = v0 c
          ∧ r.2.mem ((c.tc : Thread Cert.ModulRefIdeal.nD Cert.ModulRefIdeal.τ).loc Cert.ModulRefIdeal.main_arg0) = m' ((c.tc : Thread Cert.ModulRefIdeal.nD Cert.ModulRefIdeal.τ).loc Cert.ModulRefIdeal.main_arg0)
          ∧ r.2.mem ((c.tc : Thread Cert.ModulRefIdeal.nD Cert.ModulRefIdeal.τ).loc Cert.ModulRefIdeal.main_arg1) = m' ((c.tc : Thread Cert.ModulRefIdeal.nD Cert.ModulRefIdeal.τ).loc Cert.ModulRefIdeal.main_arg1)
          ∧ r.2.mem ((c.tc : Thread Cert.ModulRefIdeal.nD Cert.ModulRefIdeal.τ).loc Cert.ModulRefIdeal.main_arg2) = m' ((c.tc : Thread Cert.ModulRefIdeal.nD Cert.ModulRefIdeal.τ).loc Cert.ModulRefIdeal.main_arg2))

def preserves_Gdread_GdreadIdeal : Prop :=
  True

def algebraic_GdreadIdeal_GdreadRefIdeal [hGdreadIdeal : Cert.GdreadIdeal.Facts] [hGdreadRefIdeal : Cert.GdreadRefIdeal.Facts] : Prop :=
  ∀ (m : (ℓ : Loc Cert.GdreadIdeal.nD Cert.GdreadIdeal.τ Cert.GdreadIdeal.sig) → Buf (Elt Ideal) ℓ) (g : Dev Cert.GdreadIdeal.nD → PrngReg)
    (m' : (ℓ : Loc Cert.GdreadRefIdeal.nD Cert.GdreadRefIdeal.τ Cert.GdreadRefIdeal.sig) → Buf (Elt Ideal) ℓ) (g' : Dev Cert.GdreadRefIdeal.nD → PrngReg), Pre_GdreadIdeal m →
    (∀ c : Dev Cert.GdreadIdeal.nD,
      m' ((c.tc : Thread Cert.GdreadRefIdeal.nD Cert.GdreadRefIdeal.τ).loc Cert.GdreadRefIdeal.main_arg0) = m ((c.tc : Thread Cert.GdreadIdeal.nD Cert.GdreadIdeal.τ).loc Cert.GdreadIdeal.main_arg0)
      ∧ m' ((c.tc : Thread Cert.GdreadRefIdeal.nD Cert.GdreadRefIdeal.τ).loc Cert.GdreadRefIdeal.main_arg1) = m ((c.tc : Thread Cert.GdreadIdeal.nD Cert.GdreadIdeal.τ).loc Cert.GdreadIdeal.main_arg1)
      ∧ m' ((c.tc : Thread Cert.GdreadRefIdeal.nD Cert.GdreadRefIdeal.τ).loc Cert.GdreadRefIdeal.main_arg2) = m ((c.tc : Thread Cert.GdreadIdeal.nD Cert.GdreadIdeal.τ).loc Cert.GdreadIdeal.main_arg2)
      ∧ m' ((c.tc : Thread Cert.GdreadRefIdeal.nD Cert.GdreadRefIdeal.τ).loc Cert.GdreadRefIdeal.main_arg3) = m ((c.tc : Thread Cert.GdreadIdeal.nD Cert.GdreadIdeal.τ).loc Cert.GdreadIdeal.main_arg3)) →
    ∃ (v0 : (c : Dev Cert.GdreadIdeal.nD) → Buf (Elt Ideal) ((c.tc : Thread Cert.GdreadIdeal.nD Cert.GdreadIdeal.τ).loc Cert.GdreadIdeal.main_v0)),
      θ_run (Cert.GdreadIdeal.defs (F := Ideal)) (onTc (τ := Cert.GdreadIdeal.τ) (Cert.GdreadIdeal.main (F := Ideal))) ⟨m, fun _ => 0, g⟩ (fun r => ∀ c : Dev Cert.GdreadIdeal.nD,
          r.2.mem ((c.tc : Thread Cert.GdreadIdeal.nD Cert.GdreadIdeal.τ).loc Cert.GdreadIdeal.main_v0) = v0 c
          ∧ r.2.mem ((c.tc : Thread Cert.GdreadIdeal.nD Cert.GdreadIdeal.τ).loc Cert.GdreadIdeal.main_arg0) = m ((c.tc : Thread Cert.GdreadIdeal.nD Cert.GdreadIdeal.τ).loc Cert.GdreadIdeal.main_arg0)
          ∧ r.2.mem ((c.tc : Thread Cert.GdreadIdeal.nD Cert.GdreadIdeal.τ).loc Cert.GdreadIdeal.main_arg1) = m ((c.tc : Thread Cert.GdreadIdeal.nD Cert.GdreadIdeal.τ).loc Cert.GdreadIdeal.main_arg1)
          ∧ r.2.mem ((c.tc : Thread Cert.GdreadIdeal.nD Cert.GdreadIdeal.τ).loc Cert.GdreadIdeal.main_arg2) = m ((c.tc : Thread Cert.GdreadIdeal.nD Cert.GdreadIdeal.τ).loc Cert.GdreadIdeal.main_arg2)
          ∧ r.2.mem ((c.tc : Thread Cert.GdreadIdeal.nD Cert.GdreadIdeal.τ).loc Cert.GdreadIdeal.main_arg3) = m ((c.tc : Thread Cert.GdreadIdeal.nD Cert.GdreadIdeal.τ).loc Cert.GdreadIdeal.main_arg3))
      ∧ θ_run (Cert.GdreadRefIdeal.defs (F := Ideal)) (onTc (τ := Cert.GdreadRefIdeal.τ) (Cert.GdreadRefIdeal.main (F := Ideal))) ⟨m', fun _ => 0, g'⟩ (fun r => ∀ c : Dev Cert.GdreadRefIdeal.nD,
          r.2.mem ((c.tc : Thread Cert.GdreadRefIdeal.nD Cert.GdreadRefIdeal.τ).loc Cert.GdreadRefIdeal.main_v20) = v0 c
          ∧ r.2.mem ((c.tc : Thread Cert.GdreadRefIdeal.nD Cert.GdreadRefIdeal.τ).loc Cert.GdreadRefIdeal.main_arg0) = m' ((c.tc : Thread Cert.GdreadRefIdeal.nD Cert.GdreadRefIdeal.τ).loc Cert.GdreadRefIdeal.main_arg0)
          ∧ r.2.mem ((c.tc : Thread Cert.GdreadRefIdeal.nD Cert.GdreadRefIdeal.τ).loc Cert.GdreadRefIdeal.main_arg1) = m' ((c.tc : Thread Cert.GdreadRefIdeal.nD Cert.GdreadRefIdeal.τ).loc Cert.GdreadRefIdeal.main_arg1)
          ∧ r.2.mem ((c.tc : Thread Cert.GdreadRefIdeal.nD Cert.GdreadRefIdeal.τ).loc Cert.GdreadRefIdeal.main_arg2) = m' ((c.tc : Thread Cert.GdreadRefIdeal.nD Cert.GdreadRefIdeal.τ).loc Cert.GdreadRefIdeal.main_arg2)
          ∧ r.2.mem ((c.tc : Thread Cert.GdreadRefIdeal.nD Cert.GdreadRefIdeal.τ).loc Cert.GdreadRefIdeal.main_arg3) = m' ((c.tc : Thread Cert.GdreadRefIdeal.nD Cert.GdreadRefIdeal.τ).loc Cert.GdreadRefIdeal.main_arg3))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hOutproj : Cert.Outproj.Facts) (hOutprojIdeal : Cert.OutprojIdeal.Facts) (hOutprojRefIdeal : Cert.OutprojRefIdeal.Facts) (hFfnOut : Cert.FfnOut.Facts) (hFfnOutIdeal : Cert.FfnOutIdeal.Facts) (hFfnOutRefIdeal : Cert.FfnOutRefIdeal.Facts) (hFfnAct : Cert.FfnAct.Facts) (hFfnActIdeal : Cert.FfnActIdeal.Facts) (hFfnActRefIdeal : Cert.FfnActRefIdeal.Facts) (hModul : Cert.Modul.Facts) (hModulIdeal : Cert.ModulIdeal.Facts) (hModulRefIdeal : Cert.ModulRefIdeal.Facts) (hGdread : Cert.Gdread.Facts) (hGdreadIdeal : Cert.GdreadIdeal.Facts) (hGdreadRefIdeal : Cert.GdreadRefIdeal.Facts) (hPre_decays : Cert.Pre_decays.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_Modul (hModul := hModul)
    ∧ quiescent_ModulIdeal (hModulIdeal := hModulIdeal)
    ∧ quiescent_ModulRefIdeal (hModulRefIdeal := hModulRefIdeal)
    ∧ quiescent_Gdread (hGdread := hGdread)
    ∧ quiescent_GdreadIdeal (hGdreadIdeal := hGdreadIdeal)
    ∧ quiescent_GdreadRefIdeal (hGdreadRefIdeal := hGdreadRefIdeal)
    ∧ preserves_Kernel_KernelIdeal
    ∧ algebraic_KernelIdeal_ReferenceIdeal_pre_decays (hKernelIdeal := hKernelIdeal) (hReferenceIdeal := hReferenceIdeal) (hPre_decays := hPre_decays)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Outproj_OutprojIdeal
    ∧ algebraic_OutprojIdeal_OutprojRefIdeal (hOutprojIdeal := hOutprojIdeal) (hOutprojRefIdeal := hOutprojRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnAct_FfnActIdeal
    ∧ algebraic_FfnActIdeal_FfnActRefIdeal (hFfnActIdeal := hFfnActIdeal) (hFfnActRefIdeal := hFfnActRefIdeal)
    ∧ preserves_Modul_ModulIdeal
    ∧ algebraic_ModulIdeal_ModulRefIdeal (hModulIdeal := hModulIdeal) (hModulRefIdeal := hModulRefIdeal)
    ∧ preserves_Gdread_GdreadIdeal
    ∧ algebraic_GdreadIdeal_GdreadRefIdeal (hGdreadIdeal := hGdreadIdeal) (hGdreadRefIdeal := hGdreadRefIdeal)
-- ==== Pre_decays.lean ====
abbrev S16384x1024 : Shape := ⟨2, ![16384, 1024]⟩
abbrev S16384x16 : Shape := ⟨2, ![16384, 16]⟩
abbrev S8x2x8x128x128 : Shape := ⟨5, ![8, 2, 8, 128, 128]⟩
abbrev S256x64x2x8 : Shape := ⟨4, ![256, 64, 2, 8]⟩
abbrev S256x63x1x8 : Shape := ⟨4, ![256, 63, 1, 8]⟩
abbrev S256x63x8 : Shape := ⟨3, ![256, 63, 8]⟩
abbrev S_ : Shape := ⟨0, ![]⟩

class Facts : Prop where
  shapeCasts_S16384x16_S256x64x2x8 : S16384x16.ShapeCasts S256x64x2x8
  slices_S256x64x2x8_S256x63x1x8_0_1_0_0 : S256x64x2x8.Slices ![0, 1, 0, 0] S256x63x1x8
  shapeCasts_S256x63x1x8_S256x63x8 : S256x63x1x8.ShapeCasts S256x63x8
  slices_S256x64x2x8_S256x63x1x8_0_0_0_0 : S256x64x2x8.Slices ![0, 0, 0, 0] S256x63x1x8
  reducesTo_S256x63x8_S_d0_1_2 : S256x63x8.ReducesTo [0, 1, 2] S_
  h_S_ : 0 < S_.numel
  slices_S256x64x2x8_S256x63x1x8_0_0_1_0 : S256x64x2x8.Slices ![0, 0, 1, 0] S256x63x1x8
  slices_S256x64x2x8_S256x63x1x8_0_1_1_0 : S256x64x2x8.Slices ![0, 1, 1, 0] S256x63x1x8
  bcast_S_S16384x1024 : S_.BroadcastsInDim S16384x1024 (![] : Fin 0 → Fin S16384x1024.rank)
  reducesTo_S16384x1024_S_d0_1 : S16384x1024.ReducesTo [0, 1] S_
  bcast_S_S16384x16 : S_.BroadcastsInDim S16384x16 (![] : Fin 0 → Fin S16384x16.rank)
  reducesTo_S16384x16_S_d0_1 : S16384x16.ReducesTo [0, 1] S_
  bcast_S_S8x2x8x128x128 : S_.BroadcastsInDim S8x2x8x128x128 (![] : Fin 0 → Fin S8x2x8x128x128.rank)
  reducesTo_S8x2x8x128x128_S_d0_1_2_3_4 : S8x2x8x128x128.ReducesTo [0, 1, 2, 3, 4] S_

variable [Facts]

def fn_part2 {F : FTy → Type} [FloatOps F] (main_v13 : IVec S_ 1) (main_v17 : IVec S_ 1) (main_v21 : IVec S_ 1) (main_v25 : IVec S_ 1) (main_v29 : IVec S_ 1) (main_v33 : IVec S_ 1) (main_v34 : FVec F S8x2x8x128x128 .f32) (main_cst_10 : FVec F S_ .f32) : IVec S_ 1 :=
  let main_v35 : FVec F S8x2x8x128x128 .f32 := broadcastInDim S8x2x8x128x128 ![] bcast_S_S8x2x8x128x128 main_cst_10
  let main_v36 : IVec S8x2x8x128x128 1 := cmpf .olt main_v34 main_v35
  let main_c_11 : IVec S_ 1 := constantI S_ 1 1#1
  let main_v37 : IVec S_ 1 := (fun x v => Host.reduce IntOp.andi x v reducesTo_S8x2x8x128x128_S_d0_1_2_3_4 h_S_) main_v36 main_c_11
  let main_v38 : IVec S_ 1 := andi main_v13 main_v17
  let main_v39 : IVec S_ 1 := andi main_v38 main_v21
  let main_v40 : IVec S_ 1 := andi main_v39 main_v25
  let main_v41 : IVec S_ 1 := andi main_v40 main_v29
  let main_v42 : IVec S_ 1 := andi main_v41 main_v33
  let main_v43 : IVec S_ 1 := andi main_v42 main_v37
  main_v43

def fn_part1 {F : FTy → Type} [FloatOps F] (main_arg2 : FVec F S16384x1024 .bf16) (main_arg3 : FVec F S16384x16 .f32) (main_arg4 : FVec F S16384x16 .f32) (main_arg5 : FVec F S8x2x8x128x128 .f32) (main_v13 : IVec S_ 1) (main_v17 : IVec S_ 1) (main_v18 : FVec F S16384x1024 .bf16) (main_cst_2 : FVec F S_ .bf16) : IVec S_ 1 :=
  let main_v19 : FVec F S16384x1024 .bf16 := broadcastInDim S16384x1024 ![] bcast_S_S16384x1024 main_cst_2
  let main_v20 : IVec S16384x1024 1 := cmpf .olt main_v18 main_v19
  let main_c_3 : IVec S_ 1 := constantI S_ 1 1#1
  let main_v21 : IVec S_ 1 := (fun x v => Host.reduce IntOp.andi x v reducesTo_S16384x1024_S_d0_1 h_S_) main_v20 main_c_3
  let main_v22 : FVec F S16384x1024 .bf16 := Host.absf main_arg2
  let main_cst_4 : FVec F S_ .bf16 := constant S_ .bf16 0x7F80#16
  let main_v23 : FVec F S16384x1024 .bf16 := broadcastInDim S16384x1024 ![] bcast_S_S16384x1024 main_cst_4
  let main_v24 : IVec S16384x1024 1 := cmpf .olt main_v22 main_v23
  let main_c_5 : IVec S_ 1 := constantI S_ 1 1#1
  let main_v25 : IVec S_ 1 := (fun x v => Host.reduce IntOp.andi x v reducesTo_S16384x1024_S_d0_1 h_S_) main_v24 main_c_5
  let main_v26 : FVec F S16384x16 .f32 := Host.absf main_arg3
  let main_cst_6 : FVec F S_ .f32 := constant S_ .f32 0x7F800000#32
  let main_v27 : FVec F S16384x16 .f32 := broadcastInDim S16384x16 ![] bcast_S_S16384x16 main_cst_6
  let main_v28 : IVec S16384x16 1 := cmpf .olt main_v26 main_v27
  let main_c_7 : IVec S_ 1 := constantI S_ 1 1#1
  let main_v29 : IVec S_ 1 := (fun x v => Host.reduce IntOp.andi x v reducesTo_S16384x16_S_d0_1 h_S_) main_v28 main_c_7
  let main_v30 : FVec F S16384x16 .f32 := Host.absf main_arg4
  let main_cst_8 : FVec F S_ .f32 := constant S_ .f32 0x7F800000#32
  let main_v31 : FVec F S16384x16 .f32 := broadcastInDim S16384x16 ![] bcast_S_S16384x16 main_cst_8
  let main_v32 : IVec S16384x16 1 := cmpf .olt main_v30 main_v31
  let main_c_9 : IVec S_ 1 := constantI S_ 1 1#1
  let main_v33 : IVec S_ 1 := (fun x v => Host.reduce IntOp.andi x v reducesTo_S16384x16_S_d0_1 h_S_) main_v32 main_c_9
  let main_v34 : FVec F S8x2x8x128x128 .f32 := Host.absf main_arg5
  let main_cst_10 : FVec F S_ .f32 := constant S_ .f32 0x7F800000#32
  fn_part2 (F := F) main_v13 main_v17 main_v21 main_v25 main_v29 main_v33 main_v34 main_cst_10

def fn {F : FTy → Type} [FloatOps F] (main_arg0 : FVec F S16384x1024 .bf16) (main_arg1 : FVec F S16384x1024 .bf16) (main_arg2 : FVec F S16384x1024 .bf16) (main_arg3 : FVec F S16384x16 .f32) (main_arg4 : FVec F S16384x16 .f32) (main_arg5 : FVec F S8x2x8x128x128 .f32) : IVec S_ 1 :=
  let main_v0 : FVec F S256x64x2x8 .f32 := shapeCast S256x64x2x8 main_arg3 shapeCasts_S16384x16_S256x64x2x8
  let main_v1 : FVec F S256x63x1x8 .f32 := (extractStridedSlice S256x63x1x8 ![0, 1, 0, 0] · slices_S256x64x2x8_S256x63x1x8_0_1_0_0) main_v0
  let main_v2 : FVec F S256x63x8 .f32 := shapeCast S256x63x8 main_v1 shapeCasts_S256x63x1x8_S256x63x8
  let main_v3 : FVec F S256x63x1x8 .f32 := (extractStridedSlice S256x63x1x8 ![0, 0, 0, 0] · slices_S256x64x2x8_S256x63x1x8_0_0_0_0) main_v0
  let main_v4 : FVec F S256x63x8 .f32 := shapeCast S256x63x8 main_v3 shapeCasts_S256x63x1x8_S256x63x8
  let main_v5 : IVec S256x63x8 1 := cmpf .ole main_v2 main_v4
  let main_c : IVec S_ 1 := constantI S_ 1 1#1
  let main_v6 : IVec S_ 1 := (fun x v => Host.reduce IntOp.andi x v reducesTo_S256x63x8_S_d0_1_2 h_S_) main_v5 main_c
  let main_v7 : FVec F S256x63x1x8 .f32 := (extractStridedSlice S256x63x1x8 ![0, 0, 1, 0] · slices_S256x64x2x8_S256x63x1x8_0_0_1_0) main_v0
  let main_v8 : FVec F S256x63x8 .f32 := shapeCast S256x63x8 main_v7 shapeCasts_S256x63x1x8_S256x63x8
  let main_v9 : FVec F S256x63x1x8 .f32 := (extractStridedSlice S256x63x1x8 ![0, 1, 1, 0] · slices_S256x64x2x8_S256x63x1x8_0_1_1_0) main_v0
  let main_v10 : FVec F S256x63x8 .f32 := shapeCast S256x63x8 main_v9 shapeCasts_S256x63x1x8_S256x63x8
  let main_v11 : IVec S256x63x8 1 := cmpf .ole main_v8 main_v10
  let main_c_0 : IVec S_ 1 := constantI S_ 1 1#1
  let main_v12 : IVec S_ 1 := (fun x v => Host.reduce IntOp.andi x v reducesTo_S256x63x8_S_d0_1_2 h_S_) main_v11 main_c_0
  let main_v13 : IVec S_ 1 := andi main_v6 main_v12
  let main_v14 : FVec F S16384x1024 .bf16 := Host.absf main_arg0
  let main_cst : FVec F S_ .bf16 := constant S_ .bf16 0x7F80#16
  let main_v15 : FVec F S16384x1024 .bf16 := broadcastInDim S16384x1024 ![] bcast_S_S16384x1024 main_cst
  let main_v16 : IVec S16384x1024 1 := cmpf .olt main_v14 main_v15
  let main_c_1 : IVec S_ 1 := constantI S_ 1 1#1
  let main_v17 : IVec S_ 1 := (fun x v => Host.reduce IntOp.andi x v reducesTo_S16384x1024_S_d0_1 h_S_) main_v16 main_c_1
  let main_v18 : FVec F S16384x1024 .bf16 := Host.absf main_arg1
  let main_cst_2 : FVec F S_ .bf16 := constant S_ .bf16 0x7F80#16
  fn_part1 (F := F) main_arg2 main_arg3 main_arg4 main_arg5 main_v13 main_v17 main_v18 main_cst_2
-- ==== Kernel.lean ====
abbrev S16384x1024 : Shape := ⟨2, ![16384, 1024]⟩
abbrev S16384x16 : Shape := ⟨2, ![16384, 16]⟩
abbrev S8x2x8x128x128 : Shape := ⟨5, ![8, 2, 8, 128, 128]⟩
abbrev S16384x2x8 : Shape := ⟨3, ![16384, 2, 8]⟩
abbrev S2x16384x8 : Shape := ⟨3, ![2, 16384, 8]⟩
abbrev S2x256x64x8 : Shape := ⟨4, ![2, 256, 64, 8]⟩
abbrev S2x256x8x64 : Shape := ⟨4, ![2, 256, 8, 64]⟩
abbrev S2x256x4x128 : Shape := ⟨4, ![2, 256, 4, 128]⟩
abbrev S64x1024 : Shape := ⟨2, ![64, 1024]⟩
abbrev S1x64x8 : Shape := ⟨3, ![1, 64, 8]⟩
abbrev S1x1x4x128 : Shape := ⟨4, ![1, 1, 4, 128]⟩
abbrev S1x2x8x128x128 : Shape := ⟨5, ![1, 2, 8, 128, 128]⟩
abbrev S2x8x128x128 : Shape := ⟨4, ![2, 8, 128, 128]⟩
abbrev S64x128 : Shape := ⟨2, ![64, 128]⟩
abbrev S1x64x1 : Shape := ⟨3, ![1, 64, 1]⟩
abbrev S64x1 : Shape := ⟨2, ![64, 1]⟩
abbrev S1x1x1x128 : Shape := ⟨4, ![1, 1, 1, 128]⟩
abbrev S1x128 : Shape := ⟨2, ![1, 128]⟩
abbrev S64x256 : Shape := ⟨2, ![64, 256]⟩
abbrev S128x256 : Shape := ⟨2, ![128, 256]⟩
abbrev S128x128 : Shape := ⟨2, ![128, 128]⟩
abbrev S1x1x128x128 : Shape := ⟨4, ![1, 1, 128, 128]⟩
abbrev S1 : Shape := ⟨1, ![1]⟩
abbrev S1x1 : Shape := ⟨2, ![1, 1]⟩

abbrev nBuf : Space → Nat
  | .hbm => 16
  | .vmem => 33
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x16, .f32⟩
  | .hbm, ⟨4, _⟩ => ⟨S16384x16, .f32⟩
  | .hbm, ⟨5, _⟩ => ⟨S8x2x8x128x128, .f32⟩
  | .hbm, ⟨6, _⟩ => ⟨S16384x2x8, .f32⟩
  | .hbm, ⟨7, _⟩ => ⟨S2x16384x8, .f32⟩
  | .hbm, ⟨8, _⟩ => ⟨S2x256x64x8, .f32⟩
  | .hbm, ⟨9, _⟩ => ⟨S2x256x8x64, .f32⟩
  | .hbm, ⟨10, _⟩ => ⟨S2x256x4x128, .f32⟩
  | .hbm, ⟨11, _⟩ => ⟨S16384x2x8, .f32⟩
  | .hbm, ⟨12, _⟩ => ⟨S2x16384x8, .f32⟩
  | .hbm, ⟨13, _⟩ => ⟨S16384x1024, .f32⟩
  | .hbm, ⟨14, _⟩ => ⟨S16384x1024, .f32⟩
  | .hbm, ⟨15, _⟩ => ⟨S8x2x8x128x128, .f32⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S1x64x8, .f32⟩
  | .local _ .vmem, ⟨7, _⟩ => ⟨S1x64x8, .f32⟩
  | .local _ .vmem, ⟨8, _⟩ => ⟨S1x1x4x128, .f32⟩
  | .local _ .vmem, ⟨9, _⟩ => ⟨S1x1x4x128, .f32⟩
  | .local _ .vmem, ⟨10, _⟩ => ⟨S1x64x8, .f32⟩
  | .local _ .vmem, ⟨11, _⟩ => ⟨S1x64x8, .f32⟩
  | .local _ .vmem, ⟨12, _⟩ => ⟨S64x1024, .bf16⟩
  | .local _ .vmem, ⟨13, _⟩ => ⟨S64x1024, .bf16⟩
  | .local _ .vmem, ⟨14, _⟩ => ⟨S64x1024, .bf16⟩
  | .local _ .vmem, ⟨15, _⟩ => ⟨S64x1024, .bf16⟩
  | .local _ .vmem, ⟨16, _⟩ => ⟨S64x1024, .bf16⟩
  | .local _ .vmem, ⟨17, _⟩ => ⟨S64x1024, .bf16⟩
  | .local _ .vmem, ⟨18, _⟩ => ⟨S1x64x8, .f32⟩
  | .local _ .vmem, ⟨19, _⟩ => ⟨S1x64x8, .f32⟩
  | .local _ .vmem, ⟨20, _⟩ => ⟨S1x1x4x128, .f32⟩
  | .local _ .vmem, ⟨21, _⟩ => ⟨S1x1x4x128, .f32⟩
  | .local _ .vmem, ⟨22, _⟩ => ⟨S1x64x8, .f32⟩
  | .local _ .vmem, ⟨23, _⟩ => ⟨S1x64x8, .f32⟩
  | .local _ .vmem, ⟨24, _⟩ => ⟨S1x2x8x128x128, .f32⟩
  | .local _ .vmem, ⟨25, _⟩ => ⟨S1x2x8x128x128, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S1x2x8x128x128, .f32⟩
  | .local _ .vmem, ⟨31, _⟩ => ⟨S1x2x8x128x128, .f32⟩
  | .local _ .vmem, ⟨32, _⟩ => ⟨S2x8x128x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v2558 : BitVec 1 := Scalar.cmpi .eq arg1 c31_i32
  let v2559 : BitVec 32 := Scalar.extui v2558
  let c0_i32_899 : BitVec 32 := 0#32
  let v2560 : BitVec 1 := Scalar.cmpi .ne v2559 c0_i32_899
  v2560

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  let c0_i32_2 : BitVec 32 := 0#32
  ![c1_i32_1.toNat, v3.toNat, c0_i32.toNat]

def cc0_transform_10 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  let c0_i32_2 : BitVec 32 := 0#32
  let c0_i32_3 : BitVec 32 := 0#32
  ![c1_i32_1.toNat, v3.toNat, c0_i32.toNat, c0_i32_2.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  let c0_i32_2 : BitVec 32 := 0#32
  ![c1_i32_1.toNat, v3.toNat, c0_i32.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S16384x1024 : Shape := ⟨2, ![16384, 1024]⟩
abbrev S16384x16 : Shape := ⟨2, ![16384, 16]⟩
abbrev S8x2x8x128x128 : Shape := ⟨5, ![8, 2, 8, 128, 128]⟩
abbrev S8x2048x2x8 : Shape := ⟨4, ![8, 2048, 2, 8]⟩
abbrev S2048x8x2x8 : Shape := ⟨4, ![2048, 8, 2, 8]⟩
abbrev S2048x8x1x8 : Shape := ⟨4, ![2048, 8, 1, 8]⟩
abbrev S32x64x8x2x8 : Shape := ⟨5, ![32, 64, 8, 2, 8]⟩
abbrev S32x1x8x2x8 : Shape := ⟨5, ![32, 1, 8, 2, 8]⟩
abbrev S_ : Shape := ⟨0, ![]⟩
abbrev S32x63x8x2x8 : Shape := ⟨5, ![32, 63, 8, 2, 8]⟩
abbrev S8x2048x8x128 : Shape := ⟨4, ![8, 2048, 8, 128]⟩
abbrev S2048x8x8x128 : Shape := ⟨4, ![2048, 8, 8, 128]⟩
abbrev S2048x8x1x8x128 : Shape := ⟨5, ![2048, 8, 1, 8, 128]⟩
abbrev S2048x8x2x8x128 : Shape := ⟨5, ![2048, 8, 2, 8, 128]⟩
abbrev S1x8x2x8x128 : Shape := ⟨5, ![1, 8, 2, 8, 128]⟩
abbrev S8x2x8x128 : Shape := ⟨4, ![8, 2, 8, 128]⟩
abbrev S1x8x2x8 : Shape := ⟨4, ![1, 8, 2, 8]⟩
abbrev S8x2x8 : Shape := ⟨3, ![8, 2, 8]⟩
abbrev S8x2x8x1x1 : Shape := ⟨5, ![8, 2, 8, 1, 1]⟩
abbrev S8x2x8x1 : Shape := ⟨4, ![8, 2, 8, 1]⟩
abbrev S8x2x8x128x1 : Shape := ⟨5, ![8, 2, 8, 128, 1]⟩
abbrev S8x2x8x1x128 : Shape := ⟨5, ![8, 2, 8, 1, 128]⟩

abbrev nBuf : Space → Nat
  | .hbm => 121
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x16, .f32⟩
  | .hbm, ⟨4, _⟩ => ⟨S16384x16, .f32⟩
  | .hbm, ⟨5, _⟩ => ⟨S8x2x8x128x128, .f32⟩
  | .hbm, ⟨6, _⟩ => ⟨S8x2048x2x8, .f32⟩
  | .hbm, ⟨7, _⟩ => ⟨S2048x8x2x8, .f32⟩
  | .hbm, ⟨8, _⟩ => ⟨S2048x8x1x8, .f32⟩
  | .hbm, ⟨9, _⟩ => ⟨S2048x8x1x8, .f32⟩
  | .hbm, ⟨10, _⟩ => ⟨S2048x8x1x8, .f32⟩
  | .hbm, ⟨11, _⟩ => ⟨S2048x8x2x8, .f32⟩
  | .hbm, ⟨12, _⟩ => ⟨S32x64x8x2x8, .f32⟩
  | .hbm, ⟨13, _⟩ => ⟨S32x1x8x2x8, .f32⟩
  | .hbm, ⟨14, _⟩ => ⟨S_, .f32⟩
  | .hbm, ⟨15, _⟩ => ⟨S32x1x8x2x8, .f32⟩
  | .hbm, ⟨16, _⟩ => ⟨S32x63x8x2x8, .f32⟩
  | .hbm, ⟨17, _⟩ => ⟨S32x64x8x2x8, .f32⟩
  | .hbm, ⟨18, _⟩ => ⟨S32x64x8x2x8, .f32⟩
  | .hbm, ⟨19, _⟩ => ⟨S32x64x8x2x8, .f32⟩
  | .hbm, ⟨20, _⟩ => ⟨S2048x8x2x8, .f32⟩
  | .hbm, ⟨21, _⟩ => ⟨S16384x1024, .f32⟩
  | .hbm, ⟨22, _⟩ => ⟨S8x2048x8x128, .f32⟩
  | .hbm, ⟨23, _⟩ => ⟨S2048x8x8x128, .f32⟩
  | .hbm, ⟨24, _⟩ => ⟨S2048x8x8x128, .f32⟩
  | .hbm, ⟨25, _⟩ => ⟨S2048x8x1x8x128, .f32⟩
  | .hbm, ⟨26, _⟩ => ⟨S2048x8x1x8x128, .f32⟩
  | .hbm, ⟨27, _⟩ => ⟨S2048x8x2x8x128, .f32⟩
  | .hbm, ⟨28, _⟩ => ⟨S16384x1024, .f32⟩
  | .hbm, ⟨29, _⟩ => ⟨S8x2048x8x128, .f32⟩
  | .hbm, ⟨30, _⟩ => ⟨S2048x8x8x128, .f32⟩
  | .hbm, ⟨31, _⟩ => ⟨S2048x8x8x128, .f32⟩
  | .hbm, ⟨32, _⟩ => ⟨S2048x8x1x8x128, .f32⟩
  | .hbm, ⟨33, _⟩ => ⟨S2048x8x1x8x128, .f32⟩
  | .hbm, ⟨34, _⟩ => ⟨S2048x8x2x8x128, .f32⟩
  | .hbm, ⟨35, _⟩ => ⟨S16384x1024, .f32⟩
  | .hbm, ⟨36, _⟩ => ⟨S8x2048x8x128, .f32⟩
  | .hbm, ⟨37, _⟩ => ⟨S2048x8x8x128, .f32⟩
  | .hbm, ⟨38, _⟩ => ⟨S2048x8x8x128, .f32⟩
  | .hbm, ⟨39, _⟩ => ⟨S2048x8x1x8x128, .f32⟩
  | .hbm, ⟨40, _⟩ => ⟨S2048x8x1x8x128, .f32⟩
  | .hbm, ⟨41, _⟩ => ⟨S2048x8x2x8x128, .f32⟩
  | .hbm, ⟨42, _⟩ => ⟨S8x2048x2x8, .f32⟩
  | .hbm, ⟨43, _⟩ => ⟨S2048x8x2x8, .f32⟩
  | .hbm, ⟨44, _⟩ => ⟨S2048x8x1x8, .f32⟩
  | .hbm, ⟨45, _⟩ => ⟨S2048x8x1x8, .f32⟩
  | .hbm, ⟨46, _⟩ => ⟨S2048x8x1x8, .f32⟩
  | .hbm, ⟨47, _⟩ => ⟨S2048x8x2x8, .f32⟩
  | .hbm, ⟨48, _⟩ => ⟨S_, .f32⟩
  | .hbm, ⟨49, _⟩ => ⟨S2048x8x2x8x128, .f32⟩
  | .hbm, ⟨50, _⟩ => ⟨S_, .i32⟩
  | .hbm, ⟨51, _⟩ => ⟨S2048x8x2x8x128, .f32⟩
  | .hbm, ⟨52, _⟩ => ⟨S2048x8x2x8x128, .f32⟩
  | .hbm, ⟨53, _⟩ => ⟨S2048x8x2x8x128, .f32⟩
  | .hbm, ⟨54, _⟩ => ⟨S2048x8x2x8, .f32⟩
  | .hbm, ⟨55, _⟩ => ⟨S2048x8x2x8, .f32⟩
  | .hbm, ⟨56, _⟩ => ⟨S_, .i32⟩
  | .hbm, ⟨57, _⟩ => ⟨S8x2x8x128x128, .f32⟩
  | .hbm, ⟨58, _⟩ => ⟨S2048x8x2x8x128, .f32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x8x2x8x128, .f32⟩
  | .hbm, ⟨66, _⟩ => ⟨S8x2x8x128, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x8x2x8x128, .f32⟩
  | .hbm, ⟨72, _⟩ => ⟨S8x2x8x128, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S1x8x2x8x128, .f32⟩
  | .hbm, ⟨78, _⟩ => ⟨S8x2x8x128, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S1x8x2x8, .f32⟩
  | .hbm, ⟨83, _⟩ => ⟨S8x2x8, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S1x8x2x8, .f32⟩
  | .hbm, ⟨88, _⟩ => ⟨S8x2x8, .f32⟩
  | .hbm, ⟨89, _⟩ => ⟨S8x2x8x1x1, .f32⟩
  | .hbm, ⟨90, _⟩ => ⟨S8x2x8x128x128, .f32⟩
  | .hbm, ⟨91, _⟩ => ⟨S8x2x8x128x128, .f32⟩
  | .hbm, ⟨92, _⟩ => ⟨S8x2x8x128, .f32⟩
  | .hbm, ⟨93, _⟩ => ⟨S8x2x8x128, .f32⟩
  | .hbm, ⟨94, _⟩ => ⟨S8x2x8x1, .f32⟩
  | .hbm, ⟨95, _⟩ => ⟨S8x2x8x128, .f32⟩
  | .hbm, ⟨96, _⟩ => ⟨S8x2x8x128, .f32⟩
  | .hbm, ⟨97, _⟩ => ⟨S8x2x8x128x1, .f32⟩
  | .hbm, ⟨98, _⟩ => ⟨S8x2x8x1x128, .f32⟩
  | .hbm, ⟨99, _⟩ => ⟨S8x2x8x128x128, .f32⟩
  | .hbm, ⟨100, _⟩ => ⟨S8x2x8x128x128, .f32⟩
  | .hbm, ⟨101, _⟩ => ⟨S8x2x8x128x128, .f32⟩
  | .hbm, ⟨102, _⟩ => ⟨S8x2x8x128x128, .f32⟩
  | .hbm, ⟨103, _⟩ => ⟨S8x2x8x128, .f32⟩
  | .hbm, ⟨104, _⟩ => ⟨S1x8x2x8x128, .f32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S2048x8x2x8x128, .f32⟩
  | .hbm, ⟨110, _⟩ => ⟨S_, .i32⟩
  | .hbm, ⟨111, _⟩ => ⟨S_, .i32⟩
  | .hbm, ⟨112, _⟩ => ⟨S2048x8x1x8x128, .f32⟩
  | .hbm, ⟨113, _⟩ => ⟨S2048x8x8x128, .f32⟩
  | .hbm, ⟨114, _⟩ => ⟨S8x2048x8x128, .f32⟩
  | .hbm, ⟨115, _⟩ => ⟨S16384x1024, .f32⟩
  | .hbm, ⟨116, _⟩ => ⟨S2048x8x1x8x128, .f32⟩
  | .hbm, ⟨117, _⟩ => ⟨S2048x8x8x128, .f32⟩
  | .hbm, ⟨118, _⟩ => ⟨S2048x8x8x128, .f32⟩
  | .hbm, ⟨119, _⟩ => ⟨S8x2048x8x128, .f32⟩
  | .hbm, ⟨120, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_0 : Ref sig .tc := ⟨.hbm, 48, rfl⟩
abbrev main_v41 : Ref sig .tc := ⟨.hbm, 49, rfl⟩
abbrev main_c : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev main_v42_3 : Ref sig .tc := ⟨.hbm, 54, rfl⟩
abbrev main_v42_4 : Ref sig .tc := ⟨.hbm, 55, rfl⟩
abbrev main_v42_5 : Ref sig .tc := ⟨.hbm, 56, rfl⟩
abbrev main_v42_6 : Ref sig .tc := ⟨.hbm, 57, rfl⟩
abbrev main_v42_7 : Ref sig .tc := ⟨.hbm, 58, rfl⟩
abbrev main_while0c_c_8 : Ref sig .tc := ⟨.hbm, 59, rfl⟩
abbrev main_while0c_v52 : Ref sig .tc := ⟨.hbm, 60, rfl⟩
abbrev main_while0b_call5_c : Ref sig .tc := ⟨.hbm, 61, rfl⟩
abbrev main_while0b_call5_c_0 : Ref sig .tc := ⟨.hbm, 62, rfl⟩
abbrev main_while0b_call5_c_1 : Ref sig .tc := ⟨.hbm, 63, rfl⟩
abbrev main_while0b_call5_c_2 : Ref sig .tc := ⟨.hbm, 64, rfl⟩
abbrev main_while0b_call5_v0 : Ref sig .tc := ⟨.hbm, 65, rfl⟩
abbrev main_while0b_v52 : Ref sig .tc := ⟨.hbm, 66, rfl⟩
abbrev main_while0b_call6_c : Ref sig .tc := ⟨.hbm, 67, rfl⟩
abbrev main_while0b_call6_c_0 : Ref sig .tc := ⟨.hbm, 68, rfl⟩
abbrev main_while0b_call6_c_1 : Ref sig .tc := ⟨.hbm, 69, rfl⟩
abbrev main_while0b_call6_c_2 : Ref sig .tc := ⟨.hbm, 70, rfl⟩
abbrev main_while0b_call6_v0 : Ref sig .tc := ⟨.hbm, 71, rfl⟩
abbrev main_while0b_v53 : Ref sig .tc := ⟨.hbm, 72, rfl⟩
abbrev main_while0b_call7_c : Ref sig .tc := ⟨.hbm, 73, rfl⟩
abbrev main_while0b_call7_c_0 : Ref sig .tc := ⟨.hbm, 74, rfl⟩
abbrev main_while0b_call7_c_1 : Ref sig .tc := ⟨.hbm, 75, rfl⟩
abbrev main_while0b_call7_c_2 : Ref sig .tc := ⟨.hbm, 76, rfl⟩
abbrev main_while0b_call7_v0 : Ref sig .tc := ⟨.hbm, 77, rfl⟩
abbrev main_while0b_v54 : Ref sig .tc := ⟨.hbm, 78, rfl⟩
abbrev main_while0b_call8_c : Ref sig .tc := ⟨.hbm, 79, rfl⟩
abbrev main_while0b_call8_c_0 : Ref sig .tc := ⟨.hbm, 80, rfl⟩
abbrev main_while0b_call8_c_1 : Ref sig .tc := ⟨.hbm, 81, rfl⟩
abbrev main_while0b_call8_v0 : Ref sig .tc := ⟨.hbm, 82, rfl⟩
abbrev main_while0b_v55 : Ref sig .tc := ⟨.hbm, 83, rfl⟩
abbrev main_while0b_call9_c : Ref sig .tc := ⟨.hbm, 84, rfl⟩
abbrev main_while0b_call9_c_0 : Ref sig .tc := ⟨.hbm, 85, rfl⟩
abbrev main_while0b_call9_c_1 : Ref sig .tc := ⟨.hbm, 86, rfl⟩
abbrev main_while0b_call9_v0 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_v62 : Ref sig .tc := ⟨.hbm, 94, rfl⟩
abbrev main_while0b_v63 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_call10_v0 : Ref sig .tc := ⟨.hbm, 104, rfl⟩
abbrev main_while0b_call10_c : Ref sig .tc := ⟨.hbm, 105, rfl⟩
abbrev main_while0b_call10_c_0 : Ref sig .tc := ⟨.hbm, 106, rfl⟩
abbrev main_while0b_call10_c_1 : Ref sig .tc := ⟨.hbm, 107, rfl⟩
abbrev main_while0b_call10_c_2 : Ref sig .tc := ⟨.hbm, 108, rfl⟩
abbrev main_while0b_v72 : Ref sig .tc := ⟨.hbm, 109, rfl⟩
abbrev main_while0b_c_8 : Ref sig .tc := ⟨.hbm, 110, rfl⟩
abbrev main_while0b_v73 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩

abbrev nD : Nat := 1
abbrev τ : Topo := Topo.v7x

variable {F : FTy → Type} [FloatOps F]

abbrev main_while0_count : Scf.Loop 32 := ⟨0#32, 2048#32, 1#32⟩
-- ==== Inproj.lean ====
abbrev S16384x2048 : Shape := ⟨2, ![16384, 2048]⟩
abbrev S8x8x2048 : Shape := ⟨3, ![8, 8, 2048]⟩
abbrev S1x2048 : Shape := ⟨2, ![1, 2048]⟩
abbrev S2048x12288 : Shape := ⟨2, ![2048, 12288]⟩
abbrev S16384x12288 : Shape := ⟨2, ![16384, 12288]⟩
abbrev S1024x2048 : Shape := ⟨2, ![1024, 2048]⟩
abbrev S1x8x2048 : Shape := ⟨3, ![1, 8, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1x1x2048 : Shape := ⟨3, ![1, 1, 2048]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S8x8x2048, .f32⟩
  | .hbm, ⟨2, _⟩ => ⟨S1x2048, .f32⟩
  | .hbm, ⟨3, _⟩ => ⟨S2048x12288, .bf16⟩
  | .hbm, ⟨4, _⟩ => ⟨S16384x12288, .f32⟩
  | .local _ .vmem, ⟨0, _⟩ => ⟨S1024x2048, .f32⟩
  | .local _ .vmem, ⟨1, _⟩ => ⟨S1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S16384x2048 : Shape := ⟨2, ![16384, 2048]⟩
abbrev S8x8x2048 : Shape := ⟨3, ![8, 8, 2048]⟩
abbrev S1x2048 : Shape := ⟨2, ![1, 2048]⟩
abbrev S2048x12288 : Shape := ⟨2, ![2048, 12288]⟩
abbrev S_ : Shape := ⟨0, ![]⟩
abbrev S16384 : Shape := ⟨1, ![16384]⟩
abbrev S16384x1 : Shape := ⟨2, ![16384, 1]⟩
abbrev S8x1x2048 : Shape := ⟨3, ![8, 1, 2048]⟩
abbrev S8x2048 : Shape := ⟨2, ![8, 2048]⟩
abbrev S8x2048x2048 : Shape := ⟨3, ![8, 2048, 2048]⟩
abbrev S16384x12288 : Shape := ⟨2, ![16384, 12288]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x8x2048, .f32⟩
  | .hbm, ⟨2, _⟩ => ⟨S1x2048, .f32⟩
  | .hbm, ⟨3, _⟩ => ⟨S2048x12288, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S8x1x2048, .f32⟩
  | .hbm, ⟨20, _⟩ => ⟨S8x2048, .f32⟩
  | .hbm, ⟨21, _⟩ => ⟨S8x2048x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S8x1x2048, .f32⟩
  | .hbm, ⟨28, _⟩ => ⟨S8x2048, .f32⟩
  | .hbm, ⟨29, _⟩ => ⟨S8x2048x2048, .f32⟩
  | .hbm, ⟨30, _⟩ => ⟨S16384x2048, .f32⟩
  | .hbm, ⟨31, _⟩ => ⟨S16384x2048, .f32⟩
  | .hbm, ⟨32, _⟩ => ⟨S2048x12288, .f32⟩
  | .hbm, ⟨33, _⟩ => ⟨S16384x12288, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Merge.lean ====
abbrev S16384x1024 : Shape := ⟨2, ![16384, 1024]⟩
abbrev S1024x2048 : Shape := ⟨2, ![1024, 2048]⟩
abbrev S16384x12288 : Shape := ⟨2, ![16384, 12288]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .bf16⟩
  | .hbm, ⟨3, _⟩ => ⟨S1024x2048, .bf16⟩
  | .hbm, ⟨4, _⟩ => ⟨S16384x12288, .f32⟩
  | .hbm, ⟨5, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x1024 : Shape := ⟨2, ![16384, 1024]⟩
abbrev S1024x2048 : Shape := ⟨2, ![1024, 2048]⟩
abbrev S16384x12288 : Shape := ⟨2, ![16384, 12288]⟩
abbrev S16384x2048 : Shape := ⟨2, ![16384, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .bf16⟩
  | .hbm, ⟨3, _⟩ => ⟨S1024x2048, .bf16⟩
  | .hbm, ⟨4, _⟩ => ⟨S16384x12288, .f32⟩
  | .hbm, ⟨5, _⟩ => ⟨S16384x1024, .f32⟩
  | .hbm, ⟨6, _⟩ => ⟨S1024x2048, .f32⟩
  | .hbm, ⟨7, _⟩ => ⟨S16384x2048, .f32⟩
  | .hbm, ⟨8, _⟩ => ⟨S16384x1024, .f32⟩
  | .hbm, ⟨9, _⟩ => ⟨S1024x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Outproj.lean ====
abbrev S16384x2048 : Shape := ⟨2, ![16384, 2048]⟩
abbrev S2048x2048 : Shape := ⟨2, ![2048, 2048]⟩
abbrev S8x8x2048 : Shape := ⟨3, ![8, 8, 2048]⟩
abbrev S512x2048 : Shape := ⟨2, ![512, 2048]⟩
abbrev S1x8x2048 : Shape := ⟨3, ![1, 8, 2048]⟩
abbrev S1x1x2048 : Shape := ⟨3, ![1, 1, 2048]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S8x8x2048, .f32⟩
  | .hbm, ⟨4, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x8x2048, .f32⟩
  | .local _ .vmem, ⟨6, _⟩ => ⟨S1x8x2048, .f32⟩
  | .local _ .vmem, ⟨7, _⟩ => ⟨S512x2048, .f32⟩
  | .local _ .vmem, ⟨8, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutprojRefIdeal.lean ====
abbrev S16384x2048 : Shape := ⟨2, ![16384, 2048]⟩
abbrev S2048x2048 : Shape := ⟨2, ![2048, 2048]⟩
abbrev S8x8x2048 : Shape := ⟨3, ![8, 8, 2048]⟩
abbrev S8x1x2048 : Shape := ⟨3, ![8, 1, 2048]⟩
abbrev S8x2048 : Shape := ⟨2, ![8, 2048]⟩
abbrev S8x2048x2048 : Shape := ⟨3, ![8, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S8x8x2048, .f32⟩
  | .hbm, ⟨4, _⟩ => ⟨S8x1x2048, .f32⟩
  | .hbm, ⟨5, _⟩ => ⟨S8x2048, .f32⟩
  | .hbm, ⟨6, _⟩ => ⟨S8x2048x2048, .f32⟩
  | .hbm, ⟨7, _⟩ => ⟨S16384x2048, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnOut.lean ====
abbrev S16384x5632 : Shape := ⟨2, ![16384, 5632]⟩
abbrev S5632x2048 : Shape := ⟨2, ![5632, 2048]⟩
abbrev S16384x2048 : Shape := ⟨2, ![16384, 2048]⟩
abbrev S8x8x2048 : Shape := ⟨3, ![8, 8, 2048]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S1x8x2048 : Shape := ⟨3, ![1, 8, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S8x8x2048, .f32⟩
  | .hbm, ⟨4, _⟩ => ⟨S1x2048, .f32⟩
  | .hbm, ⟨5, _⟩ => ⟨S16384x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnOutRefIdeal.lean ====
abbrev S16384x5632 : Shape := ⟨2, ![16384, 5632]⟩
abbrev S5632x2048 : Shape := ⟨2, ![5632, 2048]⟩
abbrev S16384x2048 : Shape := ⟨2, ![16384, 2048]⟩
abbrev S8x8x2048 : Shape := ⟨3, ![8, 8, 2048]⟩
abbrev S1x2048 : Shape := ⟨2, ![1, 2048]⟩
abbrev S8x1x2048 : Shape := ⟨3, ![8, 1, 2048]⟩
abbrev S8x2048 : Shape := ⟨2, ![8, 2048]⟩
abbrev S8x2048x2048 : Shape := ⟨3, ![8, 2048, 2048]⟩
abbrev S_ : Shape := ⟨0, ![]⟩
abbrev S16384 : Shape := ⟨1, ![16384]⟩
abbrev S16384x1 : Shape := ⟨2, ![16384, 1]⟩

abbrev nBuf : Space → Nat
  | .hbm => 29
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S8x8x2048, .f32⟩
  | .hbm, ⟨4, _⟩ => ⟨S1x2048, .f32⟩
  | .hbm, ⟨5, _⟩ => ⟨S8x1x2048, .f32⟩
  | .hbm, ⟨6, _⟩ => ⟨S8x2048, .f32⟩
  | .hbm, ⟨7, _⟩ => ⟨S8x2048x2048, .f32⟩
  | .hbm, ⟨8, _⟩ => ⟨S16384x2048, .f32⟩
  | .hbm, ⟨9, _⟩ => ⟨S16384x5632, .f32⟩
  | .hbm, ⟨10, _⟩ => ⟨S5632x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== FfnAct.lean ====
abbrev S16384x2048 : Shape := ⟨2, ![16384, 2048]⟩
abbrev S8x8x2048 : Shape := ⟨3, ![8, 8, 2048]⟩
abbrev S1x2048 : Shape := ⟨2, ![1, 2048]⟩
abbrev S2048x11264 : Shape := ⟨2, ![2048, 11264]⟩
abbrev S9x5632 : Shape := ⟨2, ![9, 5632]⟩
abbrev S16384x5632 : Shape := ⟨2, ![16384, 5632]⟩
abbrev S2048x2048 : Shape := ⟨2, ![2048, 2048]⟩
abbrev S1x8x2048 : Shape := ⟨3, ![1, 8, 2048]⟩
abbrev S2048x256 : Shape := ⟨2, ![2048, 256]⟩
abbrev S9x256 : Shape := ⟨2, ![9, 256]⟩
abbrev S2x2048x256 : Shape := ⟨3, ![2, 2048, 256]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩
abbrev S1x2048x256 : Shape := ⟨3, ![1, 2048, 256]⟩
abbrev S1x256 : Shape := ⟨2, ![1, 256]⟩
abbrev S64x256 : Shape := ⟨2, ![64, 256]⟩
abbrev S1984x256 : Shape := ⟨2, ![1984, 256]⟩

abbrev nBuf : Space → Nat
  | .hbm => 6
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S8x8x2048, .f32⟩
  | .hbm, ⟨2, _⟩ => ⟨S1x2048, .f32⟩
  | .hbm, ⟨3, _⟩ => ⟨S2048x11264, .f32⟩
  | .hbm, ⟨4, _⟩ => ⟨S9x5632, .f32⟩
  | .hbm, ⟨5, _⟩ => ⟨S16384x5632, .bf16⟩
  | .local _ .vmem, ⟨0, _⟩ => ⟨S2048x2048, .f32⟩
  | .local _ .vmem, ⟨1, _⟩ => ⟨S1x8x2048, .f32⟩
  | .local _ .vmem, ⟨2, _⟩ => ⟨S1x8x2048, .f32⟩
  | .local _ .vmem, ⟨3, _⟩ => ⟨S1x2048, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S9x256, .f32⟩
  | .local _ .vmem, ⟨9, _⟩ => ⟨S9x256, .f32⟩
  | .local _ .vmem, ⟨10, _⟩ => ⟨S2048x256, .bf16⟩
  | .local _ .vmem, ⟨11, _⟩ => ⟨S2048x256, .bf16⟩
  | .local _ .vmem, ⟨12, _⟩ => ⟨S2048x2048, .bf16⟩
  | .local _ .vmem, ⟨13, _⟩ => ⟨S2x2048x256, .f32⟩
  | .local _ .vmem, ⟨14, _⟩ => ⟨S2x2048x256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 23], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_52 : BitVec 32 := 0#32
  let c8_i32 : BitVec 32 := 8#32
  let v118 : BitVec 32 := Scalar.addi c0_i32_52 c8_i32
  let c1_i32_53 : BitVec 32 := 1#32
  ⟨c0_i32_52, v118, c1_i32_53⟩
def k0_mult1 (k0_t1 : Fin k0_t1_loop.trips) : BitVec 32 :=
  let c0_i32_52 : BitVec 32 := 0#32
  let c1_i32_53 : BitVec 32 := 1#32
  let arg12 : BitVec 32 := Scf.iv c0_i32_52 c1_i32_53 k0_t1
  let c256_i32 : BitVec 32 := 256#32
  let v127 : BitVec 32 := Scalar.muli arg12 c256_i32
  v127
def k0_off1 (k0_t1 : Fin k0_t1_loop.trips) : Fin 2 → Nat :=
  let c0_i32_52 : BitVec 32 := 0#32
  let c1_i32_53 : BitVec 32 := 1#32
  let arg12 : BitVec 32 := Scf.iv c0_i32_52 c1_i32_53 k0_t1
  let c256_i32 : BitVec 32 := 256#32
  let v127 : BitVec 32 := Scalar.muli arg12 c256_i32
  let v128 : BitVec 32 := v127
  let v129 : Index := Scalar.indexCast v128
  let c0_63 : Index := 0#32
  ![v129.toNat, 0]
def k0_off2 (i : grid0.Coords) : Fin 3 → Nat :=
  let c1_i32_5 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13 : BitVec 32 := Scalar.subi c1_i32_5 v12
  let v14 : Index := Scalar.indexCast v13
  let c0 : Index := 0#32
  let c0_6 : Index := 0#32
  ![v14.toNat, 0, 0]
def k0_off3 (i : grid0.Coords) : Fin 3 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v103 : Index := Scalar.indexCast v12
  let c0_39 : Index := 0#32
  let c0_40 : Index := 0#32
  ![v103.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c22_i32 : BitVec 32 := 22#32
  let v1 : BitVec 32 := Scalar.addi c22_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S9x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnActRefIdeal.lean ====
abbrev S16384x2048 : Shape := ⟨2, ![16384, 2048]⟩
abbrev S8x8x2048 : Shape := ⟨3, ![8, 8, 2048]⟩
abbrev S1x2048 : Shape := ⟨2, ![1, 2048]⟩
abbrev S2048x11264 : Shape := ⟨2, ![2048, 11264]⟩
abbrev S9x5632 : Shape := ⟨2, ![9, 5632]⟩
abbrev S_ : Shape := ⟨0, ![]⟩
abbrev S16384 : Shape := ⟨1, ![16384]⟩
abbrev S16384x1 : Shape := ⟨2, ![16384, 1]⟩
abbrev S8x1x2048 : Shape := ⟨3, ![8, 1, 2048]⟩
abbrev S8x2048 : Shape := ⟨2, ![8, 2048]⟩
abbrev S8x2048x2048 : Shape := ⟨3, ![8, 2048, 2048]⟩
abbrev S16384x11264 : Shape := ⟨2, ![16384, 11264]⟩
abbrev S16384x5632 : Shape := ⟨2, ![16384, 5632]⟩
abbrev S8x32x64x5632 : Shape := ⟨4, ![8, 32, 64, 5632]⟩
abbrev S8x34x66x5632 : Shape := ⟨4, ![8, 34, 66, 5632]⟩
abbrev S1x5632 : Shape := ⟨2, ![1, 5632]⟩
abbrev S5632 : Shape := ⟨1, ![5632]⟩
abbrev S1x1x1x5632 : Shape := ⟨4, ![1, 1, 1, 5632]⟩

abbrev nBuf : Space → Nat
  | .hbm => 119
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x8x2048, .f32⟩
  | .hbm, ⟨2, _⟩ => ⟨S1x2048, .f32⟩
  | .hbm, ⟨3, _⟩ => ⟨S2048x11264, .f32⟩
  | .hbm, ⟨4, _⟩ => ⟨S9x5632, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S8x1x2048, .f32⟩
  | .hbm, ⟨21, _⟩ => ⟨S8x2048, .f32⟩
  | .hbm, ⟨22, _⟩ => ⟨S8x2048x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S8x1x2048, .f32⟩
  | .hbm, ⟨29, _⟩ => ⟨S8x2048, .f32⟩
  | .hbm, ⟨30, _⟩ => ⟨S8x2048x2048, .f32⟩
  | .hbm, ⟨31, _⟩ => ⟨S16384x2048, .f32⟩
  | .hbm, ⟨32, _⟩ => ⟨S16384x2048, .f32⟩
  | .hbm, ⟨33, _⟩ => ⟨S16384x11264, .f32⟩
  | .hbm, ⟨34, _⟩ => ⟨S16384x5632, .f32⟩
  | .hbm, ⟨35, _⟩ => ⟨S8x32x64x5632, .f32⟩
  | .hbm, ⟨36, _⟩ => ⟨S_, .i32⟩
  | .hbm, ⟨37, _⟩ => ⟨S_, .f32⟩
  | .hbm, ⟨38, _⟩ => ⟨S8x34x66x5632, .f32⟩
  | .hbm, ⟨39, _⟩ => ⟨S8x32x64x5632, .f32⟩
  | .hbm, ⟨40, _⟩ => ⟨S1x5632, .f32⟩
  | .hbm, ⟨41, _⟩ => ⟨S5632, .f32⟩
  | .hbm, ⟨42, _⟩ => ⟨S1x1x1x5632, .f32⟩
  | .hbm, ⟨43, _⟩ => ⟨S8x32x64x5632, .f32⟩
  | .hbm, ⟨44, _⟩ => ⟨S8x32x64x5632, .f32⟩
  | .hbm, ⟨45, _⟩ => ⟨S_, .f32⟩
  | .hbm, ⟨46, _⟩ => ⟨S8x32x64x5632, .f32⟩
  | .hbm, ⟨47, _⟩ => ⟨S8x32x64x5632, .f32⟩
  | .hbm, ⟨48, _⟩ => ⟨S8x32x64x5632, .f32⟩
  | .hbm, ⟨49, _⟩ => ⟨S1x5632, .f32⟩
  | .hbm, ⟨50, _⟩ => ⟨S5632, .f32⟩
  | .hbm, ⟨51, _⟩ => ⟨S1x1x1x5632, .f32⟩
  | .hbm, ⟨52, _⟩ => ⟨S8x32x64x5632, .f32⟩
  | .hbm, ⟨53, _⟩ => ⟨S8x32x64x5632, .f32⟩
  | .hbm, ⟨54, _⟩ => ⟨S8x32x64x5632, .f32⟩
  | .hbm, ⟨55, _⟩ => ⟨S8x32x64x5632, .f32⟩
  | .hbm, ⟨56, _⟩ => ⟨S1x5632, .f32⟩
  | .hbm, ⟨57, _⟩ => ⟨S5632, .f32⟩
  | .hbm, ⟨58, _⟩ => ⟨S1x1x1x5632, .f32⟩
  | .hbm, ⟨59, _⟩ => ⟨S8x32x64x5632, .f32⟩
  | .hbm, ⟨60, _⟩ => ⟨S8x32x64x5632, .f32⟩
  | .hbm, ⟨61, _⟩ => ⟨S8x32x64x5632, .f32⟩
  | .hbm, ⟨62, _⟩ => ⟨S8x32x64x5632, .f32⟩
  | .hbm, ⟨63, _⟩ => ⟨S1x5632, .f32⟩
  | .hbm, ⟨64, _⟩ => ⟨S5632, .f32⟩
  | .hbm, ⟨65, _⟩ => ⟨S1x1x1x5632, .f32⟩
  | .hbm, ⟨66, _⟩ => ⟨S8x32x64x5632, .f32⟩
  | .hbm, ⟨67, _⟩ => ⟨S8x32x64x5632, .f32⟩
  | .hbm, ⟨68, _⟩ => ⟨S8x32x64x5632, .f32⟩
  | .hbm, ⟨69, _⟩ => ⟨S8x32x64x5632, .f32⟩
  | .hbm, ⟨70, _⟩ => ⟨S1x5632, .f32⟩
  | .hbm, ⟨71, _⟩ => ⟨S5632, .f32⟩
  | .hbm, ⟨72, _⟩ => ⟨S1x1x1x5632, .f32⟩
  | .hbm, ⟨73, _⟩ => ⟨S8x32x64x5632, .f32⟩
  | .hbm, ⟨74, _⟩ => ⟨S8x32x64x5632, .f32⟩
  | .hbm, ⟨75, _⟩ => ⟨S8x32x64x5632, .f32⟩
  | .hbm, ⟨76, _⟩ => ⟨S8x32x64x5632, .f32⟩
  | .hbm, ⟨77, _⟩ => ⟨S1x5632, .f32⟩
  | .hbm, ⟨78, _⟩ => ⟨S5632, .f32⟩
  | .hbm, ⟨79, _⟩ => ⟨S1x1x1x5632, .f32⟩
  | .hbm, ⟨80, _⟩ => ⟨S8x32x64x5632, .f32⟩
  | .hbm, ⟨81, _⟩ => ⟨S8x32x64x5632, .f32⟩
  | .hbm, ⟨82, _⟩ => ⟨S8x32x64x5632, .f32⟩
  | .hbm, ⟨83, _⟩ => ⟨S8x32x64x5632, .f32⟩
  | .hbm, ⟨84, _⟩ => ⟨S1x5632, .f32⟩
  | .hbm, ⟨85, _⟩ => ⟨S5632, .f32⟩
  | .hbm, ⟨86, _⟩ => ⟨S1x1x1x5632, .f32⟩
  | .hbm, ⟨87, _⟩ => ⟨S8x32x64x5632, .f32⟩
  | .hbm, ⟨88, _⟩ => ⟨S8x32x64x5632, .f32⟩
  | .hbm, ⟨89, _⟩ => ⟨S8x32x64x5632, .f32⟩
  | .hbm, ⟨90, _⟩ => ⟨S8x32x64x5632, .f32⟩
  | .hbm, ⟨91, _⟩ => ⟨S1x5632, .f32⟩
  | .hbm, ⟨92, _⟩ => ⟨S5632, .f32⟩
  | .hbm, ⟨93, _⟩ => ⟨S1x1x1x5632, .f32⟩
  | .hbm, ⟨94, _⟩ => ⟨S8x32x64x5632, .f32⟩
  | .hbm, ⟨95, _⟩ => ⟨S8x32x64x5632, .f32⟩
  | .hbm, ⟨96, _⟩ => ⟨S8x32x64x5632, .f32⟩
  | .hbm, ⟨97, _⟩ => ⟨S8x32x64x5632, .f32⟩
  | .hbm, ⟨98, _⟩ => ⟨S1x5632, .f32⟩
  | .hbm, ⟨99, _⟩ => ⟨S5632, .f32⟩
  | .hbm, ⟨100, _⟩ => ⟨S1x1x1x5632, .f32⟩
  | .hbm, ⟨101, _⟩ => ⟨S8x32x64x5632, .f32⟩
  | .hbm, ⟨102, _⟩ => ⟨S8x32x64x5632, .f32⟩
  | .hbm, ⟨103, _⟩ => ⟨S8x32x64x5632, .f32⟩
  | .hbm, ⟨104, _⟩ => ⟨S16384x5632, .f32⟩
  | .hbm, ⟨105, _⟩ => ⟨S_, .f32⟩
  | .hbm, ⟨106, _⟩ => ⟨S16384x5632, .f32⟩
  | .hbm, ⟨107, _⟩ => ⟨S16384x5632, .f32⟩
  | .hbm, ⟨108, _⟩ => ⟨S_, .f32⟩
  | .hbm, ⟨109, _⟩ => ⟨S16384x5632, .f32⟩
  | .hbm, ⟨110, _⟩ => ⟨S16384x5632, .f32⟩
  | .hbm, ⟨111, _⟩ => ⟨S16384x5632, .f32⟩
  | .hbm, ⟨112, _⟩ => ⟨S_, .f32⟩
  | .hbm, ⟨113, _⟩ => ⟨S16384x5632, .f32⟩
  | .hbm, ⟨114, _⟩ => ⟨S16384x5632, .f32⟩
  | .hbm, ⟨115, _⟩ => ⟨S16384x5632, .f32⟩
  | .hbm, ⟨116, _⟩ => ⟨S16384x5632, .f32⟩
  | .hbm, ⟨117, _⟩ => ⟨S16384x5632, .f32⟩
  | .hbm, ⟨118, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_4 : Ref sig .tc := ⟨.hbm, 105, rfl⟩
abbrev main_v93 : Ref sig .tc := ⟨.hbm, 106, rfl⟩
abbrev main_v94 : Ref sig .tc := ⟨.hbm, 107, rfl⟩
abbrev main_cst_5 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_cst_6 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩

abbrev nD : Nat := 1
abbrev τ : Topo := Topo.v7x

variable {F : FTy → Type} [FloatOps F]
-- ==== Modul.lean ====
abbrev S16x2048 : Shape := ⟨2, ![16, 2048]⟩
abbrev S2048x12288 : Shape := ⟨2, ![2048, 12288]⟩
abbrev S1x12288 : Shape := ⟨2, ![1, 12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x12288, .f32⟩
  | .hbm, ⟨2, _⟩ => ⟨S1x12288, .f32⟩
  | .hbm, ⟨3, _⟩ => ⟨S16x12288, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulRefIdeal.lean ====
abbrev S16x2048 : Shape := ⟨2, ![16, 2048]⟩
abbrev S2048x12288 : Shape := ⟨2, ![2048, 12288]⟩
abbrev S1x12288 : Shape := ⟨2, ![1, 12288]⟩
abbrev S_ : Shape := ⟨0, ![]⟩
abbrev S16x12288 : Shape := ⟨2, ![16, 12288]⟩

abbrev nBuf : Space → Nat
  | .hbm => 15
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x12288, .f32⟩
  | .hbm, ⟨2, _⟩ => ⟨S1x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x12288, .f32⟩
  | .hbm, ⟨13, _⟩ => ⟨S16x12288, .f32⟩
  | .hbm, ⟨14, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Gdread.lean ====
abbrev S16384x1024 : Shape := ⟨2, ![16384, 1024]⟩
abbrev S16384x12288 : Shape := ⟨2, ![16384, 12288]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x12288, .f32⟩
  | .hbm, ⟨3, _⟩ => ⟨S1x128, .f32⟩
  | .hbm, ⟨4, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdreadRefIdeal.lean ====
abbrev S16384x1024 : Shape := ⟨2, ![16384, 1024]⟩
abbrev S16384x12288 : Shape := ⟨2, ![16384, 12288]⟩
abbrev S1x128 : Shape := ⟨2, ![1, 128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x12288, .f32⟩
  | .hbm, ⟨3, _⟩ => ⟨S1x128, .f32⟩
  | .hbm, ⟨4, _⟩ => ⟨S16384x1024, .f32⟩
  | .hbm, ⟨5, _⟩ => ⟨S16384x8x128, .f32⟩
  | .hbm, ⟨6, _⟩ => ⟨S16384x8x128, .f32⟩
  | .hbm, ⟨7, _⟩ => ⟨S_, .f32⟩
  | .hbm, ⟨8, _⟩ => ⟨S16384x8, .f32⟩
  | .hbm, ⟨9, _⟩ => ⟨S16384x8x1, .f32⟩
  | .hbm, ⟨10, _⟩ => ⟨S_, .f32⟩
  | .hbm, ⟨11, _⟩ => ⟨S16384x8x1, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S16384x8x1, .f32⟩
  | .hbm, ⟨17, _⟩ => ⟨S16384x8x128, .f32⟩
  | .hbm, ⟨18, _⟩ => ⟨S16384x8x128, .f32⟩
  | .hbm, ⟨19, _⟩ => ⟨S1x1x128, .f32⟩
  | .hbm, ⟨20, _⟩ => ⟨S16384x8x128, .f32⟩
  | .hbm, ⟨21, _⟩ => ⟨S16384x8x128, .f32⟩
  | .hbm, ⟨22, _⟩ => ⟨S16384x1024, .f32⟩
  | .hbm, ⟨23, _⟩ => ⟨S16384x8x128, .f32⟩
  | .hbm, ⟨24, _⟩ => ⟨S16384x8x128, .f32⟩
  | .hbm, ⟨25, _⟩ => ⟨S16384x8x128, .f32⟩
  | .hbm, ⟨26, _⟩ => ⟨S_, .f32⟩
  | .hbm, ⟨27, _⟩ => ⟨S16384x8x128, .f32⟩
  | .hbm, ⟨28, _⟩ => ⟨S16384x8x128, .f32⟩
  | .hbm, ⟨29, _⟩ => ⟨S_, .f32⟩
  | .hbm, ⟨30, _⟩ => ⟨S16384x8x128, .f32⟩
  | .hbm, ⟨31, _⟩ => ⟨S16384x8x128, .f32⟩
  | .hbm, ⟨32, _⟩ => ⟨S16384x8x128, .f32⟩
  | .hbm, ⟨33, _⟩ => ⟨S16384x8x128, .f32⟩
  | .hbm, ⟨34, _⟩ => ⟨S16384x1024, .f32⟩
  | .hbm, ⟨35, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Proof.Inproj.lean ====
/- The first projection of the latent tokens: what the kernel's array holds is the reference's term. -/
module

public import proofs.«01_k».proof.Proof.Gen.InprojIdeal.Value
public import proofs.«01_k».proof.Proof.Gen.InprojRefIdeal.Run
public import Idealize.ShloMosaic.Lib.Pipeline.ValueKit

@[expose] public section

set_option maxRecDepth 16384

noncomputable section

namespace Cert.InprojIdeal.Value

open Cert.InprojIdeal Cert.InprojIdeal.Gen Idealize.ShloMosaic Idealize.ShloMosaic.TcCoe

variable (m : (ℓ : Loc nD τ sig) → Buf (Elt Ideal) ℓ)

/-- The reference's rows: normalised, scaled and shifted. -/
abbrev ROWS (X : FVec Ideal S16384x2048 .f32) (M : FVec Ideal S8x8x2048 .f32) (G : FVec Ideal S1x2048 .f32) : FVec Ideal S16384x2048 .f32 :=
  addf (mulf (mulf (mulf X (broadcastInDim Cert.InprojRefIdeal.S16384x2048 ![0, 1] Cert.InprojRefIdeal.Gen.bcast_S16384x1_S16384x2048_0_1
    (Host.rsqrt (addf (Host.divf (broadcastInDim Cert.InprojRefIdeal.S16384x1 ![0] Cert.InprojRefIdeal.Gen.bcast_S16384_S16384x1_0
      (Host.reduceAdd (mulf X X) (constant Cert.InprojRefIdeal.S_ .f32 0x00000000#32) Cert.InprojRefIdeal.Gen.reducesTo_S16384x2048_S16384_d1 Cert.InprojRefIdeal.Gen.h_S_))
      (broadcastInDim Cert.InprojRefIdeal.S16384x1 ![] Cert.InprojRefIdeal.Gen.bcast_S_S16384x1 (constant Cert.InprojRefIdeal.S_ .f32 0x45000000#32)))
      (broadcastInDim Cert.InprojRefIdeal.S16384x1 ![] Cert.InprojRefIdeal.Gen.bcast_S_S16384x1 (constant Cert.InprojRefIdeal.S_ .f32 0x358637BD#32))))))
    (broadcastInDim Cert.InprojRefIdeal.S16384x2048 ![0, 1] Cert.InprojRefIdeal.Gen.bcast_S1x2048_S16384x2048_0_1 G))
    (addf (broadcastInDim Cert.InprojRefIdeal.S16384x2048 ![] Cert.InprojRefIdeal.Gen.bcast_S_S16384x2048 (constant Cert.InprojRefIdeal.S_ .f32 0x3F800000#32))
      (shapeCast _ (broadcastInDim Cert.InprojRefIdeal.S8x2048x2048 ![0, 2] Cert.InprojRefIdeal.Gen.bcast_S8x2048_S8x2048x2048_0_2
        (shapeCast _ (extractStridedSlice Cert.InprojRefIdeal.S8x1x2048 ![0, 1, 0] M Cert.InprojRefIdeal.Gen.slices_S8x8x2048_S8x1x2048_0_1_0)
          Cert.InprojRefIdeal.Gen.shapeCasts_S8x1x2048_S8x2048)) Cert.InprojRefIdeal.Gen.shapeCasts_S8x2048x2048_S16384x2048)))
    (shapeCast _ (broadcastInDim Cert.InprojRefIdeal.S8x2048x2048 ![0, 2] Cert.InprojRefIdeal.Gen.bcast_S8x2048_S8x2048x2048_0_2
      (shapeCast _ (extractStridedSlice Cert.InprojRefIdeal.S8x1x2048 ![0, 0, 0] M Cert.InprojRefIdeal.Gen.slices_S8x8x2048_S8x1x2048_0_0_0)
        Cert.InprojRefIdeal.Gen.shapeCasts_S8x1x2048_S8x2048)) Cert.InprojRefIdeal.Gen.shapeCasts_S8x2048x2048_S16384x2048)

/-- The reference's result of its arguments. -/
abbrev REF (X : FVec Ideal S16384x2048 .f32) (M : FVec Ideal S8x8x2048 .f32) (G : FVec Ideal S1x2048 .f32) (W : FVec Ideal S2048x12288 .bf16) :
    FVec Ideal S16384x12288 .f32 :=
  Host.dotGeneral Cert.InprojRefIdeal.dot_S16384x2048_S2048x12288_S16384x12288_1_0_0_1_n_n none (ROWS X M G)
    (extf .f32 W Cert.InprojRefIdeal.Gen.bitsLt_bf16_f32)

/-- The blocks of every window at a point. -/
theorem idx : ∀ t : Fin cfg0.N, win0_0.index t = ![t.val / 12, 0] ∧ win0_1.index t = ![t.val / 24, 0, 0] ∧ win0_2.index t = ![0, 0]
    ∧ win0_3.index t = ![0, t.val % 12] ∧ win0_4.index t = ![t.val / 12, t.val % 12] ∧ t.val / 12 < 16 :=
  (by decide +kernel : ∀ t : Fin grid0.N, _)

variable {m} in
/-- The row that a point's scratch row stands for. -/
def row (n : ℕ) (hn : n < cfg0.N) (i : Fin 1024) : Fin 16384 :=
  ⟨n / 12 * 1024 + i.val, by have := (idx ⟨n, hn⟩).2.2.2.2.2; have := i.isLt; dsimp only at *; omega⟩

/-- The rows that the first point of a run leaves in the scratch. -/
theorem rows_first (c : Dev nD) (t : Fin cfg0.N) (h0 : t.val % 12 = 0) (i : Fin 1024) (x : Fin 2048) :
    (outsAt0 m c t.val t.isLt).2 (ix2 i x)
      = ROWS (m ((c : Thread nD τ).loc main_arg0)) (m ((c : Thread nD τ).loc main_arg1)) (m ((c : Thread nD τ).loc main_arg2)) (ix2 (row t.val t.isLt i) x) := by
  rw [outsAt0_A m c t h0]
  have e : (row t.val t.isLt i).val = t.val / 12 * 1024 + i.val := rfl
  generalize row t.val t.isLt i = r at e ⊢
  frame_out
  pointwise [k0_pay1, ROWS]
  blk_point [iblk, V, idx t]

/-- What the scratch holds after any point. -/
theorem rows_all (c : Dev nD) : ∀ (n : ℕ) (hn : n < cfg0.N) (i : Fin 1024) (x : Fin 2048),
    (outsAt0 m c n hn).2 (ix2 i x)
      = ROWS (m ((c : Thread nD τ).loc main_arg0)) (m ((c : Thread nD τ).loc main_arg1)) (m ((c : Thread nD τ).loc main_arg2)) (ix2 (row n hn i) x)
  | 0, hn, i, x => rows_first m c ⟨0, hn⟩ rfl i x
  | n + 1, hn, i, x => by
    by_cases h0 : (n + 1) % 12 = 0
    · exact rows_first m c ⟨n + 1, hn⟩ h0 i x
    · rw [outsAt0_B m c ⟨n + 1, hn⟩ h0]
      have e : row (n + 1) hn i = row n (by omega) i := Fin.ext (by show (n + 1) / 12 * 1024 + i.val = n / 12 * 1024 + i.val; omega)
      rw [e, ← rows_all c n (by omega) i x]
      rfl

/-- A product of a point's rows with its columns. -/
theorem part (c : Dev nD) (t : Fin cfg0.N) (s : FVec Ideal S1024x2048 .bf16)
    (hs : ∀ i x, s (ix2 i x) = ROWS (m ((c : Thread nD τ).loc main_arg0)) (m ((c : Thread nD τ).loc main_arg1)) (m ((c : Thread nD τ).loc main_arg2)) (ix2 (row t.val t.isLt i) x))
    (y : S1024x1024.Idx) :
    k0_pay2 s (iblk m c 3 t) y = REF (m ((c : Thread nD τ).loc main_arg0)) (m ((c : Thread nD τ).loc main_arg1)) (m ((c : Thread nD τ).loc main_arg2))
      (m ((c : Thread nD τ).loc main_arg3)) (((cfg0.win 4).blk t).view.emb y) := by
  unfold REF
  generalize ROWS (m ((c : Thread nD τ).loc main_arg0)) (m ((c : Thread nD τ).loc main_arg1)) (m ((c : Thread nD τ).loc main_arg2)) = H at hs ⊢
  pointwise [k0_pay2, hs]
  have e : ∀ i, (row t.val t.isLt i).val = t.val / 12 * 1024 + i.val := fun _ => rfl
  have e0 := e (y 0)
  generalize row t.val t.isLt (y 0) = r at e0 ⊢
  blk_point [iblk, V, idx t]

/-- The array after the run. -/
theorem final (c : Dev nD) : (dats m 0 c).arrAt 4 cfg0.N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  by_cases h0 : t.val % 12 = 0
  · have hs := rows_first m c t h0
    rw [outsAt0_A m c t h0] at hs ⊢
    frame_out
    exact part m c t _ (by intro i x; rw [← hs i x]; frame_out) y
  · have hs : ∀ i x, (outsAt0 m c t.val t.isLt).2 (ix2 i x) = _ := rows_all m c t.val t.isLt
    rw [outsAt0_B m c t h0] at hs ⊢
    frame_out
    exact part m c t _ (by intro i x; rw [← hs i x]; exact congrFun (Memref.IsWhole.read_unread (Memref.isWhole_whole _) _) _) y

end Cert.InprojIdeal.Value

end
-- ==== Proof.Merge.lean ====
/- Both branches projected and merged by their gates: what the kernel's array holds is the reference's term. -/
module

public import proofs.«01_k».proof.Proof.Gen.MergeIdeal.Value
public import proofs.«01_k».proof.Proof.Gen.MergeRefIdeal.Run
public import Idealize.ShloMosaic.Lib.Pipeline.ValueKit

@[expose] public section

set_option maxRecDepth 16384

noncomputable section

namespace Cert.MergeIdeal.Value

open Cert.MergeIdeal Cert.MergeIdeal.Gen Idealize.ShloMosaic Idealize.ShloMosaic.TcCoe

variable (m : (ℓ : Loc nD τ sig) → Buf (Elt Ideal) ℓ)

/-- The host's logistic function. -/
abbrev sigm (x : FVec Ideal S16384x2048 .f32) : FVec Ideal S16384x2048 .f32 :=
  Host.divf (broadcastInDim Cert.MergeRefIdeal.S16384x2048 ![] Cert.MergeRefIdeal.Gen.bcast_S_S16384x2048 (constant Cert.MergeRefIdeal.S_ .f32 0x3F800000#32))
    (addf (broadcastInDim Cert.MergeRefIdeal.S16384x2048 ![] Cert.MergeRefIdeal.Gen.bcast_S_S16384x2048 (constant Cert.MergeRefIdeal.S_ .f32 0x3F800000#32))
      (Host.exp (Host.negf x)))

/-- The reference's result of its arguments. -/
abbrev REF (A B : FVec Ideal S16384x1024 .bf16) (U W : FVec Ideal S1024x2048 .bf16) (P : FVec Ideal S16384x12288 .f32) : FVec Ideal S16384x2048 .bf16 :=
  truncf .bf16 (addf
    (mulf (sigm (extractStridedSlice Cert.MergeRefIdeal.S16384x2048 ![0, 8192] P Cert.MergeRefIdeal.Gen.slices_S16384x12288_S16384x2048_0_8192))
      (Host.dotGeneral Cert.MergeRefIdeal.dot_S16384x1024_S1024x2048_S16384x2048_1_0_0_1_n_n none
        (extf .f32 A Cert.MergeRefIdeal.Gen.bitsLt_bf16_f32) (extf .f32 U Cert.MergeRefIdeal.Gen.bitsLt_bf16_f32)))
    (mulf (sigm (extractStridedSlice Cert.MergeRefIdeal.S16384x2048 ![0, 10240] P Cert.MergeRefIdeal.Gen.slices_S16384x12288_S16384x2048_0_10240))
      (Host.dotGeneral Cert.MergeRefIdeal.dot_S16384x1024_S1024x2048_S16384x2048_1_0_0_1_n_n none
        (extf .f32 B Cert.MergeRefIdeal.Gen.bitsLt_bf16_f32) (extf .f32 W Cert.MergeRefIdeal.Gen.bitsLt_bf16_f32))))
    Cert.MergeRefIdeal.Gen.bitsLt_bf16_f32

/-- The blocks of every window at a point. -/
theorem idx : ∀ t : Fin cfg0.N, win0_0.index t = ![t.val, 0] ∧ win0_1.index t = ![t.val, 0] ∧ win0_2.index t = ![0, 0]
    ∧ win0_3.index t = ![0, 0] ∧ win0_4.index t = ![t.val, 4] ∧ win0_5.index t = ![t.val, 5] ∧ win0_6.index t = ![t.val, 0] ∧ t.val < 32 :=
  (by decide +kernel : ∀ t : Fin grid0.N, _)

/-- A point stores the reference's values at its block. -/
theorem point (c : Dev nD) (t : Fin cfg0.N) (y : S512x2048.Idx) :
    k0_pay1 (iblk m c 0 t) (iblk m c 2 t) (iblk m c 1 t) (iblk m c 3 t) (iblk m c 4 t) (iblk m c 5 t) y
      = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  pointwise [k0_pay1, REF, Ideal.logistic]
  blk_point [iblk, V, idx t]

/-- The array after the run. -/
theorem final (c : Dev nD) : (dats m 0 c).arrAt 6 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point m c t y

end Cert.MergeIdeal.Value

end
-- ==== Proof.Outproj.lean ====
/- The output projection with its residual: what the kernel's array holds is the reference's term. -/
module

public import proofs.«01_k».proof.Proof.Gen.OutprojIdeal.Value
public import proofs.«01_k».proof.Proof.Gen.OutprojRefIdeal.Run
public import Idealize.ShloMosaic.Lib.Pipeline.ValueKit

@[expose] public section

set_option maxRecDepth 16384

noncomputable section

namespace Cert.OutprojIdeal.Value

open Cert.OutprojIdeal Cert.OutprojIdeal.Gen Idealize.ShloMosaic Idealize.ShloMosaic.TcCoe

variable (m : (ℓ : Loc nD τ sig) → Buf (Elt Ideal) ℓ)

/-- The reference's result of its arguments. -/
abbrev REF (A : FVec Ideal S16384x2048 .bf16) (W : FVec Ideal S2048x2048 .bf16) (X : FVec Ideal S16384x2048 .f32) (M : FVec Ideal S8x8x2048 .f32) :
    FVec Ideal S16384x2048 .f32 :=
  addf X (mulf (shapeCast _ (broadcastInDim Cert.OutprojRefIdeal.S8x2048x2048 ![0, 2] Cert.OutprojRefIdeal.Gen.bcast_S8x2048_S8x2048x2048_0_2
    (shapeCast _ (extractStridedSlice Cert.OutprojRefIdeal.S8x1x2048 ![0, 2, 0] M Cert.OutprojRefIdeal.Gen.slices_S8x8x2048_S8x1x2048_0_2_0)
      Cert.OutprojRefIdeal.Gen.shapeCasts_S8x1x2048_S8x2048)) Cert.OutprojRefIdeal.Gen.shapeCasts_S8x2048x2048_S16384x2048)
    (Host.dotGeneral Cert.OutprojRefIdeal.dot_S16384x2048_S2048x2048_S16384x2048_1_0_0_1_n_n none
      (extf .f32 A Cert.OutprojRefIdeal.Gen.bitsLt_bf16_f32) (extf .f32 W Cert.OutprojRefIdeal.Gen.bitsLt_bf16_f32)))

/-- The blocks of every window at a point. -/
theorem idx : ∀ t : Fin cfg0.N, win0_0.index t = ![t.val, 0] ∧ win0_1.index t = ![0, 0] ∧ win0_2.index t = ![t.val, 0]
    ∧ win0_3.index t = ![t.val / 4, 0, 0] ∧ win0_4.index t = ![t.val, 0] ∧ t.val < 32 :=
  (by decide +kernel : ∀ t : Fin grid0.N, _)

/-- A point stores the reference's values at its block. -/
theorem point (c : Dev nD) (t : Fin cfg0.N) (y : S512x2048.Idx) :
    k0_pay1 (iblk m c 0 t) (iblk m c 1 t) (iblk m c 2 t) (View.ld (iblk m c 3 t) r0_2) y
      = REF (m ((c : Thread nD τ).loc main_arg0)) (m ((c : Thread nD τ).loc main_arg1)) (m ((c : Thread nD τ).loc main_arg2))
        (m ((c : Thread nD τ).loc main_arg3)) (((cfg0.win 4).blk t).view.emb y) := by
  pointwise [k0_pay1, REF]
  blk_point [iblk, V, idx t]

/-- The array after the run. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  frame_out
  exact point m c t y

end Cert.OutprojIdeal.Value

end
-- ==== Proof.FfnOut.lean ====
/- The second product of the feed-forward part, its residual and the last norm: what the kernel's array holds is the reference's term. -/
module

public import proofs.«01_k».proof.Proof.Gen.FfnOutIdeal.Value
public import proofs.«01_k».proof.Proof.Gen.FfnOutRefIdeal.Run
public import Idealize.ShloMosaic.Lib.Pipeline.ValueKit

@[expose] public section

set_option maxRecDepth 16384

noncomputable section

namespace Cert.FfnOutIdeal.Value

open Cert.FfnOutIdeal Cert.FfnOutIdeal.Gen Idealize.ShloMosaic Idealize.ShloMosaic.TcCoe

variable (m : (ℓ : Loc nD τ sig) → Buf (Elt Ideal) ℓ)

/-- The reference's product. -/
abbrev DOT (A : FVec Ideal S16384x5632 .bf16) (W : FVec Ideal S5632x2048 .bf16) : FVec Ideal S16384x2048 .f32 :=
  Host.dotGeneral Cert.FfnOutRefIdeal.dot_S16384x5632_S5632x2048_S16384x2048_1_0_0_1_n_n none
    (extf .f32 A Cert.FfnOutRefIdeal.Gen.bitsLt_bf16_f32) (extf .f32 W Cert.FfnOutRefIdeal.Gen.bitsLt_bf16_f32)

/-- The reference's residual, gated by the sequence. -/
abbrev SUM (D X : FVec Ideal S16384x2048 .f32) (M : FVec Ideal S8x8x2048 .f32) : FVec Ideal S16384x2048 .f32 :=
  addf X (mulf (shapeCast _ (broadcastInDim Cert.FfnOutRefIdeal.S8x2048x2048 ![0, 2] Cert.FfnOutRefIdeal.Gen.bcast_S8x2048_S8x2048x2048_0_2
    (shapeCast _ (extractStridedSlice Cert.FfnOutRefIdeal.S8x1x2048 ![0, 5, 0] M Cert.FfnOutRefIdeal.Gen.slices_S8x8x2048_S8x1x2048_0_5_0)
      Cert.FfnOutRefIdeal.Gen.shapeCasts_S8x1x2048_S8x2048)) Cert.FfnOutRefIdeal.Gen.shapeCasts_S8x2048x2048_S16384x2048) D)

/-- The reference's norm. -/
abbrev NORM (Y : FVec Ideal S16384x2048 .f32) (G : FVec Ideal S1x2048 .f32) : FVec Ideal S16384x2048 .f32 :=
  mulf (mulf Y (broadcastInDim Cert.FfnOutRefIdeal.S16384x2048 ![0, 1] Cert.FfnOutRefIdeal.Gen.bcast_S16384x1_S16384x2048_0_1
    (Host.rsqrt (addf (Host.divf (broadcastInDim Cert.FfnOutRefIdeal.S16384x1 ![0] Cert.FfnOutRefIdeal.Gen.bcast_S16384_S16384x1_0
      (Host.reduceAdd (mulf Y Y) (constant Cert.FfnOutRefIdeal.S_ .f32 0x00000000#32) Cert.FfnOutRefIdeal.Gen.reducesTo_S16384x2048_S16384_d1 Cert.FfnOutRefIdeal.Gen.h_S_))
      (broadcastInDim Cert.FfnOutRefIdeal.S16384x1 ![] Cert.FfnOutRefIdeal.Gen.bcast_S_S16384x1 (constant Cert.FfnOutRefIdeal.S_ .f32 0x45000000#32)))
      (broadcastInDim Cert.FfnOutRefIdeal.S16384x1 ![] Cert.FfnOutRefIdeal.Gen.bcast_S_S16384x1 (constant Cert.FfnOutRefIdeal.S_ .f32 0x358637BD#32))))))
    (broadcastInDim Cert.FfnOutRefIdeal.S16384x2048 ![0, 1] Cert.FfnOutRefIdeal.Gen.bcast_S1x2048_S16384x2048_0_1 G)

/-- The reference's result of its arguments. -/
abbrev REF (A : FVec Ideal S16384x5632 .bf16) (W : FVec Ideal S5632x2048 .bf16) (X : FVec Ideal S16384x2048 .f32) (M : FVec Ideal S8x8x2048 .f32)
    (G : FVec Ideal S1x2048 .f32) : FVec Ideal S16384x2048 .f32 := NORM (SUM (DOT A W) X M) G

/-- The blocks of every window at a point. -/
theorem idx : ∀ t : Fin cfg0.N, win0_0.index t = ![t.val / 4, t.val % 4] ∧ win0_1.index t = ![t.val % 4, 0] ∧ win0_2.index t = ![t.val / 4, 0]
    ∧ win0_3.index t = ![t.val / 16, 0, 0] ∧ win0_4.index t = ![0, 0] ∧ win0_5.index t = ![t.val / 4, 0] ∧ t.val / 4 < 32 :=
  (by decide +kernel : ∀ t : Fin grid0.N, _)

/-- The row that a point's scratch row stands for. -/
def row (n : ℕ) (hn : n < cfg0.N) (i : Fin 512) : Fin 16384 :=
  ⟨n / 4 * 512 + i.val, by have := (idx ⟨n, hn⟩).2.2.2.2.2.2; have := i.isLt; dsimp only at *; omega⟩

/-- One term of a product's sum, by its place; nothing past the last. -/
def term (A : FVec Ideal S16384x5632 .bf16) (W : FVec Ideal S5632x2048 .bf16) (r : Fin 16384) (x : Fin 2048) (l : ℕ) : EReal :=
  if h : l < 5632 then A (ix2 r ⟨l, h⟩) * W (ix2 ⟨l, h⟩ x) else 0

/-- The product is the sum of its terms. -/
theorem dot_eq (A : FVec Ideal S16384x5632 .bf16) (W : FVec Ideal S5632x2048 .bf16) (r : Fin 16384) (x : Fin 2048) :
    DOT A W (ix2 r x) = ∑ l ∈ Finset.range 5632, term A W r x l := by
  rw [Finset.sum_range]
  have e : ∀ l : Fin 5632, term A W r x l.val = A (ix2 r l) * W (ix2 l x) := fun l => dif_pos l.isLt
  simp only [e]
  pointwise [DOT]

/-- A point adds its terms. -/
theorem step (c : Dev nD) (t : Fin cfg0.N) (acc : FVec Ideal S512x2048 .f32) (i : Fin 512) (x : Fin 2048) :
    k0_pay2 acc (iblk m c 0 t) (iblk m c 1 t) (ix2 i x)
      = acc (ix2 i x) + ∑ k ∈ Finset.range 1408,
          term (m ((c : Thread nD τ).loc main_arg0)) (m ((c : Thread nD τ).loc main_arg1)) (row t.val t.isLt i) x (t.val % 4 * 1408 + k) := by
  rw [Finset.sum_range]
  have e : ∀ k : Fin 1408, term (m ((c : Thread nD τ).loc main_arg0)) (m ((c : Thread nD τ).loc main_arg1)) (row t.val t.isLt i) x (t.val % 4 * 1408 + k.val)
      = (show FVec Ideal S16384x5632 .bf16 from m ((c : Thread nD τ).loc main_arg0)) (ix2 (row t.val t.isLt i) ⟨t.val % 4 * 1408 + k.val, by have := k.isLt; omega⟩)
        * (show FVec Ideal S5632x2048 .bf16 from m ((c : Thread nD τ).loc main_arg1)) (ix2 ⟨t.val % 4 * 1408 + k.val, by have := k.isLt; omega⟩ x) :=
    fun k => dif_pos _
  simp only [e]
  have e0 : (row t.val t.isLt i).val = t.val / 4 * 512 + i.val := rfl
  generalize row t.val t.isLt i = r at e0 ⊢
  pointwise [k0_pay2]
  blk_point [iblk, V, idx t]

/-- Sums of a block more. -/
theorem more (f : ℕ → EReal) (k : ℕ) :
    ∑ l ∈ Finset.range (k * 1408), f l + ∑ l ∈ Finset.range 1408, f (k * 1408 + l) = ∑ l ∈ Finset.range ((k + 1) * 1408), f l := by
  rw [Nat.succ_mul, Finset.sum_range_add]

/-- What the scratch holds after any point: the terms so far. -/
theorem sums (c : Dev nD) : ∀ (n : ℕ) (hn : n < cfg0.N) (i : Fin 512) (x : Fin 2048),
    (outsAt0 m c n hn).2 (ix2 i x) = ∑ l ∈ Finset.range ((n % 4 + 1) * 1408),
      term (m ((c : Thread nD τ).loc main_arg0)) (m ((c : Thread nD τ).loc main_arg1)) (row n hn i) x l := by
  have first : ∀ (t : Fin cfg0.N) (h0 : t.val % 4 = 0) (i : Fin 512) (x : Fin 2048),
      (outsAt0 m c t.val t.isLt).2 (ix2 i x) = ∑ l ∈ Finset.range ((t.val % 4 + 1) * 1408),
        term (m ((c : Thread nD τ).loc main_arg0)) (m ((c : Thread nD τ).loc main_arg1)) (row t.val t.isLt i) x l := by
    intro t h0 i x
    rw [outsAt0_A m c t h0 (by omega)]
    frame_out
    rw [step, ← more, h0, Nat.zero_mul, Finset.range_zero, Finset.sum_empty]
    have z : k0_pay1 (F := Ideal) (ix2 i x) = 0 := by pointwise [k0_pay1]
    rw [z]
  intro n
  induction n with
  | zero => exact fun hn i x => first ⟨0, hn⟩ rfl i x
  | succ n ih =>
    intro hn i x
    by_cases h0 : (n + 1) % 4 = 0
    · exact first ⟨n + 1, hn⟩ h0 i x
    · have e : row (n + 1) hn i = row n (by omega) i := Fin.ext (by show (n + 1) / 4 * 512 + i.val = n / 4 * 512 + i.val; omega)
      have s : (outsAt0 m c (n + 1) hn).2 (ix2 i x) = k0_pay2 (outsAt0 m c n (by omega)).2 (iblk m c 0 ⟨n + 1, hn⟩) (iblk m c 1 ⟨n + 1, hn⟩) (ix2 i x) := by
        by_cases h1 : (n + 1) % 4 = 3
        · rw [outsAt0_C m c ⟨n + 1, hn⟩ h0 h1]
          frame_out
          exact congrArg (fun a => k0_pay2 a _ _ _) (Memref.IsWhole.read_unread (Memref.isWhole_whole _) _)
        · rw [outsAt0_B m c ⟨n + 1, hn⟩ h0 h1]
          frame_out
          exact congrArg (fun a => k0_pay2 a _ _ _) (Memref.IsWhole.read_unread (Memref.isWhole_whole _) _)
      rw [s, step, ih, e, show (n + 1) % 4 = n % 4 + 1 by omega]
      exact more _ _

/-- The norm of a point's rows. -/
theorem part (c : Dev nD) (t : Fin cfg0.N) (s : FVec Ideal S512x2048 .f32)
    (hs : ∀ i x, s (ix2 i x) = DOT (m ((c : Thread nD τ).loc main_arg0)) (m ((c : Thread nD τ).loc main_arg1)) (ix2 (row t.val t.isLt i) x))
    (y : S512x2048.Idx) :
    k0_pay3 (iblk m c 2 t) (View.ld (iblk m c 3 t) (Rect.unit (s := S1x8x2048) ![0, 5, 0] S1x1x2048.size inb_S1x8x2048_S1x1x2048_0_5_0)) s (iblk m c 4 t) y
      = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  unfold REF
  generalize DOT (m ((c : Thread nD τ).loc main_arg0)) (m ((c : Thread nD τ).loc main_arg1)) = D at hs ⊢
  obtain ⟨i, x, rfl⟩ : ∃ (i : Fin 512) (x : Fin 2048), y = ix2 i x := ⟨y 0, y 1, by funext a; fin_cases a <;> rfl⟩
  pointwise [k0_pay3, NORM, SUM, hs]
  have e0 : (row t.val t.isLt i).val = t.val / 4 * 512 + i.val := rfl
  generalize row t.val t.isLt i = r at e0 ⊢
  blk_point [iblk, V, idx t]

/-- The array after the run. -/
theorem final (c : Dev nD) : (dats m 0 c).arrAt 5 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  have h1 : t.val % 4 = 3 := (flush0_5 t).mp hf
  have hs : ∀ i x, (outsAt0 m c t.val t.isLt).2 (ix2 i x) = _ := fun i x => by
    rw [sums m c t.val t.isLt i x, h1, ← dot_eq]
  rw [after0_5]
  rw [outsAt0_C m c t (by omega) h1] at hs ⊢
  frame_out
  exact part m c t _ (by intro i x; rw [← hs i x]; frame_out) y

end Cert.FfnOutIdeal.Value

end
-- ==== Proof.ActConv.lean ====
/- The convolution of the feed-forward part's first kernel, entry by entry. -/
module

public import proofs.«01_k».proof.Proof.Gen.FfnActIdeal.Skeleton
public import proofs.«01_k».proof.Proof.Gen.FfnActRefIdeal.Run
public import Idealize.ShloMosaic.Lib.Pipeline.ValueKit

@[expose] public section

set_option maxRecDepth 16384

noncomputable section

namespace Cert.FfnActIdeal.Value

open Cert.FfnActIdeal Cert.FfnActIdeal.Gen Idealize.ShloMosaic Idealize.ShloMosaic.TcCoe

/-- The reference's rows: normalised, scaled and shifted. -/
abbrev ROWS (X : FVec Ideal S16384x2048 .f32) (M : FVec Ideal S8x8x2048 .f32) (G : FVec Ideal S1x2048 .f32) : FVec Ideal S16384x2048 .f32 :=
  addf (mulf (mulf (mulf X (broadcastInDim Cert.FfnActRefIdeal.S16384x2048 ![0, 1]
    Cert.FfnActRefIdeal.Gen.bcast_S16384x1_S16384x2048_0_1 (Host.rsqrt (addf (Host.divf (broadcastInDim
    Cert.FfnActRefIdeal.S16384x1 ![0] Cert.FfnActRefIdeal.Gen.bcast_S16384_S16384x1_0 (Host.reduceAdd (mulf X X) (constant
    Cert.FfnActRefIdeal.S_ .f32 0x00000000#32) Cert.FfnActRefIdeal.Gen.reducesTo_S16384x2048_S16384_d1
    Cert.FfnActRefIdeal.Gen.h_S_)) (broadcastInDim Cert.FfnActRefIdeal.S16384x1 ![] Cert.FfnActRefIdeal.Gen.bcast_S_S16384x1
    (constant Cert.FfnActRefIdeal.S_ .f32 0x45000000#32))) (broadcastInDim Cert.FfnActRefIdeal.S16384x1 ![]
    Cert.FfnActRefIdeal.Gen.bcast_S_S16384x1 (constant Cert.FfnActRefIdeal.S_ .f32 0x358637BD#32)))))) (broadcastInDim
    Cert.FfnActRefIdeal.S16384x2048 ![0, 1] Cert.FfnActRefIdeal.Gen.bcast_S1x2048_S16384x2048_0_1 G)) (addf (broadcastInDim
    Cert.FfnActRefIdeal.S16384x2048 ![] Cert.FfnActRefIdeal.Gen.bcast_S_S16384x2048 (constant Cert.FfnActRefIdeal.S_ .f32
    0x3F800000#32)) (shapeCast _ (broadcastInDim Cert.FfnActRefIdeal.S8x2048x2048 ![0, 2]
    Cert.FfnActRefIdeal.Gen.bcast_S8x2048_S8x2048x2048_0_2 (shapeCast _ (extractStridedSlice Cert.FfnActRefIdeal.S8x1x2048 ![0, 4,
    0] M Cert.FfnActRefIdeal.Gen.slices_S8x8x2048_S8x1x2048_0_4_0) Cert.FfnActRefIdeal.Gen.shapeCasts_S8x1x2048_S8x2048))
    Cert.FfnActRefIdeal.Gen.shapeCasts_S8x2048x2048_S16384x2048))) (shapeCast _ (broadcastInDim Cert.FfnActRefIdeal.S8x2048x2048
    ![0, 2] Cert.FfnActRefIdeal.Gen.bcast_S8x2048_S8x2048x2048_0_2 (shapeCast _ (extractStridedSlice Cert.FfnActRefIdeal.S8x1x2048
    ![0, 3, 0] M Cert.FfnActRefIdeal.Gen.slices_S8x8x2048_S8x1x2048_0_3_0) Cert.FfnActRefIdeal.Gen.shapeCasts_S8x1x2048_S8x2048))
    Cert.FfnActRefIdeal.Gen.shapeCasts_S8x2048x2048_S16384x2048)

/-- The reference's two products, side by side. -/
def PROD (X : FVec Ideal S16384x2048 .f32) (M : FVec Ideal S8x8x2048 .f32) (G : FVec Ideal S1x2048 .f32) (W : FVec Ideal S2048x11264 .f32) : FVec Ideal Cert.FfnActRefIdeal.S16384x11264 .f32 :=
  Host.dotGeneral Cert.FfnActRefIdeal.dot_S16384x2048_S2048x11264_S16384x11264_1_0_0_1_n_n none (ROWS X M G) W

/-- The reference's gates on the grid of each sequence, nothing around them. -/
def PAD (U : FVec Ideal S16384x5632 .f32) : FVec Ideal Cert.FfnActRefIdeal.S8x34x66x5632 .f32 :=
  pad Cert.FfnActRefIdeal.S8x34x66x5632 ![0, 1, 1, 0] ![0, 1, 1, 0] ![0, 0, 0, 0] (shapeCast _ U
    Cert.FfnActRefIdeal.Gen.shapeCasts_S16384x5632_S8x32x64x5632) (sitofp .f32 (constantI Cert.FfnActRefIdeal.S_ 32 0#32))
    Cert.FfnActRefIdeal.Gen.pads_S8x32x64x5632_S8x34x66x5632_000_110_110_000 Cert.FfnActRefIdeal.Gen.h_S_

/-- The reference's convolution. -/
def CONV (U : FVec Ideal S16384x5632 .f32) (C : FVec Ideal S9x5632 .f32) : FVec Ideal S16384x5632 .f32 :=
  shapeCast _ (addf (addf (addf (addf (addf (addf (addf (addf (addf (broadcastInDim Cert.FfnActRefIdeal.S8x32x64x5632 ![]
    Cert.FfnActRefIdeal.Gen.bcast_S_S8x32x64x5632 (constant Cert.FfnActRefIdeal.S_ .f32 0x00000000#32)) (mulf (extractStridedSlice
    Cert.FfnActRefIdeal.S8x32x64x5632 ![0, 0, 0, 0] (PAD U) Cert.FfnActRefIdeal.Gen.slices_S8x34x66x5632_S8x32x64x5632_0_0_0_0)
    (broadcastInDim Cert.FfnActRefIdeal.S8x32x64x5632 ![0, 1, 2, 3] Cert.FfnActRefIdeal.Gen.bcast_S1x1x1x5632_S8x32x64x5632_0_1_2_3
    (broadcastInDim Cert.FfnActRefIdeal.S1x1x1x5632 ![3] Cert.FfnActRefIdeal.Gen.bcast_S5632_S1x1x1x5632_3 (shapeCast _
    (extractStridedSlice Cert.FfnActRefIdeal.S1x5632 ![0, 0] C Cert.FfnActRefIdeal.Gen.slices_S9x5632_S1x5632_0_0)
    Cert.FfnActRefIdeal.Gen.shapeCasts_S1x5632_S5632))))) (mulf (extractStridedSlice Cert.FfnActRefIdeal.S8x32x64x5632 ![0, 0, 1,
    0] (PAD U) Cert.FfnActRefIdeal.Gen.slices_S8x34x66x5632_S8x32x64x5632_0_0_1_0) (broadcastInDim
    Cert.FfnActRefIdeal.S8x32x64x5632 ![0, 1, 2, 3] Cert.FfnActRefIdeal.Gen.bcast_S1x1x1x5632_S8x32x64x5632_0_1_2_3 (broadcastInDim
    Cert.FfnActRefIdeal.S1x1x1x5632 ![3] Cert.FfnActRefIdeal.Gen.bcast_S5632_S1x1x1x5632_3 (shapeCast _ (extractStridedSlice
    Cert.FfnActRefIdeal.S1x5632 ![1, 0] C Cert.FfnActRefIdeal.Gen.slices_S9x5632_S1x5632_1_0)
    Cert.FfnActRefIdeal.Gen.shapeCasts_S1x5632_S5632))))) (mulf (extractStridedSlice Cert.FfnActRefIdeal.S8x32x64x5632 ![0, 0, 2,
    0] (PAD U) Cert.FfnActRefIdeal.Gen.slices_S8x34x66x5632_S8x32x64x5632_0_0_2_0) (broadcastInDim
    Cert.FfnActRefIdeal.S8x32x64x5632 ![0, 1, 2, 3] Cert.FfnActRefIdeal.Gen.bcast_S1x1x1x5632_S8x32x64x5632_0_1_2_3 (broadcastInDim
    Cert.FfnActRefIdeal.S1x1x1x5632 ![3] Cert.FfnActRefIdeal.Gen.bcast_S5632_S1x1x1x5632_3 (shapeCast _ (extractStridedSlice
    Cert.FfnActRefIdeal.S1x5632 ![2, 0] C Cert.FfnActRefIdeal.Gen.slices_S9x5632_S1x5632_2_0)
    Cert.FfnActRefIdeal.Gen.shapeCasts_S1x5632_S5632))))) (mulf (extractStridedSlice Cert.FfnActRefIdeal.S8x32x64x5632 ![0, 1, 0,
    0] (PAD U) Cert.FfnActRefIdeal.Gen.slices_S8x34x66x5632_S8x32x64x5632_0_1_0_0) (broadcastInDim
    Cert.FfnActRefIdeal.S8x32x64x5632 ![0, 1, 2, 3] Cert.FfnActRefIdeal.Gen.bcast_S1x1x1x5632_S8x32x64x5632_0_1_2_3 (broadcastInDim
    Cert.FfnActRefIdeal.S1x1x1x5632 ![3] Cert.FfnActRefIdeal.Gen.bcast_S5632_S1x1x1x5632_3 (shapeCast _ (extractStridedSlice
    Cert.FfnActRefIdeal.S1x5632 ![3, 0] C Cert.FfnActRefIdeal.Gen.slices_S9x5632_S1x5632_3_0)
    Cert.FfnActRefIdeal.Gen.shapeCasts_S1x5632_S5632))))) (mulf (extractStridedSlice Cert.FfnActRefIdeal.S8x32x64x5632 ![0, 1, 1,
    0] (PAD U) Cert.FfnActRefIdeal.Gen.slices_S8x34x66x5632_S8x32x64x5632_0_1_1_0) (broadcastInDim
    Cert.FfnActRefIdeal.S8x32x64x5632 ![0, 1, 2, 3] Cert.FfnActRefIdeal.Gen.bcast_S1x1x1x5632_S8x32x64x5632_0_1_2_3 (broadcastInDim
    Cert.FfnActRefIdeal.S1x1x1x5632 ![3] Cert.FfnActRefIdeal.Gen.bcast_S5632_S1x1x1x5632_3 (shapeCast _ (extractStridedSlice
    Cert.FfnActRefIdeal.S1x5632 ![4, 0] C Cert.FfnActRefIdeal.Gen.slices_S9x5632_S1x5632_4_0)
    Cert.FfnActRefIdeal.Gen.shapeCasts_S1x5632_S5632))))) (mulf (extractStridedSlice Cert.FfnActRefIdeal.S8x32x64x5632 ![0, 1, 2,
    0] (PAD U) Cert.FfnActRefIdeal.Gen.slices_S8x34x66x5632_S8x32x64x5632_0_1_2_0) (broadcastInDim
    Cert.FfnActRefIdeal.S8x32x64x5632 ![0, 1, 2, 3] Cert.FfnActRefIdeal.Gen.bcast_S1x1x1x5632_S8x32x64x5632_0_1_2_3 (broadcastInDim
    Cert.FfnActRefIdeal.S1x1x1x5632 ![3] Cert.FfnActRefIdeal.Gen.bcast_S5632_S1x1x1x5632_3 (shapeCast _ (extractStridedSlice
    Cert.FfnActRefIdeal.S1x5632 ![5, 0] C Cert.FfnActRefIdeal.Gen.slices_S9x5632_S1x5632_5_0)
    Cert.FfnActRefIdeal.Gen.shapeCasts_S1x5632_S5632))))) (mulf (extractStridedSlice Cert.FfnActRefIdeal.S8x32x64x5632 ![0, 2, 0,
    0] (PAD U) Cert.FfnActRefIdeal.Gen.slices_S8x34x66x5632_S8x32x64x5632_0_2_0_0) (broadcastInDim
    Cert.FfnActRefIdeal.S8x32x64x5632 ![0, 1, 2, 3] Cert.FfnActRefIdeal.Gen.bcast_S1x1x1x5632_S8x32x64x5632_0_1_2_3 (broadcastInDim
    Cert.FfnActRefIdeal.S1x1x1x5632 ![3] Cert.FfnActRefIdeal.Gen.bcast_S5632_S1x1x1x5632_3 (shapeCast _ (extractStridedSlice
    Cert.FfnActRefIdeal.S1x5632 ![6, 0] C Cert.FfnActRefIdeal.Gen.slices_S9x5632_S1x5632_6_0)
    Cert.FfnActRefIdeal.Gen.shapeCasts_S1x5632_S5632))))) (mulf (extractStridedSlice Cert.FfnActRefIdeal.S8x32x64x5632 ![0, 2, 1,
    0] (PAD U) Cert.FfnActRefIdeal.Gen.slices_S8x34x66x5632_S8x32x64x5632_0_2_1_0) (broadcastInDim
    Cert.FfnActRefIdeal.S8x32x64x5632 ![0, 1, 2, 3] Cert.FfnActRefIdeal.Gen.bcast_S1x1x1x5632_S8x32x64x5632_0_1_2_3 (broadcastInDim
    Cert.FfnActRefIdeal.S1x1x1x5632 ![3] Cert.FfnActRefIdeal.Gen.bcast_S5632_S1x1x1x5632_3 (shapeCast _ (extractStridedSlice
    Cert.FfnActRefIdeal.S1x5632 ![7, 0] C Cert.FfnActRefIdeal.Gen.slices_S9x5632_S1x5632_7_0)
    Cert.FfnActRefIdeal.Gen.shapeCasts_S1x5632_S5632))))) (mulf (extractStridedSlice Cert.FfnActRefIdeal.S8x32x64x5632 ![0, 2, 2,
    0] (PAD U) Cert.FfnActRefIdeal.Gen.slices_S8x34x66x5632_S8x32x64x5632_0_2_2_0) (broadcastInDim
    Cert.FfnActRefIdeal.S8x32x64x5632 ![0, 1, 2, 3] Cert.FfnActRefIdeal.Gen.bcast_S1x1x1x5632_S8x32x64x5632_0_1_2_3 (broadcastInDim
    Cert.FfnActRefIdeal.S1x1x1x5632 ![3] Cert.FfnActRefIdeal.Gen.bcast_S5632_S1x1x1x5632_3 (shapeCast _ (extractStridedSlice
    Cert.FfnActRefIdeal.S1x5632 ![8, 0] C Cert.FfnActRefIdeal.Gen.slices_S9x5632_S1x5632_8_0)
    Cert.FfnActRefIdeal.Gen.shapeCasts_S1x5632_S5632))))) Cert.FfnActRefIdeal.Gen.shapeCasts_S8x32x64x5632_S16384x5632

/-- The reference's result of its arguments. -/
abbrev REF (X : FVec Ideal S16384x2048 .f32) (M : FVec Ideal S8x8x2048 .f32) (G : FVec Ideal S1x2048 .f32) (W : FVec Ideal S2048x11264 .f32) (C : FVec Ideal S9x5632 .f32) : FVec Ideal S16384x5632 .bf16 :=
  truncf .bf16 (mulf (mulf (mulf (broadcastInDim Cert.FfnActRefIdeal.S16384x5632 ![] Cert.FfnActRefIdeal.Gen.bcast_S_S16384x5632
    (constant Cert.FfnActRefIdeal.S_ .f32 0x3F000000#32)) (CONV (extractStridedSlice Cert.FfnActRefIdeal.S16384x5632 ![0, 0] (PROD
    X M G W) Cert.FfnActRefIdeal.Gen.slices_S16384x11264_S16384x5632_0_0) C)) (addf (broadcastInDim Cert.FfnActRefIdeal.S16384x5632
    ![] Cert.FfnActRefIdeal.Gen.bcast_S_S16384x5632 (constant Cert.FfnActRefIdeal.S_ .f32 0x3F800000#32)) (Host.erf (mulf (CONV
    (extractStridedSlice Cert.FfnActRefIdeal.S16384x5632 ![0, 0] (PROD X M G W)
    Cert.FfnActRefIdeal.Gen.slices_S16384x11264_S16384x5632_0_0) C) (broadcastInDim Cert.FfnActRefIdeal.S16384x5632 ![]
    Cert.FfnActRefIdeal.Gen.bcast_S_S16384x5632 (constant Cert.FfnActRefIdeal.S_ .f32 0x3F3504F3#32)))))) (extractStridedSlice
    Cert.FfnActRefIdeal.S16384x5632 ![0, 5632] (PROD X M G W) Cert.FfnActRefIdeal.Gen.slices_S16384x11264_S16384x5632_0_5632))
    Cert.FfnActRefIdeal.Gen.bitsLt_bf16_f32

/-- The word that says how far along its row of the grid a token stands. -/
theorem along (i : Fin 2048) (x : Fin 256) : k0_pay6 (ix2 i x) = BitVec.ofNat 32 (i.val % 64) := by
  pointwise [k0_pay6]
  revert i
  decide +kernel

/-- A token has one before it on its row. -/
theorem has_left (i : Fin 2048) (x : Fin 256) : k0_pay7 (ix2 i x) = BitVec.ofBool (0 < i.val % 64) := by
  pointwise [k0_pay7, along]
  revert i
  decide +kernel

/-- A token has one after it on its row. -/
theorem has_right : ∀ i : Fin 2048, IntOp.cmpi CmpIPredicate.slt (BitVec.ofNat 32 (i.val % 64)) 63#32 = BitVec.ofBool (i.val % 64 < 63) := by
  decide +kernel

/-- A gate's slot without its one-long axis. -/
theorem slot_eq (v : Vec Ideal S1x2048x256 .f32) (i : Fin 2048) (x : Fin 256) : k0_pay5 v (ix2 i x) = v (ix3 0 i x) := by
  pointwise [k0_pay5]

/-- The token before, or nothing. -/
theorem left_eq (v : Vec Ideal S1x2048x256 .f32) (i : Fin 2048) (x : Fin 256) :
    k0_pay9 k0_pay7 (k0_pay8 v) (0 : EReal) (ix2 i x)
      = if h : 0 < i.val % 64 then v (ix3 0 ⟨i.val - 1, by have := i.isLt; omega⟩ x) else 0 := by
  pointwise [k0_pay9, k0_pay8, k0_pay5, has_left]
  have := i.isLt
  split
  · rename_i h
    refine congrArg (fun j => v (ix3 0 j x)) (Fin.ext ?_)
    show (i.val + 2048 - 1) % 2048 = i.val - 1
    omega
  · rfl

/-- The token after, or nothing. -/
theorem right_eq (v : Vec Ideal S1x2048x256 .f32) (i : Fin 2048) (x : Fin 256) :
    k0_pay10 (k0_pay5 v) k0_pay6 (ix2 i x)
      = if h : i.val % 64 < 63 then v (ix3 0 ⟨i.val + 1, by have := i.isLt; omega⟩ x) else 0 := by
  pointwise [k0_pay10, k0_pay5, along, has_right]
  have := i.isLt
  split
  · rename_i h
    refine congrArg (fun j => v (ix3 0 j x)) (Fin.ext ?_)
    show (i.val + 2048 - 2047) % 2048 = i.val + 1
    omega
  · rfl

/-- One of the nine gates around a token of a sequence, or nothing past the grid's edge. -/
def tap (U : FVec Ideal S16384x5632 .f32) (b i : ℕ) (x : Fin 5632) (di dj : ℕ) : EReal :=
  if h : ((64 ≤ i + 64 * di ∧ i + 64 * di < 2112) ∧ (1 ≤ i % 64 + dj ∧ i % 64 + dj ≤ 64)) ∧ b * 2048 + i + 64 * di + dj - 65 < 16384
  then U (ix2 ⟨b * 2048 + i + 64 * di + dj - 65, h.2⟩ x) else 0

/-- Past the edge there is nothing. -/
theorem tap_out (U : FVec Ideal S16384x5632 .f32) (b i : ℕ) (x : Fin 5632) (di dj : ℕ)
    (h : ¬((64 ≤ i + 64 * di ∧ i + 64 * di < 2112) ∧ (1 ≤ i % 64 + dj ∧ i % 64 + dj ≤ 64))) : tap U b i x di dj = 0 := by
  unfold tap
  exact dif_neg fun k => h k.1

/-- A gate chosen under the tap's condition, at the tap's row, is the tap. -/
theorem dite_tap (U : FVec Ideal S16384x5632 .f32) (b i : ℕ) (x : Fin 5632) (di dj : ℕ) {P : Prop} [Decidable P] (f : P → Fin 16384)
    (hP : P ↔ ((64 ≤ i + 64 * di ∧ i + 64 * di < 2112) ∧ (1 ≤ i % 64 + dj ∧ i % 64 + dj ≤ 64)))
    (hf : ∀ h : P, (f h).val = b * 2048 + i + 64 * di + dj - 65) :
    (if h : P then U (ix2 (f h) x) else 0) = tap U b i x di dj := by
  by_cases h : P
  · have h2 := (f h).isLt
    rw [hf h] at h2
    unfold tap
    rw [dif_pos h, dif_pos ⟨hP.mp h, h2⟩]
    exact congrArg (fun j => U (ix2 j x)) (Fin.ext (hf h))
  · rw [dif_neg h, tap_out U b i x di dj (fun k => h (hP.mpr k))]

/-- Equal factors give equal products. -/
theorem mul_of {a b c : EReal} (h : a = b) : a * c = b * c := h ▸ rfl

/-- The kernel adds the middle row first, then the row above, then the row below. -/
theorem regroup (p0 p1 p2 p3 p4 p5 p6 p7 p8 : EReal) :
    p3 + p4 + p5 + (p0 + p1 + p2) + (p6 + p7 + p8) = p0 + p1 + p2 + p3 + p4 + p5 + p6 + p7 + p8 := by
  rw [add_comm (p3 + p4 + p5) (p0 + p1 + p2)]
  simp only [add_assoc]

/-- The grid with nothing around it, entry by entry. -/
theorem pad_eq (U : FVec Ideal S16384x5632 .f32) (b : Fin 8) (p : Fin 34) (q : Fin 66) (x : Fin 5632) :
    PAD U (ix4 b p q x) = if h : (1 ≤ p.val ∧ p.val ≤ 32) ∧ (1 ≤ q.val ∧ q.val ≤ 64)
      then U (ix2 ⟨b.val * 2048 + (p.val - 1) * 64 + (q.val - 1), by have := b.isLt; omega⟩ x) else 0 := by
  pointwise [PAD]
  have z : FloatOps.sitofp (F := Ideal) FTy.f32 0#32 = (0 : EReal) := by
    show ((BitVec.toInt 0#32 : ℝ) : EReal) = 0
    norm_num
  by_cases h : (1 ≤ p.val ∧ p.val ≤ 32) ∧ (1 ≤ q.val ∧ q.val ≤ 64)
  · rw [dif_pos h, dif_pos (by omega)]
  · rw [dif_neg h, dif_neg (by omega)]
    exact z

/-- The reference's convolution as nine taps. -/
theorem conv_eq (U : FVec Ideal S16384x5632 .f32) (C : FVec Ideal S9x5632 .f32) (r : Fin 16384) (x : Fin 5632) :
    CONV U C (ix2 r x) = tap U (r.val / 2048) (r.val % 2048) x 0 0 * C (ix2 0 x)
        + tap U (r.val / 2048) (r.val % 2048) x 0 1 * C (ix2 1 x)
        + tap U (r.val / 2048) (r.val % 2048) x 0 2 * C (ix2 2 x)
        + tap U (r.val / 2048) (r.val % 2048) x 1 0 * C (ix2 3 x)
        + tap U (r.val / 2048) (r.val % 2048) x 1 1 * C (ix2 4 x)
        + tap U (r.val / 2048) (r.val % 2048) x 1 2 * C (ix2 5 x)
        + tap U (r.val / 2048) (r.val % 2048) x 2 0 * C (ix2 6 x)
        + tap U (r.val / 2048) (r.val % 2048) x 2 1 * C (ix2 7 x)
        + tap U (r.val / 2048) (r.val % 2048) x 2 2 * C (ix2 8 x) := by
  have hr := r.isLt
  pointwise [CONV, pad_eq]
  exact (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (mul_of (dite_tap U _ _ x 0 0 _ (by omega) (fun h => by dsimp only; omega)))
    (mul_of (dite_tap U _ _ x 0 1 _ (by omega) (fun h => by dsimp only; omega))))
    (mul_of (dite_tap U _ _ x 0 2 _ (by omega) (fun h => by dsimp only; omega))))
    (mul_of (dite_tap U _ _ x 1 0 _ (by omega) (fun h => by dsimp only; omega))))
    (mul_of (dite_tap U _ _ x 1 1 _ (by omega) (fun h => by dsimp only; omega))))
    (mul_of (dite_tap U _ _ x 1 2 _ (by omega) (fun h => by dsimp only; omega))))
    (mul_of (dite_tap U _ _ x 2 0 _ (by omega) (fun h => by dsimp only; omega))))
    (mul_of (dite_tap U _ _ x 2 1 _ (by omega) (fun h => by dsimp only; omega))))
    (mul_of (dite_tap U _ _ x 2 2 _ (by omega) (fun h => by dsimp only; omega))))

/-- What the kernel adds up around a token, of a slot that holds a column of the gates. -/
theorem around (U : FVec Ideal S16384x5632 .f32) (v : Vec Ideal S1x2048x256 .f32) (b : ℕ) (hb : b < 8) (x : Fin 256) (y : Fin 5632)
    (hv : ∀ i : Fin 2048, v (ix3 0 i x) = U (ix2 ⟨b * 2048 + i.val, by have := i.isLt; omega⟩ y))
    (di : ℕ) (hdi : di ≤ 2) (n : ℕ) (i : Fin 2048) (hn : n + 64 * di = i.val + 64) :
    (k0_pay9 k0_pay7 (k0_pay8 v) (0 : EReal) (ix2 i x) = tap U b n y di 0 ∧ v (ix3 0 i x) = tap U b n y di 1)
      ∧ k0_pay10 (k0_pay5 v) k0_pay6 (ix2 i x) = tap U b n y di 2 := by
  have hi := i.isLt
  refine ⟨⟨?_, ?_⟩, ?_⟩
  · rw [left_eq]
    simp only [hv]
    exact dite_tap U b n y di 0 _ (by omega) (fun h => by dsimp only; omega)
  · rw [hv i]
    refine Eq.trans ?_ (dite_tap U b n y di 1 (P := True) (fun _ => ⟨b * 2048 + i.val, by omega⟩) ⟨fun _ => by omega, fun _ => trivial⟩ (fun h => by dsimp only; omega))
    rw [dif_pos trivial]
  · rw [right_eq]
    simp only [hv]
    exact dite_tap U b n y di 2 _ (by omega) (fun h => by dsimp only; omega)

/-- The kernel's gated activation of a column is the reference's. -/
theorem act_eq (U : FVec Ideal S16384x5632 .f32) (C : FVec Ideal S9x5632 .f32) (v vv : Vec Ideal S1x2048x256 .f32) (b : ℕ) (hb : b < 8)
    (x : Fin 256) (y : Fin 5632) (hv : ∀ i : Fin 2048, v (ix3 0 i x) = U (ix2 ⟨b * 2048 + i.val, by have := i.isLt; omega⟩ y))
    (w0 w1 w2 w3 w4 w5 w6 w7 w8 : Vec Ideal S1x256 .f32)
    (hw : w0 (ix2 0 x) = C (ix2 0 y) ∧ w1 (ix2 0 x) = C (ix2 1 y) ∧ w2 (ix2 0 x) = C (ix2 2 y) ∧ w3 (ix2 0 x) = C (ix2 3 y) ∧ w4 (ix2 0 x) = C (ix2 4 y) ∧ w5 (ix2 0 x) = C (ix2 5 y) ∧ w6 (ix2 0 x) = C (ix2 6 y) ∧ w7 (ix2 0 x) = C (ix2 7 y) ∧ w8 (ix2 0 x) = C (ix2 8 y)) (i : Fin 2048) :
    k0_pay15 (k0_pay11 (k0_pay5 v) k0_pay6 k0_pay7 (k0_pay8 v) (Scalar.ofBits .f32 0x00000000#32) w0 w1 w2)
      (k0_pay12 (k0_pay5 v) k0_pay6 k0_pay7 (k0_pay8 v) (Scalar.ofBits .f32 0x00000000#32) w3 w4 w5)
      (k0_pay13 (k0_pay5 v) k0_pay7 (k0_pay8 v) (Scalar.ofBits .f32 0x00000000#32) w6 w7)
      (k0_pay14 (k0_pay5 v) k0_pay6 w8) vv (ix2 i x)
      = Ideal.ofBits FTy.f32 1056964608#32 * CONV U C (ix2 ⟨b * 2048 + i.val, by have := i.isLt; omega⟩ y)
        * (1 + FloatOps.erf (F := Ideal) (φ := FTy.f32) (CONV U C (ix2 ⟨b * 2048 + i.val, by have := i.isLt; omega⟩ y) * Ideal.ofBits FTy.f32 1060439283#32)) * vv (ix3 0 i x) := by
  obtain ⟨e0, e1, e2, e3, e4, e5, e6, e7, e8⟩ := hw
  have hi := i.isLt
  have key : ((k0_pay9 k0_pay7 (k0_pay8 v) (0 : EReal) (ix2 i x) * w3 (ix2 0 x) + v (ix3 0 i x) * w4 (ix2 0 x) + k0_pay10 (k0_pay5 v) k0_pay6 (ix2 i x) * w5 (ix2 0 x)
      + (if h : i.val < 64 then (0 : EReal)
        else k0_pay9 k0_pay7 (k0_pay8 v) (0 : EReal) (ix2 ⟨i.val - 64, by omega⟩ x) * w0 (ix2 0 x) + v (ix3 0 ⟨i.val - 64, by omega⟩ x) * w1 (ix2 0 x)
          + k0_pay10 (k0_pay5 v) k0_pay6 (ix2 ⟨i.val - 64, by omega⟩ x) * w2 (ix2 0 x)))
      + (if h : i.val < 1984 then k0_pay9 k0_pay7 (k0_pay8 v) (0 : EReal) (ix2 ⟨64 + i.val, by omega⟩ x) * w6 (ix2 0 x) + v (ix3 0 ⟨64 + i.val, by omega⟩ x) * w7 (ix2 0 x)
          + k0_pay10 (k0_pay5 v) k0_pay6 (ix2 ⟨64 + i.val, by omega⟩ x) * w8 (ix2 0 x)
        else (0 : EReal)))
      = CONV U C (ix2 ⟨b * 2048 + i.val, by omega⟩ y) := by
    rw [conv_eq]
    have hb1 : (b * 2048 + i.val) / 2048 = b := by omega
    have hb2 : (b * 2048 + i.val) % 2048 = i.val := by omega
    dsimp only
    rw [hb1, hb2]
    have A := around U v b hb x y hv 1 (by omega) i.val i (by omega)
    have B : (if h : i.val < 64 then (0 : EReal)
        else k0_pay9 k0_pay7 (k0_pay8 v) (0 : EReal) (ix2 ⟨i.val - 64, by omega⟩ x) * w0 (ix2 0 x) + v (ix3 0 ⟨i.val - 64, by omega⟩ x) * w1 (ix2 0 x)
          + k0_pay10 (k0_pay5 v) k0_pay6 (ix2 ⟨i.val - 64, by omega⟩ x) * w2 (ix2 0 x))
        = tap U b i.val y 0 0 * w0 (ix2 0 x) + tap U b i.val y 0 1 * w1 (ix2 0 x) + tap U b i.val y 0 2 * w2 (ix2 0 x) := by
      by_cases h : i.val < 64
      · rw [dif_pos h, tap_out _ _ _ _ _ _ (by omega), tap_out _ _ _ _ _ _ (by omega), tap_out _ _ _ _ _ _ (by omega)]
        simp only [zero_mul, add_zero]
      · have T := around U v b hb x y hv 0 (by omega) i.val ⟨i.val - 64, by omega⟩ (by dsimp only; omega)
        rw [dif_neg h, T.1.1, T.1.2, T.2]
    have D : (if h : i.val < 1984 then k0_pay9 k0_pay7 (k0_pay8 v) (0 : EReal) (ix2 ⟨64 + i.val, by omega⟩ x) * w6 (ix2 0 x) + v (ix3 0 ⟨64 + i.val, by omega⟩ x) * w7 (ix2 0 x)
          + k0_pay10 (k0_pay5 v) k0_pay6 (ix2 ⟨64 + i.val, by omega⟩ x) * w8 (ix2 0 x)
        else (0 : EReal))
        = tap U b i.val y 2 0 * w6 (ix2 0 x) + tap U b i.val y 2 1 * w7 (ix2 0 x) + tap U b i.val y 2 2 * w8 (ix2 0 x) := by
      by_cases h : i.val < 1984
      · have T := around U v b hb x y hv 2 (by omega) i.val ⟨64 + i.val, by omega⟩ (by dsimp only; omega)
        rw [dif_pos h, T.1.1, T.1.2, T.2]
      · rw [dif_neg h, tap_out _ _ _ _ _ _ (by omega), tap_out _ _ _ _ _ _ (by omega), tap_out _ _ _ _ _ _ (by omega)]
        simp only [zero_mul, add_zero]
    rw [B, D, A.1.1, A.1.2, A.2, e0, e1, e2, e3, e4, e5, e6, e7, e8]
    exact regroup _ _ _ _ _ _ _ _ _
  rw [← key]
  pointwise [k0_pay15, k0_pay11, k0_pay12, k0_pay13, k0_pay14, slot_eq]

end Cert.FfnActIdeal.Value

end
-- ==== Proof.ActIRuns.lean ====
module

public import proofs.«01_k».proof.Proof.Gen.FfnActIdeal.Launch
public import proofs.«01_k».proof.Proof.Gen.FfnActIdeal.Skeleton
public import proofs.«01_k».proof.Proof.Gen.FfnActIdeal.Loops
public import proofs.«01_k».proof.Proof.Gen.FfnActIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FfnActIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Argument 0 as the region finds it is the memory's. -/
theorem V_main_arg0 (c : Dev nD) : V m c main_arg0 = m ((c : Thread nD τ).loc main_arg0) := rfl
/-- Argument 1 as the region finds it is the memory's. -/
theorem V_main_arg1 (c : Dev nD) : V m c main_arg1 = m ((c : Thread nD τ).loc main_arg1) := rfl
/-- Argument 2 as the region finds it is the memory's. -/
theorem V_main_arg2 (c : Dev nD) : V m c main_arg2 = m ((c : Thread nD τ).loc main_arg2) := rfl
/-- Argument 3 as the region finds it is the memory's. -/
theorem V_main_arg3 (c : Dev nD) : V m c main_arg3 = m ((c : Thread nD τ).loc main_arg3) := rfl
/-- Argument 4 as the region finds it is the memory's. -/
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FfnActIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 23) — by arithmetic of the point. -/
theorem hcond0_0 : ∀ t : Fin cfg0.N, cond0_0 (grid0.coords t) ↔ t.val % 23 = 0 :=
  (fun t => by
    have ht : t.val < 184 := Nat.lt_of_lt_of_eq t.isLt N_0
    have e0 : (grid0.coords t 0).val = t.val / 23 % 8 := Pipeline.Grid.coords_val t 0 (by decide) rfl
    have e1 : (grid0.coords t 1).val = t.val / 1 % 23 := Pipeline.Grid.coords_val t 1 (by decide) rfl
    simp only [cond0_0, k0_cond1, e0, e1]
    word_cmp
   : ∀ t : Fin grid0.N, cond0_0 (grid0.coords t) ↔ t.val % 23 = 0)

/-- The even points of a sequence. -/
abbrev cond0_1 (i : grid0.Coords) : Prop := (i 1).val % 2 = 0
/-- They are told by the number of the point. -/
theorem hcond0_1 : ∀ t : Fin cfg0.N, cond0_1 (grid0.coords t) ↔ ¬(t.val % 23 % 2 = 1) :=
  (by decide +kernel : ∀ t : Fin grid0.N, cond0_1 (grid0.coords t) ↔ ¬(t.val % 23 % 2 = 1))

/-- The odd points of a sequence. -/
abbrev cond0_2 (i : grid0.Coords) : Prop := (i 1).val % 2 = 1
/-- They are told by the number of the point. -/
theorem hcond0_2 : ∀ t : Fin cfg0.N, cond0_2 (grid0.coords t) ↔ (t.val % 23 % 2 = 1) :=
  (by decide +kernel : ∀ t : Fin grid0.N, cond0_2 (grid0.coords t) ↔ (t.val % 23 % 2 = 1))

/-- At the even points of a sequence the slot read is the second one. -/
theorem off2_even (i : grid0.Coords) (h : cond0_1 i) : k0_off2 i = ![1, 0, 0] := by
  have key : ∀ j : Fin 23, j.val % 2 = 0 → ∀ a : Fin 8, k0_off2 (fun k => match k with | 0 => a | 1 => j) = ![1, 0, 0] := by decide +kernel
  have e : i = (fun k => match k with | 0 => i 0 | 1 => i 1 : grid0.Coords) := by funext k; fin_cases k <;> rfl
  rw [e]; exact key (i 1) h (i 0)

/-- At the even points of a sequence the slot written is the first one. -/
theorem off3_even (i : grid0.Coords) (h : cond0_1 i) : k0_off3 i = ![0, 0, 0] := by
  have key : ∀ j : Fin 23, j.val % 2 = 0 → ∀ a : Fin 8, k0_off3 (fun k => match k with | 0 => a | 1 => j) = ![0, 0, 0] := by decide +kernel
  have e : i = (fun k => match k with | 0 => i 0 | 1 => i 1 : grid0.Coords) := by funext k; fin_cases k <;> rfl
  rw [e]; exact key (i 1) h (i 0)

/-- At the odd points of a sequence the slot read is the first one. -/
theorem off2_odd (i : grid0.Coords) (h : cond0_2 i) : k0_off2 i = ![0, 0, 0] := by
  have key : ∀ j : Fin 23, j.val % 2 = 1 → ∀ a : Fin 8, k0_off2 (fun k => match k with | 0 => a | 1 => j) = ![0, 0, 0] := by decide +kernel
  have e : i = (fun k => match k with | 0 => i 0 | 1 => i 1 : grid0.Coords) := by funext k; fin_cases k <;> rfl
  rw [e]; exact key (i 1) h (i 0)

/-- At the odd points of a sequence the slot written is the second one. -/
theorem off3_odd (i : grid0.Coords) (h : cond0_2 i) : k0_off3 i = ![1, 0, 0] := by
  have key : ∀ j : Fin 23, j.val % 2 = 1 → ∀ a : Fin 8, k0_off3 (fun k => match k with | 0 => a | 1 => j) = ![1, 0, 0] := by decide +kernel
  have e : i = (fun k => match k with | 0 => i 0 | 1 => i 1 : grid0.Coords) := by funext k; fin_cases k <;> rfl
  rw [e]; exact key (i 1) h (i 0)

/-- The first part of the body, with the two slots given. -/
noncomputable def slotPart1 (i : grid0.Coords) (o2 o3 : Fin 3 → Nat) (p2 : ∀ a, o2 a + S1x2048x256.size a ≤ S2x2048x256.size a) (p3 : ∀ a, o3 a + S1x2048x256.size a ≤ S2x2048x256.size a) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) :
    Prog (TpuEff nD τ sig (Elt F) Λ₀ .tc) (Σ' (v12 : BitVec 32) (v16 : FVec F S2048x256 .f32) (v33 : IVec S2048x256 32) (v35 : IVec S2048x256 1) (v36 : FVec F S2048x256 .f32), F .f32) := do
  let arg1 : BitVec 32 := BitVec.ofNat 32 (i 1).val
  if k0_h1 : k0_cond1 i = 1#1 then do
    let v114 : Vec F S1x1x2048 .f32 ← Prog.lift (.load arg3 (Rect.unit (s := S1x8x2048) ![0, 3, 0] S1x1x2048.size inb_S1x8x2048_S1x1x2048_0_3_0).toLoadRect (View.loadsAt_vmem h_S1x1x2048))
    let v116 : Vec F S1x1x2048 .f32 ← Prog.lift (.load arg3 (Rect.unit (s := S1x8x2048) ![0, 4, 0] S1x1x2048.size inb_S1x8x2048_S1x1x2048_0_4_0).toLoadRect (View.loadsAt_vmem h_S1x1x2048))
    Scf.Loop.for k0_t1_loop (k0_t1_ok i k0_h1) ⟨⟩ (k0_t1_body i arg2 harg2 arg3 harg3 arg4 harg4 arg5 harg5 arg6 harg6 arg7 harg7 arg8 harg8 arg9 harg9 arg10 harg10 arg11 harg11 k0_h1 v114 v116)
    let v120 : Vec F S1x2048x256 .f32 ← Prog.lift (.load arg10 (Rect.unit (s := S2x2048x256) ![1, 0, 0] S1x2048x256.size inb_S2x2048x256_S1x2048x256_1_0_0).toLoadRect (View.loadsAt_vmem h_S1x2048x256))
    Prog.lift (.store arg10 (Rect.unit (s := S2x2048x256) ![1, 0, 0] S1x2048x256.size inb_S2x2048x256_S1x2048x256_1_0_0) (k0_pay3 (F := F)) Finset.univ (View.stores_vmem_bits_univ h_S1x2048x256 rfl) (.inl rfl))
    let v124 : Vec F S1x2048x256 .f32 ← Prog.lift (.load arg11 (Rect.unit (s := S2x2048x256) ![1, 0, 0] S1x2048x256.size inb_S2x2048x256_S1x2048x256_1_0_0).toLoadRect (View.loadsAt_vmem h_S1x2048x256))
    Prog.lift (.store arg11 (Rect.unit (s := S2x2048x256) ![1, 0, 0] S1x2048x256.size inb_S2x2048x256_S1x2048x256_1_0_0) (k0_pay4 (F := F)) Finset.univ (View.stores_vmem_bits_univ h_S1x2048x256 rfl) (.inl rfl))
    pure ⟨⟩
  else do
    pure ⟨⟩
  let v3 : BitVec 1 := Scalar.cmpi .eq 2#32 0#32
  let v4 : BitVec 32 := Scalar.select v3 1#32 2#32
  let v5 : BitVec 32 := Scalar.remsi arg1 v4
  let v6 : BitVec 1 := Scalar.cmpi .ne v5 0#32
  let v7 : BitVec 1 := Scalar.cmpi .slt v5 0#32
  let v8 : BitVec 1 := Scalar.cmpi .slt v4 0#32
  let v9 : BitVec 1 := Scalar.xori v7 v8
  let v10 : BitVec 1 := Scalar.andi v9 v6
  let v11 : BitVec 32 := Scalar.addi v5 v4
  let v12 : BitVec 32 := Scalar.select v10 v11 v5
  let v15 : Vec F S1x2048x256 .f32 ← Prog.lift (.load arg10 (Rect.unit (s := S2x2048x256) o2 S1x2048x256.size p2).toLoadRect (View.loadsAt_vmem h_S1x2048x256))
  have cst : F .f32 := Scalar.ofBits .f32 0x00000000#32
  pure ⟨v12, k0_pay5 v15, k0_pay6, k0_pay7, k0_pay8 v15, cst⟩

/-- The third part of the body, with the two slots given. -/
noncomputable def slotPart3 (i : grid0.Coords) (o2 o3 : Fin 3 → Nat) (p2 : ∀ a, o2 a + S1x2048x256.size a ≤ S2x2048x256.size a) (p3 : ∀ a, o3 a + S1x2048x256.size a ≤ S2x2048x256.size a) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (v12 : BitVec 32) (v54 : FVec F S2048x256 .f32) (v65 : FVec F S2048x256 .f32) (v72 : FVec F S2048x256 .f32) (v75 : FVec F S2048x256 .f32) :
    Prog (TpuEff nD τ sig (Elt F) Λ₀ .tc) (FVec F S2048x256 .f32) := do
  let v94 : Vec F S1x2048x256 .f32 ← Prog.lift (.load arg11 (Rect.unit (s := S2x2048x256) o2 S1x2048x256.size p2).toLoadRect (View.loadsAt_vmem h_S1x2048x256))
  let v98 : Vec F S2048x256 .bf16 ← Prog.lift (.load arg8 (Rect.unit (s := S2048x256) ![0, 0] S2048x256.size inb_S2048x256_S2048x256_0_0).toLoadRect (View.loadsAt_vmem h_S2048x256))
  Prog.lift (.store arg8 (Rect.unit (s := S2048x256) ![0, 0] S2048x256.size inb_S2048x256_S2048x256_0_0) (k0_pay15 v54 v65 v72 v75 v94) Finset.univ (View.stores_vmem h_S2048x256 (harg8.storeExact_slice rfl _ packedbf16_S2048x256_S2048x256_0_0) (fun _ => rfl)) (.inl rfl))
  let v99 : Vec F S2048x2048 .bf16 ← Prog.lift (.load arg9 (Rect.unit (s := S2048x2048) ![0, 0] S2048x2048.size inb_S2048x2048_S2048x2048_0_0).toLoadRect (View.loadsAt_vmem h_S2048x2048))
  let v100 : Vec F S2048x256 .f32 ← Prog.lift (.load arg5 (Rect.unit (s := S2048x256) ![0, 0] S2048x256.size inb_S2048x256_S2048x256_0_0).toLoadRect (View.loadsAt_vmem h_S2048x256))
  let v104 : Vec F S1x2048x256 .f32 ← Prog.lift (.load arg10 (Rect.unit (s := S2x2048x256) o3 S1x2048x256.size p3).toLoadRect (View.loadsAt_vmem h_S1x2048x256))
  Prog.lift (.store arg10 (Rect.unit (s := S2x2048x256) o3 S1x2048x256.size p3) (k0_pay16 v99 v100) Finset.univ (View.stores_vmem_bits_univ h_S1x2048x256 rfl) (.inl rfl))
  let v107 : Vec F S2048x256 .f32 ← Prog.lift (.load arg6 (Rect.unit (s := S2048x256) ![0, 0] S2048x256.size inb_S2048x256_S2048x256_0_0).toLoadRect (View.loadsAt_vmem h_S2048x256))
  let v111 : Vec F S1x2048x256 .f32 ← Prog.lift (.load arg11 (Rect.unit (s := S2x2048x256) o3 S1x2048x256.size p3).toLoadRect (View.loadsAt_vmem h_S1x2048x256))
  pure (k0_pay17 v99 v107)

/-- The body with the slot read and the slot written given. -/
noncomputable def slotBody (i : grid0.Coords) (o2 o3 : Fin 3 → Nat) (p2 : ∀ a, o2 a + S1x2048x256.size a ≤ S2x2048x256.size a) (p3 : ∀ a, o3 a + S1x2048x256.size a ≤ S2x2048x256.size a) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) :
    Prog (TpuEff nD τ sig (Elt F) Λ₀ .tc) PUnit := do
  let ⟨v12, v16, v33, v35, v36, cst⟩ : Σ' (v12 : BitVec 32) (v16 : FVec F S2048x256 .f32) (v33 : IVec S2048x256 32) (v35 : IVec S2048x256 1) (v36 : FVec F S2048x256 .f32), F .f32 ← slotPart1 i o2 o3 p2 p3 arg2 harg2 arg3 harg3 arg4 harg4 arg5 harg5 arg6 harg6 arg7 harg7 arg8 harg8 arg9 harg9 arg10 harg10 arg11 harg11
  let ⟨v54, v65, v72, v75⟩ : Σ' (v54 : FVec F S2048x256 .f32) (v65 : FVec F S2048x256 .f32) (v72 : FVec F S2048x256 .f32), FVec F S2048x256 .f32 ← k0_part2_skel i arg2 harg2 arg3 harg3 arg4 harg4 arg5 harg5 arg6 harg6 arg7 harg7 arg8 harg8 arg9 harg9 arg10 harg10 arg11 harg11 v16 v33 v35 v36 cst
  let v109 : FVec F S2048x256 .f32 ← slotPart3 i o2 o3 p2 p3 arg2 harg2 arg3 harg3 arg4 harg4 arg5 harg5 arg6 harg6 arg7 harg7 arg8 harg8 arg9 harg9 arg10 harg10 arg11 harg11 v12 v54 v65 v72 v75
  Prog.lift (.store arg11 (Rect.unit (s := S2x2048x256) o3 S1x2048x256.size p3) (k0_pay1 v109) Finset.univ (View.stores_vmem_bits_univ h_S1x2048x256 rfl) (.inl rfl))
  pure ⟨⟩

/-- The body is that one at the slots it computes. -/
theorem body_slots (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) :
    cc0_ffn_act (F := F) i arg2 harg2 arg3 harg3 arg4 harg4 arg5 harg5 arg6 harg6 arg7 harg7 arg8 harg8 arg9 harg9 arg10 harg10 arg11 harg11 = slotBody i (k0_off2 i) (k0_off3 i) (k0_off2_inb i) (k0_off3_inb i) arg2 harg2 arg3 harg3 arg4 harg4 arg5 harg5 arg6 harg6 arg7 harg7 arg8 harg8 arg9 harg9 arg10 harg10 arg11 harg11 := rfl

/-- The body at equal slots is the same. -/
theorem slotBody_congr (i : grid0.Coords) (o2 o3 o2' o3' : Fin 3 → Nat) (e2 : o2 = o2') (e3 : o3 = o3') (p2 : ∀ a, o2 a + S1x2048x256.size a ≤ S2x2048x256.size a) (p3 : ∀ a, o3 a + S1x2048x256.size a ≤ S2x2048x256.size a) (p2' : ∀ a, o2' a + S1x2048x256.size a ≤ S2x2048x256.size a) (p3' : ∀ a, o3' a + S1x2048x256.size a ≤ S2x2048x256.size a) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) :
    slotBody (F := F) i o2 o3 p2 p3 arg2 harg2 arg3 harg3 arg4 harg4 arg5 harg5 arg6 harg6 arg7 harg7 arg8 harg8 arg9 harg9 arg10 harg10 arg11 harg11 = slotBody i o2' o3' p2' p3' arg2 harg2 arg3 harg3 arg4 harg4 arg5 harg5 arg6 harg6 arg7 harg7 arg8 harg8 arg9 harg9 arg10 harg10 arg11 harg11 := by
  subst e2 e3; rfl

/-- The first slot lies within the scratch. -/
theorem slot_first : ∀ a, (![0, 0, 0] : Fin 3 → Nat) a + S1x2048x256.size a ≤ S2x2048x256.size a := by decide

/-- The second slot lies within the scratch. -/
theorem slot_second : ∀ a, (![1, 0, 0] : Fin 3 → Nat) a + S1x2048x256.size a ≤ S2x2048x256.size a := by decide

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 live: the case stores into it. -/
theorem liveAt0_6_A : ∀ t : Fin cfg0.N, cond0_0 (grid0.coords t) → cond0_1 (grid0.coords t) → ¬cond0_2 (grid0.coords t) → cfg0.idle 6 (grid0.coords t) = false := by decide +kernel
/-- At the points of case B the printed configuration (`Cfg.idle`) calls output 6 live: the case stores into it. -/
theorem liveAt0_6_B : ∀ t : Fin cfg0.N, ¬cond0_0 (grid0.coords t) → ¬cond0_1 (grid0.coords t) → cond0_2 (grid0.coords t) → cfg0.idle 6 (grid0.coords t) = false := by decide +kernel
/-- At the points of case C the printed configuration (`Cfg.idle`) calls output 6 live: the case stores into it. -/
theorem liveAt0_6_C : ∀ t : Fin cfg0.N, ¬cond0_0 (grid0.coords t) → cond0_1 (grid0.coords t) → ¬cond0_2 (grid0.coords t) → cfg0.idle 6 (grid0.coords t) = false := by decide +kernel

/-! ## The kernel body on any staging memrefs: a subtype the run finds -/

/-- One staging buffer of output window 6, through which its contents are stated (`View.read_writes_of_cover`: the
    choice does not matter). -/
abbrev VO0_6 : View sig .tc .vmem S2048x256 .bf16 := (Memref.whole cc0_stg6_0 : Memref sig .tc .vmem S2048x256 .bf16).view
/-- Each window's current staging memref at point `t`, spelled as the pipeline passes it (`bodyAt0`), and its wholeness. -/
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S9x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2048x2048 .bf16 := Memref.whole cc0_scratch0
abbrev scM0_1 : Memref sig .tc .vmem S2x2048x256 .f32 := Memref.whole cc0_scratch1
abbrev scM0_2 : Memref sig .tc .vmem S2x2048x256 .f32 := Memref.whole cc0_scratch2
/-- The scratch `arg9` the kernel carries between points, as a view: what it holds is stated through it. -/
abbrev VS0_0 : View sig .tc .vmem S2048x2048 .bf16 := scM0_0.view
/-- The scratch `arg10` the kernel carries between points, as a view: what it holds is stated through it. -/
abbrev VS0_1 : View sig .tc .vmem S2x2048x256 .f32 := scM0_1.view
/-- The scratch `arg11` the kernel carries between points, as a view: what it holds is stated through it. -/
abbrev VS0_2 : View sig .tc .vmem S2x2048x256 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.FfnActIdeal.Gen

end
-- ==== Proof.ActIRunA.lean ====
module

public import proofs.«01_k».proof.Proof.ActIRuns

@[expose] public section

-- membership in a rectangle of production extents (`View.cover_of_tiled`): the elaborator's structural look
-- recurses once per coordinate of the long axes
set_option maxRecDepth 16384

noncomputable section

namespace Cert.FfnActIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken, `scf.if` 1 taken, `scf.if` 2 not taken: points 0, 23, … 161: 8 of 184), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) :
    Σ' (L6 : List (View.Piece (Elt F) S2048x256 .bf16)), Σ' (LS0 : List (View.Piece (Elt F) S2048x2048 .bf16)), Σ' (LS1 : List (View.Piece (Elt F) S2x2048x256 .f32)), { LS2 : List (View.Piece (Elt F) S2x2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_ffn_act i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    rw [body_slots, slotBody_congr i _ _ ![1, 0, 0] ![0, 0, 0] (off2_even i hc1) (off3_even i hc1) _ _ slot_second slot_first]
    unfold slotBody
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    have hrd0 : ∀ (𝒱 : Variants) (c : Dev nD) (bd : Option 𝒱.V) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (k0_h1 : k0_cond1 i = 1#1) (v29 : Vec F S1x1x2048 .f32) (v31 : Vec F S1x1x2048 .f32) (X_arg2 : BufTy.Contents (Elt F) arg2.view.ty) (X_arg4 : BufTy.Contents (Elt F) arg4.view.ty) (hrdF : BufTy.Contents (Elt F) arg9.view.ty) (hrdB : LoadRect S2048x2048), arg9.view.readAt (Elt F) hrdB (arg9.view.writes (Elt F) hrdF (pb_k0_t1 (F := F) 𝒱 c bd i arg2 harg2 arg3 harg3 arg4 harg4 arg5 harg5 arg6 harg6 arg7 harg7 arg8 harg8 arg9 harg9 arg10 harg10 arg11 harg11 k0_h1 v29 v31 X_arg2 X_arg4 (Scf.trips k0_t1_loop.lb k0_t1_loop.ub k0_t1_loop.st))) = arg9.view.readCov (pb_k0_t1 (F := F) 𝒱 c bd i arg2 harg2 arg3 harg3 arg4 harg4 arg5 harg5 arg6 harg6 arg7 harg7 arg8 harg8 arg9 harg9 arg10 harg10 arg11 harg11 k0_h1 v29 v31 X_arg2 X_arg4 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 k0_h1 v29 v31 X_arg2 X_arg4 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 k0_h1 v29 v31 X_arg2 X_arg4 (Scf.trips k0_t1_loop.lb k0_t1_loop.ub k0_t1_loop.st)) S256x2048.size (by sl_kernel_rfl) (hrdB.idx hrdJ))
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.FfnActIdeal.Gen

end
-- ==== Proof.ActIRunB.lean ====
module

public import proofs.«01_k».proof.Proof.ActIRunA

@[expose] public section

-- membership in a rectangle of production extents (`View.cover_of_tiled`): the elaborator's structural look
-- recurses once per coordinate of the long axes
set_option maxRecDepth 16384

noncomputable section

namespace Cert.FfnActIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 not taken, `scf.if` 2 taken: points 1, 3, … 182: 88 of 184), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : ¬cond0_1 i) (hc2 : cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) :
    Σ' (L6 : List (View.Piece (Elt F) S2048x256 .bf16)), Σ' (LS0 : List (View.Piece (Elt F) S2048x2048 .bf16)), Σ' (LS1 : List (View.Piece (Elt F) S2x2048x256 .f32)), { LS2 : List (View.Piece (Elt F) S2x2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0_ffn_act i arg2 harg2 arg3 harg3 arg4 harg4 arg5 harg5 arg6 harg6 arg7 harg7 arg8 harg8 arg9 harg9 arg10 harg10 arg11 harg11) K } := by
  refine ⟨?_, [], ?_, ?_, fun E K => ?run⟩
  case run =>
    rw [body_slots, slotBody_congr i _ _ ![0, 0, 0] ![1, 0, 0] (off2_odd i hc2) (off3_odd i hc2) _ _ slot_first slot_second]
    unfold slotBody
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]; · iexact HS1
    iexact HS2

end Cert.FfnActIdeal.Gen

end
-- ==== Proof.ActIRunC.lean ====
module

public import proofs.«01_k».proof.Proof.ActIRunB

@[expose] public section

-- membership in a rectangle of production extents (`View.cover_of_tiled`): the elaborator's structural look
-- recurses once per coordinate of the long axes
set_option maxRecDepth 16384

noncomputable section

namespace Cert.FfnActIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 taken, `scf.if` 2 not taken: points 2, 4, … 183: 88 of 184), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) :
    Σ' (L6 : List (View.Piece (Elt F) S2048x256 .bf16)), Σ' (LS0 : List (View.Piece (Elt F) S2048x2048 .bf16)), Σ' (LS1 : List (View.Piece (Elt F) S2x2048x256 .f32)), { LS2 : List (View.Piece (Elt F) S2x2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0_ffn_act i arg2 harg2 arg3 harg3 arg4 harg4 arg5 harg5 arg6 harg6 arg7 harg7 arg8 harg8 arg9 harg9 arg10 harg10 arg11 harg11) K } := by
  refine ⟨?_, [], ?_, ?_, fun E K => ?run⟩
  case run =>
    rw [body_slots, slotBody_congr i _ _ ![1, 0, 0] ![0, 0, 0] (off2_even i hc1) (off3_even i hc1) _ _ slot_second slot_first]
    unfold slotBody
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]; · iexact HS1
    iexact HS2

end Cert.FfnActIdeal.Gen

end
-- ==== Proof.ActIFrame.lean ====
module

public import proofs.«01_k».proof.Proof.ActIRunC
public import Idealize.ShloMosaic.Lib.Claim

@[expose] public section

-- membership in a rectangle of production extents (`View.cover_of_tiled`): the elaborator's structural look
-- recurses once per coordinate of the long axes
set_option maxRecDepth 16384

noncomputable section

namespace Cert.FfnActIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (1 store of `S2048x256`, checked by the kernel's evaluation: Lib/Ring.lean `Piece.tiledL`, linear in the pieces, through a loop's `@[irreducible]` trip theorem too), so they cover it. -/
theorem cover0_A_6 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (y : S2048x256.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4 x5).1 S2048x256.size (by sl_kernel_rfl) y

/-- What case A leaves in output 6's staging buffer: its pieces read back over junk. -/
def out0_A_6 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) : Vec F S2048x256 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 hc2 x0 x1 x2 x3 x4 x5).1)

/-- Case A's pieces for scratch `arg9`, which the kernel carries between points, cover it: 8 pieces of `S256x2048` tiling it (Lib/Ring.lean `Piece.tiledL`). -/
theorem scover0_A_0 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (y : S2048x2048.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4 x5).2.1 S256x2048.size (by sl_kernel_rfl) y

/-- What case A leaves in scratch `arg9`: its pieces read back over junk. -/
def sout0_A_0 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) : Vec F S2048x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 x0 x1 x2 x3 x4 x5).2.1)

/-- Case A's pieces for scratch `arg10`, which the kernel carries between points, cover it: 2 pieces of `S1x2048x256` tiling it (Lib/Ring.lean `Piece.tiledL`). -/
theorem scover0_A_1 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (y : S2x2048x256.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1 S1x2048x256.size (by sl_kernel_rfl) y

/-- What case A leaves in scratch `arg10`: its pieces read back over junk. -/
def sout0_A_1 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) : Vec F S2x2048x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1)

/-- Case A's pieces for scratch `arg11`, which the kernel carries between points, cover it: 2 pieces of `S1x2048x256` tiling it (Lib/Ring.lean `Piece.tiledL`). -/
theorem scover0_A_2 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (y : S2x2048x256.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.2.1 S1x2048x256.size (by sl_kernel_rfl) y

/-- What case A leaves in scratch `arg11`: its pieces read back over junk. -/
def sout0_A_2 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) : Vec F S2x2048x256 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.2.1)

/-- Case B's pieces for output 6 tile its block (1 store of `S2048x256`, checked by the kernel's evaluation: Lib/Ring.lean `Piece.tiledL`, linear in the pieces, through a loop's `@[irreducible]` trip theorem too), so they cover it. -/
theorem cover0_B_6 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : ¬cond0_1 i) (hc2 : cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) (y : S2048x256.Idx) :
    ∃ pc ∈ (kernelRun0_B c i arg2 harg2 arg3 harg3 arg4 harg4 arg5 harg5 arg6 harg6 arg7 harg7 arg8 harg8 arg9 harg9 arg10 harg10 arg11 harg11 hc0 hc1 hc2 x0 x1 x2 x3 x4 x5 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 x0 x1 x2 x3 x4 x5 xs0 xs1 xs2).1 S2048x256.size (by sl_kernel_rfl) y

/-- What case B leaves in output 6's staging buffer: its pieces read back over junk. -/
def out0_B_6 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : ¬cond0_1 i) (hc2 : cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) : Vec F S2048x256 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 hc2 x0 x1 x2 x3 x4 x5 xs0 xs1 xs2).1)

/-- Case B stores nothing into scratch `arg9`: it holds what the point before left. -/
def sout0_B_0 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : ¬cond0_1 i) (hc2 : cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) : Vec F S2048x2048 .bf16 := xs0

/-- What case B leaves in scratch `arg10`: its pieces (stores, a counted loop's segment) read back over what the point before left there, which it read first. -/
def sout0_B_1 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : ¬cond0_1 i) (hc2 : cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) : Vec F S2x2048x256 .f32 :=
  arg10.view.read (Elt F) (arg10.view.writes (Elt F) (harg10.unread xs1) (kernelRun0_B c i arg2 harg2 arg3 harg3 arg4 harg4 arg5 harg5 arg6 harg6 arg7 harg7 arg8 harg8 arg9 harg9 arg10 harg10 arg11 harg11 hc0 hc1 hc2 x0 x1 x2 x3 x4 x5 xs0 xs1 xs2).2.2.1)

/-- What case B leaves in scratch `arg11`: its pieces (stores, a counted loop's segment) read back over what the point before left there, which it read first. -/
def sout0_B_2 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : ¬cond0_1 i) (hc2 : cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) : Vec F S2x2048x256 .f32 :=
  arg11.view.read (Elt F) (arg11.view.writes (Elt F) (harg11.unread xs2) (kernelRun0_B c i arg2 harg2 arg3 harg3 arg4 harg4 arg5 harg5 arg6 harg6 arg7 harg7 arg8 harg8 arg9 harg9 arg10 harg10 arg11 harg11 hc0 hc1 hc2 x0 x1 x2 x3 x4 x5 xs0 xs1 xs2).2.2.2.1)

/-- Case C's pieces for output 6 tile its block (1 store of `S2048x256`, checked by the kernel's evaluation: Lib/Ring.lean `Piece.tiledL`, linear in the pieces, through a loop's `@[irreducible]` trip theorem too), so they cover it. -/
theorem cover0_C_6 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) (y : S2048x256.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 x5 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 x5 xs0 xs1 xs2).1 S2048x256.size (by sl_kernel_rfl) y

/-- What case C leaves in output 6's staging buffer: its pieces read back over junk. -/
def out0_C_6 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) : Vec F S2048x256 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 hc2 x0 x1 x2 x3 x4 x5 xs0 xs1 xs2).1)

/-- Case C stores nothing into scratch `arg9`: it holds what the point before left. -/
def sout0_C_0 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) : Vec F S2048x2048 .bf16 := xs0

/-- What case C leaves in scratch `arg10`: its pieces (stores, a counted loop's segment) read back over what the point before left there, which it read first. -/
def sout0_C_1 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) : Vec F S2x2048x256 .f32 :=
  arg10.view.read (Elt F) (arg10.view.writes (Elt F) (harg10.unread xs1) (kernelRun0_C c i arg2 harg2 arg3 harg3 arg4 harg4 arg5 harg5 arg6 harg6 arg7 harg7 arg8 harg8 arg9 harg9 arg10 harg10 arg11 harg11 hc0 hc1 hc2 x0 x1 x2 x3 x4 x5 xs0 xs1 xs2).2.2.1)

/-- What case C leaves in scratch `arg11`: its pieces (stores, a counted loop's segment) read back over what the point before left there, which it read first. -/
def sout0_C_2 (c : Dev nD) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (hc0 : ¬cond0_0 i) (hc1 : cond0_1 i) (hc2 : ¬cond0_2 i)
    (x0 : Vec F S2048x2048 .f32) (x1 : Vec F S1x8x2048 .f32) (x2 : Vec F S1x2048 .f32) (x3 : Vec F S2048x256 .f32) (x4 : Vec F S2048x256 .f32) (x5 : Vec F S9x256 .f32) (xs0 : Vec F S2048x2048 .bf16) (xs1 : Vec F S2x2048x256 .f32) (xs2 : Vec F S2x2048x256 .f32) : Vec F S2x2048x256 .f32 :=
  arg11.view.read (Elt F) (arg11.view.writes (Elt F) (harg11.unread xs2) (kernelRun0_C c i arg2 harg2 arg3 harg3 arg4 harg4 arg5 harg5 arg6 harg6 arg7 harg7 arg8 harg8 arg9 harg9 arg10 harg10 arg11 harg11 hc0 hc1 hc2 x0 x1 x2 x3 x4 x5 xs0 xs1 xs2).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x256 .bf16 × Vec F S2048x2048 .bf16 × Vec F S2x2048x256 .f32 × Vec F S2x2048x256 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 23 = 0 then
      if h1 : ¬((n + 1) % 23 % 2 = 1) then
        if h2 : ((n + 1) % 23 % 2 = 1) then
          False.elim (by have hN : n + 1 < 184 := lt_of_lt_of_eq hn (show cfg0.N = 184 from N_0); omega)
        else
          (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        False.elim (by have hN : n + 1 < 184 := lt_of_lt_of_eq hn (show cfg0.N = 184 from N_0); omega)
    else
      if h1 : ¬((n + 1) % 23 % 2 = 1) then
        if h2 : ((n + 1) % 23 % 2 = 1) then
          False.elim (by have hN : n + 1 < 184 := lt_of_lt_of_eq hn (show cfg0.N = 184 from N_0); omega)
        else
          (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)
      else
        if h2 : ((n + 1) % 23 % 2 = 1) then
          (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)
        else
          False.elim (by have hN : n + 1 < 184 := lt_of_lt_of_eq hn (show cfg0.N = 184 from N_0); omega)

/-- `outsAt0` at a point of case A: that case's contents. -/
theorem outsAt0_A (c : Dev nD) (t : Fin cfg0.N) (h0 : t.val % 23 = 0) (h1 : ¬(t.val % 23 % 2 = 1)) (h2 : ¬(t.val % 23 % 2 = 1)) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 23 = 0) (h1 : ¬¬(t.val % 23 % 2 = 1)) (h2 : (t.val % 23 % 2 = 1)) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents, over what the point before left. -/
theorem outsAt0_C (c : Dev nD) (t : Fin cfg0.N) (h0 : ¬t.val % 23 = 0) (h1 : ¬(t.val % 23 % 2 = 1)) (h2 : ¬(t.val % 23 % 2 = 1)) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What window 1's buffer holds after a point. -/
theorem after0_1 (c : Dev nD) (t : Fin cfg0.N) : (dats m 0 c).after 1 t = iblk m c 1 t := by dsimp only [dats]
/-- What window 2's buffer holds after a point. -/
theorem after0_2 (c : Dev nD) (t : Fin cfg0.N) : (dats m 0 c).after 2 t = iblk m c 2 t := by dsimp only [dats]
/-- What window 3's buffer holds after a point. -/
theorem after0_3 (c : Dev nD) (t : Fin cfg0.N) : (dats m 0 c).after 3 t = iblk m c 3 t := by dsimp only [dats]
/-- What window 4's buffer holds after a point. -/
theorem after0_4 (c : Dev nD) (t : Fin cfg0.N) : (dats m 0 c).after 4 t = iblk m c 4 t := by dsimp only [dats]
/-- What window 5's buffer holds after a point. -/
theorem after0_5 (c : Dev nD) (t : Fin cfg0.N) : (dats m 0 c).after 5 t = iblk m c 5 t := by dsimp only [dats]
/-- What window 6's buffer holds after a point. -/
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1's buffer holds before a point. -/
theorem before0_1 (c : Dev nD) (t : Fin cfg0.N) (d) : (dats m 0 c).before 1 t d = iblk m c 1 t :=
  before0_1_of m (dats m 0 c) (A_eq m c 1) (after0_1 m c) t d
/-- What window 2's buffer holds before a point. -/
theorem before0_2 (c : Dev nD) (t : Fin cfg0.N) (d) : (dats m 0 c).before 2 t d = iblk m c 2 t :=
  before0_2_of m (dats m 0 c) (A_eq m c 2) (after0_2 m c) t d
/-- What window 3's buffer holds before a point. -/
theorem before0_3 (c : Dev nD) (t : Fin cfg0.N) (d) : (dats m 0 c).before 3 t d = iblk m c 3 t :=
  before0_3_of m (dats m 0 c) (A_eq m c 3) (after0_3 m c) t d
/-- What window 4's buffer holds before a point. -/
theorem before0_4 (c : Dev nD) (t : Fin cfg0.N) (d) : (dats m 0 c).before 4 t d = iblk m c 4 t :=
  before0_4_of m (dats m 0 c) (A_eq m c 4) (after0_4 m c) t d
/-- What window 5's buffer holds before a point. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 184 := lt_of_lt_of_eq t.isLt (show cfg0.N = 184 from N_0)
  by_cases h0 : t.val % 23 = 0
  · by_cases h1 : ¬(t.val % 23 % 2 = 1)
    · by_cases h2 : (t.val % 23 % 2 = 1)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        by_cases hz : t.val = 0
        · rw [PhiS_castSucc m c t, PhiS_zero m c _ _ hz, PhiA0_eq]
          rw [outsAt0_A m c t h0 h1 h2]
          unfold out0_A_6 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          iintro ⟨H0, H1, H2, H3, H4, H5, ⟨%e6, H6⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
        · rw [PhiS_castSucc m c t, PhiS_pos m c _ _ hz]
          rw [outsAt0_A m c t h0 h1 h2]
          unfold out0_A_6 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexists _; iexact HS0
          isplitl [HS1]; · iexists _; iexact HS1
          isplitl [HS2]; · iexists _; iexact HS2
          iintro ⟨H0, H1, H2, H3, H4, H5, ⟨%e6, H6⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
    · exfalso; omega
  · by_cases h1 : ¬(t.val % 23 % 2 = 1)
    · by_cases h2 : (t.val % 23 % 2 = 1)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1) (fun h => h2 ((hcond0_2 t).mp h))], after0_6]
        by_cases hz : t.val = 0
        · exfalso; have hN : t.val < 184 := lt_of_lt_of_eq t.isLt (show cfg0.N = 184 from N_0); omega
        · rw [PhiS_castSucc m c t, PhiS_pos m c _ _ hz]
          rw [outsAt0_C m c t h0 h1 h2]
          unfold out0_C_6 sout0_C_0 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_C c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          iintro ⟨H0, H1, H2, H3, H4, H5, ⟨%e6, H6⟩, HS0, HS1, HS2⟩
          isplitl [HS0 HS1 HS2 Hg]
          · isplitl [HS0 HS1 HS2]
            · isplitl [HS0]
              · iexact HS0
              isplitl [HS1]
              · unfold owns; iexists _; isplitr
                swap; · iexact HS1
                ipureintro; rfl
              unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _)
    · by_cases h2 : (t.val % 23 % 2 = 1)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) (fun h => h1 ((hcond0_1 t).mp h)) ((hcond0_2 t).mpr h2)], after0_6]
        by_cases hz : t.val = 0
        · exfalso; have hN : t.val < 184 := lt_of_lt_of_eq t.isLt (show cfg0.N = 184 from N_0); omega
        · rw [PhiS_castSucc m c t, PhiS_pos m c _ _ hz]
          rw [outsAt0_B m c t h0 h1 h2]
          unfold out0_B_6 sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          iintro ⟨H0, H1, H2, H3, H4, H5, ⟨%e6, H6⟩, HS0, HS1, HS2⟩
          isplitl [HS0 HS1 HS2 Hg]
          · isplitl [HS0 HS1 HS2]
            · isplitl [HS0]
              · iexact HS0
              isplitl [HS1]
              · unfold owns; iexists _; isplitr
                swap; · iexact HS1
                ipureintro; rfl
              unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 184 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, the argument arrays are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnActIdeal.Gen

end
-- ==== Proof.ActIValue.lean ====
module

public import proofs.«01_k».proof.Proof.ActIFrame
public import Idealize.ShloMosaic.Lib.Pipeline.Value

@[expose] public section

noncomputable section

namespace Cert.FfnActIdeal.Value

open Cert.FfnActIdeal Cert.FfnActIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 23 = 0) (h1 : ¬(t.val % 23 % 2 = 1)) (h2 : ¬(t.val % 23 % 2 = 1)) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t)) := by
  simp only [flushed6, outsAt0_A m c t h0 h1 h2]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 23 = 0) (h1 : ¬¬(t.val % 23 % 2 = 1)) (h2 : (t.val % 23 % 2 = 1)) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_B m c t h0 h1 h2]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 23 = 0) (h1 : ¬(t.val % 23 % 2 = 1)) (h2 : ¬(t.val % 23 % 2 = 1)) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_C m c t h0 h1 h2]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S16384x5632.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the frame run, argument `main_arg4` is as launched: input window 5 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 23)
    stores the scratch whole without reading what it held, and `acc` does not enter there (nor where no point meets the
    conditions: `acc`, never read). -/
def scAt0_0 (c : Dev nD) (n : ℕ) (hb : n < cfg0.N) (acc : Vec F S2048x2048 .bf16) : Vec F S2048x2048 .bf16 :=
  if h0 : n % 23 = 0 then
    if h1 : ¬(n % 23 % 2 = 1) then
      if h2 : (n % 23 % 2 = 1) then
        acc
      else
        sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
    else
      acc
  else
    if h1 : ¬(n % 23 % 2 = 1) then
      if h2 : (n % 23 % 2 = 1) then
        acc
      else
        sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2
    else
      if h2 : (n % 23 % 2 = 1) then
        sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2
      else
        acc

/-- WHAT CARRIED SCRATCH 0 HOLDS after point `t`: the fold of its run up to `t`, from the reset at the run's first point
    `23·(t / 23)` (Lib/Pipeline/Value.lean `Pipeline.eq_accAt_of_mod`, by the frame's `outsAt0_κ`; without enumerating the points). -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (23 * (t.val / 23)) (t.val % 23)
      (by have h1 := t.isLt; have h2 := Nat.div_add_mod t.val 23; omega) :=
  Pipeline.eq_accAt_of_mod (fun n h => (outsAt0 m c n h).2.1) 23 (fun n h => scAt0_0 m c n h (VS0_0.read (Elt F) VS0_0.junk)) (scAt0_0 m c)
    (fun n h hn => by
      have hN := lt_of_lt_of_eq h (show cfg0.N = 184 from N_0)
      by_cases h0 : n % 23 = 0 <;> by_cases h1 : ¬(n % 23 % 2 = 1) <;> by_cases h2 : (n % 23 % 2 = 1)
      all_goals first | (exfalso; omega) | (rw [outsAt0_A m c ⟨n, h⟩ h0 h1 h2]; dsimp only; unfold scAt0_0; rw [dif_pos h0, dif_pos h1, dif_neg h2] <;> try rfl) | (rw [outsAt0_B m c ⟨n, h⟩ h0 h1 h2]; dsimp only; unfold scAt0_0; rw [dif_neg h0, dif_neg h1, dif_pos h2] <;> try rfl) | (rw [outsAt0_C m c ⟨n, h⟩ h0 h1 h2]; dsimp only; unfold scAt0_0; rw [dif_neg h0, dif_pos h1, dif_neg h2] <;> try rfl))
    (fun n h hn => by
      have hN := lt_of_lt_of_eq h (show cfg0.N = 184 from N_0)
      by_cases h0 : (n + 1) % 23 = 0 <;> by_cases h1 : ¬((n + 1) % 23 % 2 = 1) <;> by_cases h2 : ((n + 1) % 23 % 2 = 1)
      all_goals first | (exfalso; omega) | (rw [outsAt0_A m c ⟨n + 1, h⟩ h0 h1 h2]; dsimp only; unfold scAt0_0; rw [dif_pos h0, dif_pos h1, dif_neg h2] <;> try rfl) | (rw [outsAt0_B m c ⟨n + 1, h⟩ h0 h1 h2]; dsimp only; unfold scAt0_0; rw [dif_neg h0, dif_neg h1, dif_pos h2] <;> try rfl) | (rw [outsAt0_C m c ⟨n + 1, h⟩ h0 h1 h2]; dsimp only; unfold scAt0_0; rw [dif_neg h0, dif_pos h1, dif_neg h2] <;> try rfl))
    (by decide) t.val t.isLt _

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the points ≡ 0 (mod 23)
    stores the scratch whole without reading what it held, and `acc` does not enter there (nor where no point meets the
    conditions: `acc`, never read). -/
def scAt0_1 (c : Dev nD) (n : ℕ) (hb : n < cfg0.N) (acc : Vec F S2x2048x256 .f32) : Vec F S2x2048x256 .f32 :=
  if h0 : n % 23 = 0 then
    if h1 : ¬(n % 23 % 2 = 1) then
      if h2 : (n % 23 % 2 = 1) then
        acc
      else
        sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
    else
      acc
  else
    if h1 : ¬(n % 23 % 2 = 1) then
      if h2 : (n % 23 % 2 = 1) then
        acc
      else
        sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2
    else
      if h2 : (n % 23 % 2 = 1) then
        sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2
      else
        acc

/-- WHAT CARRIED SCRATCH 1 HOLDS after point `t`: the fold of its run up to `t`, from the reset at the run's first point
    `23·(t / 23)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.1 = Pipeline.accAt (fun n h => scAt0_1 m c n h (VS0_1.read (Elt F) VS0_1.junk)) (scAt0_1 m c) (23 * (t.val / 23)) (t.val % 23)
      (by have h1 := t.isLt; have h2 := Nat.div_add_mod t.val 23; omega) :=
  Pipeline.eq_accAt_of_mod (fun n h => (outsAt0 m c n h).2.2.1) 23 (fun n h => scAt0_1 m c n h (VS0_1.read (Elt F) VS0_1.junk)) (scAt0_1 m c)
    (fun n h hn => by
      have hN := lt_of_lt_of_eq h (show cfg0.N = 184 from N_0)
      by_cases h0 : n % 23 = 0 <;> by_cases h1 : ¬(n % 23 % 2 = 1) <;> by_cases h2 : (n % 23 % 2 = 1)
      all_goals first | (exfalso; omega) | (rw [outsAt0_A m c ⟨n, h⟩ h0 h1 h2]; dsimp only; unfold scAt0_1; rw [dif_pos h0, dif_pos h1, dif_neg h2] <;> try rfl) | (rw [outsAt0_B m c ⟨n, h⟩ h0 h1 h2]; dsimp only; unfold scAt0_1; rw [dif_neg h0, dif_neg h1, dif_pos h2] <;> try rfl) | (rw [outsAt0_C m c ⟨n, h⟩ h0 h1 h2]; dsimp only; unfold scAt0_1; rw [dif_neg h0, dif_pos h1, dif_neg h2] <;> try rfl))
    (fun n h hn => by
      have hN := lt_of_lt_of_eq h (show cfg0.N = 184 from N_0)
      by_cases h0 : (n + 1) % 23 = 0 <;> by_cases h1 : ¬((n + 1) % 23 % 2 = 1) <;> by_cases h2 : ((n + 1) % 23 % 2 = 1)
      all_goals first | (exfalso; omega) | (rw [outsAt0_A m c ⟨n + 1, h⟩ h0 h1 h2]; dsimp only; unfold scAt0_1; rw [dif_pos h0, dif_pos h1, dif_neg h2] <;> try rfl) | (rw [outsAt0_B m c ⟨n + 1, h⟩ h0 h1 h2]; dsimp only; unfold scAt0_1; rw [dif_neg h0, dif_neg h1, dif_pos h2] <;> try rfl) | (rw [outsAt0_C m c ⟨n + 1, h⟩ h0 h1 h2]; dsimp only; unfold scAt0_1; rw [dif_neg h0, dif_pos h1, dif_neg h2] <;> try rfl))
    (by decide) t.val t.isLt _

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the points ≡ 0 (mod 23)
    stores the scratch whole without reading what it held, and `acc` does not enter there (nor where no point meets the
    conditions: `acc`, never read). -/
def scAt0_2 (c : Dev nD) (n : ℕ) (hb : n < cfg0.N) (acc : Vec F S2x2048x256 .f32) : Vec F S2x2048x256 .f32 :=
  if h0 : n % 23 = 0 then
    if h1 : ¬(n % 23 % 2 = 1) then
      if h2 : (n % 23 % 2 = 1) then
        acc
      else
        sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
    else
      acc
  else
    if h1 : ¬(n % 23 % 2 = 1) then
      if h2 : (n % 23 % 2 = 1) then
        acc
      else
        sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc
    else
      if h2 : (n % 23 % 2 = 1) then
        sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc
      else
        acc

/-- WHAT CARRIED SCRATCH 2 HOLDS after point `t`: the fold of its run up to `t`, from the reset at the run's first point
    `23·(t / 23)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2 = Pipeline.accAt (fun n h => scAt0_2 m c n h (VS0_2.read (Elt F) VS0_2.junk)) (scAt0_2 m c) (23 * (t.val / 23)) (t.val % 23)
      (by have h1 := t.isLt; have h2 := Nat.div_add_mod t.val 23; omega) :=
  Pipeline.eq_accAt_of_mod (fun n h => (outsAt0 m c n h).2.2.2) 23 (fun n h => scAt0_2 m c n h (VS0_2.read (Elt F) VS0_2.junk)) (scAt0_2 m c)
    (fun n h hn => by
      have hN := lt_of_lt_of_eq h (show cfg0.N = 184 from N_0)
      by_cases h0 : n % 23 = 0 <;> by_cases h1 : ¬(n % 23 % 2 = 1) <;> by_cases h2 : (n % 23 % 2 = 1)
      all_goals first | (exfalso; omega) | (rw [outsAt0_A m c ⟨n, h⟩ h0 h1 h2]; dsimp only; unfold scAt0_2; rw [dif_pos h0, dif_pos h1, dif_neg h2] <;> try rfl) | (rw [outsAt0_B m c ⟨n, h⟩ h0 h1 h2]; dsimp only; unfold scAt0_2; rw [dif_neg h0, dif_neg h1, dif_pos h2] <;> try rfl) | (rw [outsAt0_C m c ⟨n, h⟩ h0 h1 h2]; dsimp only; unfold scAt0_2; rw [dif_neg h0, dif_pos h1, dif_neg h2] <;> try rfl))
    (fun n h hn => by
      have hN := lt_of_lt_of_eq h (show cfg0.N = 184 from N_0)
      by_cases h0 : (n + 1) % 23 = 0 <;> by_cases h1 : ¬((n + 1) % 23 % 2 = 1) <;> by_cases h2 : ((n + 1) % 23 % 2 = 1)
      all_goals first | (exfalso; omega) | (rw [outsAt0_A m c ⟨n + 1, h⟩ h0 h1 h2]; dsimp only; unfold scAt0_2; rw [dif_pos h0, dif_pos h1, dif_neg h2] <;> try rfl) | (rw [outsAt0_B m c ⟨n + 1, h⟩ h0 h1 h2]; dsimp only; unfold scAt0_2; rw [dif_neg h0, dif_neg h1, dif_pos h2] <;> try rfl) | (rw [outsAt0_C m c ⟨n + 1, h⟩ h0 h1 h2]; dsimp only; unfold scAt0_2; rw [dif_neg h0, dif_pos h1, dif_neg h2] <;> try rfl))
    (by decide) t.val t.isLt _

end Cert.FfnActIdeal.Value

end
-- ==== Proof.FfnAct.lean ====
/- The feed-forward part's first kernel: what its array holds is the reference's term. -/
module

public import proofs.«01_k».proof.Proof.ActConv
public import proofs.«01_k».proof.Proof.ActIValue
public import Idealize.ShloMosaic.Lib.WholeRead
public import Idealize.ShloMosaic.Lib.WritesUnit

@[expose] public section

set_option maxRecDepth 16384

noncomputable section

namespace Cert.FfnActIdeal.Value

open Cert.FfnActIdeal Cert.FfnActIdeal.Gen Idealize.ShloMosaic Idealize.ShloMosaic.TcCoe

variable (m : (ℓ : Loc nD τ sig) → Buf (Elt Ideal) ℓ)

/-- The blocks of every window at a point. -/
theorem idx : ∀ t : Fin cfg0.N, win0_0.index t = ![t.val / 23, 0] ∧ win0_1.index t = ![t.val / 23, 0, 0] ∧ win0_2.index t = ![0, 0]
    ∧ win0_3.index t = ![0, min (t.val % 23) 21] ∧ win0_4.index t = ![0, 22 + min (t.val % 23) 21] ∧ win0_5.index t = ![0, t.val % 23 - 1]
    ∧ win0_6.index t = ![t.val / 23, t.val % 23 - 1] ∧ t.val / 23 < 8 :=
  (by decide +kernel : ∀ t : Fin grid0.N, _)

variable {m} in
/-- The row that a point's scratch row stands for. -/
def row (n : ℕ) (hn : n < cfg0.N) (i : Fin 2048) : Fin 16384 :=
  ⟨n / 23 * 2048 + i.val, by have := (idx ⟨n, hn⟩).2.2.2.2.2.2.2; have := i.isLt; dsimp only at *; omega⟩

/-- A trip of the loop writes one piece: its 256 rows. -/
theorem trip_pieces (𝒱 : Variants) (c : Dev nD) (bd : Option 𝒱.V) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (k0_h1 : k0_cond1 i = 1#1) (v114 : Vec Ideal S1x1x2048 .f32) (v116 : Vec Ideal S1x1x2048 .f32) (X_arg2 : BufTy.Contents (Elt Ideal) arg2.view.ty) (X_arg4 : BufTy.Contents (Elt Ideal) arg4.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 k0_h1 v114 v116 X_arg2 X_arg4 k
      = [⟨Rect.unit (s := S2048x2048) (k0_off1 k) S256x2048.size (k0_off1_inb i k k0_h1), k0_pay2 v114 v116 (View.readAt (Elt Ideal) arg2.view (Rect.unit (s := S2048x2048) (k0_off1 k) S256x2048.size (k0_off1_inb i k k0_h1)).toLoadRect X_arg2) (View.readAt (Elt Ideal) arg4.view (Rect.unit (s := S1x2048) ![0, 0] S1x2048.size inb_S1x2048_S1x2048_0_0).toLoadRect X_arg4)⟩] := by
  unfold tripL_k0_t1 trip_k0_t1
  rfl

/-- Whatever every trip's piece holds at an entry, the loop's pieces hold. -/
theorem pieces_at (𝒱 : Variants) (c : Dev nD) (bd : Option 𝒱.V) (i : grid0.Coords) (arg2 : Memref sig .tc .vmem S2048x2048 .f32) (harg2 : arg2.IsWhole) (arg3 : Memref sig .tc .vmem S1x8x2048 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S9x256 .f32) (harg7 : arg7.IsWhole) (arg8 : Memref sig .tc .vmem S2048x256 .bf16) (harg8 : arg8.IsWhole) (arg9 : Memref sig .tc .vmem S2048x2048 .bf16) (harg9 : arg9.IsWhole) (arg10 : Memref sig .tc .vmem S2x2048x256 .f32) (harg10 : arg10.IsWhole) (arg11 : Memref sig .tc .vmem S2x2048x256 .f32) (harg11 : arg11.IsWhole) (k0_h1 : k0_cond1 i = 1#1) (v114 : Vec Ideal S1x1x2048 .f32) (v116 : Vec Ideal S1x1x2048 .f32) (X_arg2 : BufTy.Contents (Elt Ideal) arg2.view.ty) (X_arg4 : BufTy.Contents (Elt Ideal) arg4.view.ty) (y : S2048x2048.Idx) (v : Elt Ideal .bf16)
    (h : ∀ (k : Fin k0_t1_loop.trips) (x : S256x2048.Idx), (Rect.unit (s := S2048x2048) (k0_off1 k) S256x2048.size (k0_off1_inb i k k0_h1)).emb x = y
      → k0_pay2 v114 v116 (View.readAt (Elt Ideal) arg2.view (Rect.unit (s := S2048x2048) (k0_off1 k) S256x2048.size (k0_off1_inb i k k0_h1)).toLoadRect X_arg2) (View.readAt (Elt Ideal) arg4.view (Rect.unit (s := S1x2048) ![0, 0] S1x2048.size inb_S1x2048_S1x2048_0_0).toLoadRect X_arg4) x = v) :
    ∀ n, n ≤ k0_t1_loop.trips → View.AllAt (pb_k0_t1 (F := Ideal) 𝒱 c bd i arg2 harg2 arg3 harg3 arg4 harg4 arg5 harg5 arg6 harg6 arg7 harg7 arg8 harg8 arg9 harg9 arg10 harg10 arg11 harg11 k0_h1 v114 v116 X_arg2 X_arg4 n) y v
  | 0, _ => fun _ hp => absurd hp List.not_mem_nil
  | n + 1, hn => by
    rw [pb_k0_t1_succ 𝒱 c bd i arg2 harg2 arg3 harg3 arg4 harg4 arg5 harg5 arg6 harg6 arg7 harg7 arg8 harg8 arg9 harg9 arg10 harg10 arg11 harg11 k0_h1 v114 v116 X_arg2 X_arg4 ⟨n, hn⟩, trip_pieces]
    intro p hp
    rcases List.mem_append.mp hp with hp | hp
    · obtain rfl := List.mem_singleton.mp hp
      exact h ⟨n, hn⟩
    · exact pieces_at 𝒱 c bd i arg2 harg2 arg3 harg3 arg4 harg4 arg5 harg5 arg6 harg6 arg7 harg7 arg8 harg8 arg9 harg9 arg10 harg10 arg11 harg11 k0_h1 v114 v116 X_arg2 X_arg4 y v h n (by omega) p hp

/-- Where a trip's rows begin. -/
theorem off1_eq : ∀ k : Fin k0_t1_loop.trips, k0_off1 k = ![256 * k.val, 0] := by
  decide +kernel

/-- The rows that the first point of a run leaves in the scratch. -/
theorem rows_first (c : Dev nD) (t : Fin cfg0.N) (h0 : t.val % 23 = 0) (i : Fin 2048) (x : Fin 2048) :
    (outsAt0 m c t.val t.isLt).2.1 (ix2 i x)
      = ROWS (m ((c : Thread nD τ).loc main_arg0)) (m ((c : Thread nD τ).loc main_arg1)) (m ((c : Thread nD τ).loc main_arg2)) (ix2 (row t.val t.isLt i) x) := by
  rw [outsAt0_A m c t h0 (by omega) (by omega)]
  have e : (row t.val t.isLt i).val = t.val / 23 * 2048 + i.val := rfl
  generalize row t.val t.isLt i = r at e ⊢
  have hc := scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) ((hcond0_0 t).2 h0) ((hcond0_1 t).2 (by omega)) (fun h => absurd ((hcond0_2 t).1 h) (by omega)) (iblk m c 0 t) (iblk m c 1 t) (iblk m c 2 t) (iblk m c 3 t) (iblk m c 4 t) (iblk m c 5 t) (ix2 i x)
  refine (View.read_writes_apply_eq_canon VS0_0 _ _ _ hc).trans (View.canon_eq_of_allAt _ _ _ hc ?_)
  refine pieces_at _ _ _ _ _ _ _ _ _ _ _ _ _ _ _ _ _ _ _ _ _ _ _ _ _ _ _ _ _ _ _ ?_ _ le_rfl
  intro k y hy
  obtain ⟨p, q, rfl⟩ : ∃ p q, y = ix2 p q := ⟨y 0, y 1, by funext a; match a with | ⟨0, _⟩ => rfl | ⟨1, _⟩ => rfl⟩
  have h1 : i.val = 256 * k.val + p.val := by
    have := congrArg (fun z : S2048x2048.Idx => (z 0).val) hy
    simp only [ValueKit.rect_emb_unit_val, off1_eq] at this
    exact this.symm
  have h2 : x = q := by
    have := congrArg (fun z : S2048x2048.Idx => (z 1).val) hy
    simp only [ValueKit.rect_emb_unit_val, off1_eq] at this
    refine Fin.ext (this.symm.trans (Nat.zero_add _))
  subst h2
  have hX : ∀ z, View.readAt (Elt Ideal) (ms0_0 t).view (Rect.unit (s := S2048x2048) (k0_off1 k) S256x2048.size (k0_off1_inb (grid0.coords t) k ((hcond0_0 t).2 h0))).toLoadRect ((hs0_0 t).unread (iblk m c 0 t)) (ix2 p z)
      = m ((c : Thread nD τ).loc main_arg0) (ix2 r z) := by
    intro z
    rw [Memref.IsWhole.readAt_unread (hs0_0 t)]
    have ez : (Rect.unit (s := S2048x2048) (k0_off1 k) S256x2048.size (k0_off1_inb (grid0.coords t) k ((hcond0_0 t).2 h0))).toLoadRect.idx (ix2 p z) = ix2 i z := by
      funext a
      refine Fin.ext ?_
      refine (ValueKit.rect_emb_unit_val _ _ _ _ _).trans ?_
      refine (congrArg (· + ((ix2 p z : S256x2048.Idx) a).val) (congrFun (off1_eq k) a)).trans ?_
      match a with
      | ⟨0, _⟩ => exact h1.symm
      | ⟨1, _⟩ => exact Nat.zero_add _
    rw [ez]
    blk_point [iblk, V, idx t]
  have hS : ∀ z, View.readAt (Elt Ideal) (ms0_1 t).view (Rect.unit (s := S1x8x2048) ![0, 3, 0] S1x1x2048.size inb_S1x8x2048_S1x1x2048_0_3_0).toLoadRect ((hs0_1 t).unread (iblk m c 1 t)) (ix3 0 0 z)
      = m ((c : Thread nD τ).loc main_arg1) (ix3 ⟨r.val / 2048, by have := r.isLt; omega⟩ 3 z) := by
    intro z
    rw [Memref.IsWhole.readAt_unread (hs0_1 t)]
    have ez : (Rect.unit (s := S1x8x2048) ![0, 3, 0] S1x1x2048.size inb_S1x8x2048_S1x1x2048_0_3_0).toLoadRect.idx (ix3 0 0 z) = ix3 0 3 z := by
      funext a
      refine Fin.ext ?_
      refine (ValueKit.rect_emb_unit_val _ _ _ _ _).trans ?_
      match a with
      | ⟨0, _⟩ => rfl
      | ⟨1, _⟩ => rfl
      | ⟨2, _⟩ => exact Nat.zero_add _
    rw [ez]
    have hi := i.isLt
    blk_point [iblk, V, idx t]
  have hC : ∀ z, View.readAt (Elt Ideal) (ms0_1 t).view (Rect.unit (s := S1x8x2048) ![0, 4, 0] S1x1x2048.size inb_S1x8x2048_S1x1x2048_0_4_0).toLoadRect ((hs0_1 t).unread (iblk m c 1 t)) (ix3 0 0 z)
      = m ((c : Thread nD τ).loc main_arg1) (ix3 ⟨r.val / 2048, by have := r.isLt; omega⟩ 4 z) := by
    intro z
    rw [Memref.IsWhole.readAt_unread (hs0_1 t)]
    have ez : (Rect.unit (s := S1x8x2048) ![0, 4, 0] S1x1x2048.size inb_S1x8x2048_S1x1x2048_0_4_0).toLoadRect.idx (ix3 0 0 z) = ix3 0 4 z := by
      funext a
      refine Fin.ext ?_
      refine (ValueKit.rect_emb_unit_val _ _ _ _ _).trans ?_
      match a with
      | ⟨0, _⟩ => rfl
      | ⟨1, _⟩ => rfl
      | ⟨2, _⟩ => exact Nat.zero_add _
    rw [ez]
    have hi := i.isLt
    blk_point [iblk, V, idx t]
  have hG : ∀ z, View.readAt (Elt Ideal) (ms0_2 t).view (Rect.unit (s := S1x2048) ![0, 0] S1x2048.size inb_S1x2048_S1x2048_0_0).toLoadRect ((hs0_2 t).unread (iblk m c 2 t)) (ix2 0 z)
      = m ((c : Thread nD τ).loc main_arg2) (ix2 0 z) := by
    intro z
    rw [Memref.IsWhole.readAt_unread (hs0_2 t)]
    have ez : (Rect.unit (s := S1x2048) ![0, 0] S1x2048.size inb_S1x2048_S1x2048_0_0).toLoadRect.idx (ix2 0 z) = ix2 0 z := by
      funext a
      refine Fin.ext ?_
      refine (ValueKit.rect_emb_unit_val _ _ _ _ _).trans ?_
      match a with
      | ⟨0, _⟩ => rfl
      | ⟨1, _⟩ => exact Nat.zero_add _
    rw [ez]
    blk_point [iblk, V, idx t]
  generalize View.readAt (Elt Ideal) (ms0_0 t).view _ _ = A at hX ⊢
  generalize View.readAt (Elt Ideal) (ms0_1 t).view (Rect.unit (s := S1x8x2048) ![0, 3, 0] S1x1x2048.size inb_S1x8x2048_S1x1x2048_0_3_0).toLoadRect _ = B at hS ⊢
  generalize View.readAt (Elt Ideal) (ms0_1 t).view (Rect.unit (s := S1x8x2048) ![0, 4, 0] S1x1x2048.size inb_S1x8x2048_S1x1x2048_0_4_0).toLoadRect _ = D at hC ⊢
  generalize View.readAt (Elt Ideal) (ms0_2 t).view _ _ = E at hG ⊢
  pointwise [k0_pay2, ROWS, hX, hS, hC, hG]

/-- What the scratch of the rows holds after any point. -/
theorem rows_all (c : Dev nD) : ∀ (n : ℕ) (hn : n < cfg0.N) (i : Fin 2048) (x : Fin 2048),
    (outsAt0 m c n hn).2.1 (ix2 i x)
      = ROWS (m ((c : Thread nD τ).loc main_arg0)) (m ((c : Thread nD τ).loc main_arg1)) (m ((c : Thread nD τ).loc main_arg2)) (ix2 (row n hn i) x)
  | 0, hn, i, x => rows_first m c ⟨0, hn⟩ rfl i x
  | n + 1, hn, i, x => by
    by_cases h0 : (n + 1) % 23 = 0
    · exact rows_first m c ⟨n + 1, hn⟩ h0 i x
    · have e : row (n + 1) hn i = row n (by omega) i := Fin.ext (by show (n + 1) / 23 * 2048 + i.val = n / 23 * 2048 + i.val; omega)
      rw [e, ← rows_all c n (by omega) i x]
      by_cases h2 : (n + 1) % 23 % 2 = 1
      · rw [outsAt0_B m c ⟨n + 1, hn⟩ h0 (not_not_intro h2) h2]
        rfl
      · rw [outsAt0_C m c ⟨n + 1, hn⟩ h0 h2 h2]
        rfl

variable {m} in
/-- The column of the weights that a point's gate column is. -/
def gcol (n : ℕ) (x : Fin 256) : Fin 11264 := ⟨min (n % 23) 21 * 256 + x.val, by have := x.isLt; omega⟩

variable {m} in
/-- The column of the weights that a point's value column is. -/
def vcol (n : ℕ) (x : Fin 256) : Fin 11264 := ⟨(22 + min (n % 23) 21) * 256 + x.val, by have := x.isLt; omega⟩

/-- A point's product with its gate columns. -/
theorem prod_gate (c : Dev nD) (t : Fin cfg0.N) (h : Vec Ideal S2048x2048 .bf16)
    (hh : ∀ i x, h (ix2 i x) = ROWS (m ((c : Thread nD τ).loc main_arg0)) (m ((c : Thread nD τ).loc main_arg1)) (m ((c : Thread nD τ).loc main_arg2)) (ix2 (row t.val t.isLt i) x)) (i : Fin 2048) (x : Fin 256) :
    k0_pay16 h (iblk m c 3 t) (ix3 0 i x) = PROD (m ((c : Thread nD τ).loc main_arg0)) (m ((c : Thread nD τ).loc main_arg1)) (m ((c : Thread nD τ).loc main_arg2)) (m ((c : Thread nD τ).loc main_arg3)) (ix2 (row t.val t.isLt i) (gcol t.val x)) := by
  unfold PROD
  generalize ROWS (m ((c : Thread nD τ).loc main_arg0)) (m ((c : Thread nD τ).loc main_arg1)) (m ((c : Thread nD τ).loc main_arg2)) = H at hh ⊢
  pointwise [k0_pay16, hh]
  have e : (gcol t.val x).val = min (t.val % 23) 21 * 256 + x.val := rfl
  generalize gcol t.val x = y at e ⊢
  blk_point [iblk, V, idx t]

/-- A point's product with its value columns. -/
theorem prod_val (c : Dev nD) (t : Fin cfg0.N) (h : Vec Ideal S2048x2048 .bf16)
    (hh : ∀ i x, h (ix2 i x) = ROWS (m ((c : Thread nD τ).loc main_arg0)) (m ((c : Thread nD τ).loc main_arg1)) (m ((c : Thread nD τ).loc main_arg2)) (ix2 (row t.val t.isLt i) x)) (i : Fin 2048) (x : Fin 256) :
    k0_pay1 (k0_pay17 h (iblk m c 4 t)) (ix3 0 i x) = PROD (m ((c : Thread nD τ).loc main_arg0)) (m ((c : Thread nD τ).loc main_arg1)) (m ((c : Thread nD τ).loc main_arg2)) (m ((c : Thread nD τ).loc main_arg3)) (ix2 (row t.val t.isLt i) (vcol t.val x)) := by
  unfold PROD
  generalize ROWS (m ((c : Thread nD τ).loc main_arg0)) (m ((c : Thread nD τ).loc main_arg1)) (m ((c : Thread nD τ).loc main_arg2)) = H at hh ⊢
  pointwise [k0_pay1, k0_pay17, hh]
  have e : (vcol t.val x).val = (22 + min (t.val % 23) 21) * 256 + x.val := rfl
  generalize vcol t.val x = y at e ⊢
  blk_point [iblk, V, idx t]

/-- A load of the whole scratch of the rows reads every entry where it stands. -/
theorem full_idx (y : S2048x2048.Idx) : (Rect.unit (s := S2048x2048) ![0, 0] S2048x2048.size inb_S2048x2048_S2048x2048_0_0).toLoadRect.idx y = y := by
  funext a
  refine Fin.ext ((ValueKit.rect_emb_unit_val _ _ _ _ _).trans ?_)
  match a with
  | ⟨0, _⟩ => exact Nat.zero_add _
  | ⟨1, _⟩ => exact Nat.zero_add _

/-- A slot's entry, placed in the scratch of the slots. -/
theorem slot_at (s : Fin 2) (i : Fin 2048) (x : Fin 256) : ∀ a : Fin 3, (ix3 s i x : S2x2048x256.Idx) a = (![s.val, 0, 0] : Fin 3 → ℕ) a + ((ix3 0 i x : S1x2048x256.Idx) a).val
  | ⟨0, _⟩ => rfl
  | ⟨1, _⟩ => (Nat.zero_add _).symm
  | ⟨2, _⟩ => (Nat.zero_add _).symm

/-- A load of the whole block of the gate columns reads the block. -/
theorem iblk_load_3 (c : Dev nD) (t : Fin cfg0.N) :
    View.readAt (Elt Ideal) (ms0_3 t).view (Rect.unit (s := S2048x256) ![0, 0] S2048x256.size inb_S2048x256_S2048x256_0_0).toLoadRect ((hs0_3 t).unread (iblk m c 3 t))
      = iblk m c 3 t := by
  funext y
  rw [Memref.IsWhole.readAt_unread (hs0_3 t)]
  refine congrArg (iblk m c 3 t) (funext fun a => Fin.ext ((ValueKit.rect_emb_unit_val _ _ _ _ _).trans ?_))
  match a with
  | ⟨0, _⟩ => exact Nat.zero_add _
  | ⟨1, _⟩ => exact Nat.zero_add _

/-- A load of the whole block of the value columns reads the block. -/
theorem iblk_load_4 (c : Dev nD) (t : Fin cfg0.N) :
    View.readAt (Elt Ideal) (ms0_4 t).view (Rect.unit (s := S2048x256) ![0, 0] S2048x256.size inb_S2048x256_S2048x256_0_0).toLoadRect ((hs0_4 t).unread (iblk m c 4 t))
      = iblk m c 4 t := by
  funext y
  rw [Memref.IsWhole.readAt_unread (hs0_4 t)]
  refine congrArg (iblk m c 4 t) (funext fun a => Fin.ext ((ValueKit.rect_emb_unit_val _ _ _ _ _).trans ?_))
  match a with
  | ⟨0, _⟩ => exact Nat.zero_add _
  | ⟨1, _⟩ => exact Nat.zero_add _

/-- The first point of a run leaves its products in the first slots. -/
theorem slots_A (c : Dev nD) (t : Fin cfg0.N) (h0 : t.val % 23 = 0) (i : Fin 2048) (x : Fin 256) :
    (outsAt0 m c t.val t.isLt).2.2.1 (ix3 0 i x) = PROD (m ((c : Thread nD τ).loc main_arg0)) (m ((c : Thread nD τ).loc main_arg1)) (m ((c : Thread nD τ).loc main_arg2)) (m ((c : Thread nD τ).loc main_arg3)) (ix2 (row t.val t.isLt i) (gcol t.val x))
      ∧ (outsAt0 m c t.val t.isLt).2.2.2 (ix3 0 i x) = PROD (m ((c : Thread nD τ).loc main_arg0)) (m ((c : Thread nD τ).loc main_arg1)) (m ((c : Thread nD τ).loc main_arg2)) (m ((c : Thread nD τ).loc main_arg3)) (ix2 (row t.val t.isLt i) (vcol t.val x)) := by
  have hr := rows_first m c t h0
  rw [outsAt0_A m c t h0 (by omega) (by omega)] at hr ⊢
  frame_open at hr
  frame_open
  dsimp only at hr ⊢
  constructor
  · refine (View.read_writes_cons_unit_of_mem VS0_1 _ _ _ _ (ix3 0 i x) (ix3 0 i x) rfl (slot_at 0 i x)).trans ?_
    rw [iblk_load_3]
    refine prod_gate m c t _ (fun i x => Eq.trans ?_ (hr i x)) i x
    exact congrArg (VS0_0.read (Elt Ideal) (VS0_0.writes (Elt Ideal) VS0_0.junk _)) (full_idx (ix2 i x))
  · refine (View.read_writes_cons_unit_of_mem VS0_2 _ _ _ _ (ix3 0 i x) (ix3 0 i x) rfl (slot_at 0 i x)).trans ?_
    rw [iblk_load_4]
    refine prod_val m c t _ (fun i x => Eq.trans ?_ (hr i x)) i x
    exact congrArg (VS0_0.read (Elt Ideal) (VS0_0.writes (Elt Ideal) VS0_0.junk _)) (full_idx (ix2 i x))

/-- An odd point after the first leaves its products in the second slots. -/
theorem slots_B (c : Dev nD) (t : Fin cfg0.N) (h0 : ¬t.val % 23 = 0) (h2 : t.val % 23 % 2 = 1) (i : Fin 2048) (x : Fin 256) :
    (outsAt0 m c t.val t.isLt).2.2.1 (ix3 1 i x) = PROD (m ((c : Thread nD τ).loc main_arg0)) (m ((c : Thread nD τ).loc main_arg1)) (m ((c : Thread nD τ).loc main_arg2)) (m ((c : Thread nD τ).loc main_arg3)) (ix2 (row t.val t.isLt i) (gcol t.val x))
      ∧ (outsAt0 m c t.val t.isLt).2.2.2 (ix3 1 i x) = PROD (m ((c : Thread nD τ).loc main_arg0)) (m ((c : Thread nD τ).loc main_arg1)) (m ((c : Thread nD τ).loc main_arg2)) (m ((c : Thread nD τ).loc main_arg3)) (ix2 (row t.val t.isLt i) (vcol t.val x)) := by
  have hr : ∀ i x, (outsAt0 m c (t.val - 1) (by have := t.isLt; omega)).2.1 (ix2 i x) = ROWS (m ((c : Thread nD τ).loc main_arg0)) (m ((c : Thread nD τ).loc main_arg1)) (m ((c : Thread nD τ).loc main_arg2)) (ix2 (row t.val t.isLt i) x) := fun i x =>
    (rows_all m c (t.val - 1) (by have := t.isLt; omega) i x).trans (congrArg (fun r => ROWS (m ((c : Thread nD τ).loc main_arg0)) (m ((c : Thread nD τ).loc main_arg1)) (m ((c : Thread nD τ).loc main_arg2)) (ix2 r x))
      (Fin.ext (by show (t.val - 1) / 23 * 2048 + i.val = t.val / 23 * 2048 + i.val; omega)))
  rw [outsAt0_B m c t h0 (by omega) h2]
  frame_open
  dsimp only
  constructor
  · refine (View.read_writes_cons_unit_of_mem scM0_1.view _ _ _ _ (ix3 1 i x) (ix3 0 i x) rfl (slot_at 1 i x)).trans ?_
    rw [iblk_load_3]
    refine prod_gate m c t _ (fun i x => Eq.trans ?_ (hr i x)) i x
    rw [Memref.IsWhole.readAt_unread (Memref.isWhole_whole _), full_idx]
  · refine (View.read_writes_cons_unit_of_mem scM0_2.view _ _ _ _ (ix3 1 i x) (ix3 0 i x) rfl (slot_at 1 i x)).trans ?_
    rw [iblk_load_4]
    refine prod_val m c t _ (fun i x => Eq.trans ?_ (hr i x)) i x
    rw [Memref.IsWhole.readAt_unread (Memref.isWhole_whole _), full_idx]

/-- An even point after the first leaves its products in the first slots. -/
theorem slots_C (c : Dev nD) (t : Fin cfg0.N) (h0 : ¬t.val % 23 = 0) (h2 : ¬(t.val % 23 % 2 = 1)) (i : Fin 2048) (x : Fin 256) :
    (outsAt0 m c t.val t.isLt).2.2.1 (ix3 0 i x) = PROD (m ((c : Thread nD τ).loc main_arg0)) (m ((c : Thread nD τ).loc main_arg1)) (m ((c : Thread nD τ).loc main_arg2)) (m ((c : Thread nD τ).loc main_arg3)) (ix2 (row t.val t.isLt i) (gcol t.val x))
      ∧ (outsAt0 m c t.val t.isLt).2.2.2 (ix3 0 i x) = PROD (m ((c : Thread nD τ).loc main_arg0)) (m ((c : Thread nD τ).loc main_arg1)) (m ((c : Thread nD τ).loc main_arg2)) (m ((c : Thread nD τ).loc main_arg3)) (ix2 (row t.val t.isLt i) (vcol t.val x)) := by
  have hr : ∀ i x, (outsAt0 m c (t.val - 1) (by have := t.isLt; omega)).2.1 (ix2 i x) = ROWS (m ((c : Thread nD τ).loc main_arg0)) (m ((c : Thread nD τ).loc main_arg1)) (m ((c : Thread nD τ).loc main_arg2)) (ix2 (row t.val t.isLt i) x) := fun i x =>
    (rows_all m c (t.val - 1) (by have := t.isLt; omega) i x).trans (congrArg (fun r => ROWS (m ((c : Thread nD τ).loc main_arg0)) (m ((c : Thread nD τ).loc main_arg1)) (m ((c : Thread nD τ).loc main_arg2)) (ix2 r x))
      (Fin.ext (by show (t.val - 1) / 23 * 2048 + i.val = t.val / 23 * 2048 + i.val; omega)))
  rw [outsAt0_C m c t h0 h2 h2]
  frame_open
  dsimp only
  constructor
  · refine (View.read_writes_cons_unit_of_mem scM0_1.view _ _ _ _ (ix3 0 i x) (ix3 0 i x) rfl (slot_at 0 i x)).trans ?_
    rw [iblk_load_3]
    refine prod_gate m c t _ (fun i x => Eq.trans ?_ (hr i x)) i x
    rw [Memref.IsWhole.readAt_unread (Memref.isWhole_whole _), full_idx]
  · refine (View.read_writes_cons_unit_of_mem scM0_2.view _ _ _ _ (ix3 0 i x) (ix3 0 i x) rfl (slot_at 0 i x)).trans ?_
    rw [iblk_load_4]
    refine prod_val m c t _ (fun i x => Eq.trans ?_ (hr i x)) i x
    rw [Memref.IsWhole.readAt_unread (Memref.isWhole_whole _), full_idx]

/-- The columns of the weights of the taps that a point reads. -/
theorem taps_at (c : Dev nD) (t : Fin cfg0.N) (k : Fin 9) (inb : ∀ a : Fin 2, (![k.val, 0] : Fin 2 → ℕ) a + S1x256.size a ≤ S9x256.size a)
    (x : Fin 256) (y : Fin 5632) (hy : y.val = (t.val % 23 - 1) * 256 + x.val) :
    View.ld (iblk m c 5 t) (Rect.unit (s := S9x256) ![k.val, 0] S1x256.size inb) (ix2 0 x) = (m ((c : Thread nD τ).loc main_arg4)) (ix2 k y) := by
  have ez : (Rect.unit (s := S9x256) ![k.val, 0] S1x256.size inb).emb (ix2 0 x) = ix2 k x := by
    funext a
    refine Fin.ext ((ValueKit.rect_emb_unit_val _ _ _ _ _).trans ?_)
    match a with
    | ⟨0, _⟩ => rfl
    | ⟨1, _⟩ => exact Nat.zero_add _
  refine (congrArg (iblk m c 5 t) ez).trans ?_
  blk_point [iblk, V, idx t]

/-- What a point writes of its output is the reference's, when the slots it reads hold the column before. -/
theorem point (c : Dev nD) (t : Fin cfg0.N) (h0 : ¬t.val % 23 = 0) (v vv : Vec Ideal S1x2048x256 .f32)
    (hv : ∀ i x, v (ix3 0 i x) = PROD (m ((c : Thread nD τ).loc main_arg0)) (m ((c : Thread nD τ).loc main_arg1)) (m ((c : Thread nD τ).loc main_arg2)) (m ((c : Thread nD τ).loc main_arg3)) (ix2 (row t.val t.isLt i) (gcol (t.val - 1) x)))
    (hvv : ∀ i x, vv (ix3 0 i x) = PROD (m ((c : Thread nD τ).loc main_arg0)) (m ((c : Thread nD τ).loc main_arg1)) (m ((c : Thread nD τ).loc main_arg2)) (m ((c : Thread nD τ).loc main_arg3)) (ix2 (row t.val t.isLt i) (vcol (t.val - 1) x))) (y : S2048x256.Idx) :
    k0_pay15 (k0_pay11 (k0_pay5 v) k0_pay6 k0_pay7 (k0_pay8 v) (Scalar.ofBits .f32 0x00000000#32) (View.ld (iblk m c 5 t) (Rect.unit (s := S9x256) ![0, 0] S1x256.size inb_S9x256_S1x256_0_0)) (View.ld (iblk m c 5 t) (Rect.unit (s := S9x256) ![1, 0] S1x256.size inb_S9x256_S1x256_1_0)) (View.ld (iblk m c 5 t) (Rect.unit (s := S9x256) ![2, 0] S1x256.size inb_S9x256_S1x256_2_0)))
      (k0_pay12 (k0_pay5 v) k0_pay6 k0_pay7 (k0_pay8 v) (Scalar.ofBits .f32 0x00000000#32) (View.ld (iblk m c 5 t) (Rect.unit (s := S9x256) ![3, 0] S1x256.size inb_S9x256_S1x256_3_0)) (View.ld (iblk m c 5 t) (Rect.unit (s := S9x256) ![4, 0] S1x256.size inb_S9x256_S1x256_4_0)) (View.ld (iblk m c 5 t) (Rect.unit (s := S9x256) ![5, 0] S1x256.size inb_S9x256_S1x256_5_0)))
      (k0_pay13 (k0_pay5 v) k0_pay7 (k0_pay8 v) (Scalar.ofBits .f32 0x00000000#32) (View.ld (iblk m c 5 t) (Rect.unit (s := S9x256) ![6, 0] S1x256.size inb_S9x256_S1x256_6_0)) (View.ld (iblk m c 5 t) (Rect.unit (s := S9x256) ![7, 0] S1x256.size inb_S9x256_S1x256_7_0)))
      (k0_pay14 (k0_pay5 v) k0_pay6 (View.ld (iblk m c 5 t) (Rect.unit (s := S9x256) ![8, 0] S1x256.size inb_S9x256_S1x256_8_0))) vv y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  obtain ⟨i, x, rfl⟩ : ∃ i x, y = ix2 i x := ⟨y 0, y 1, by funext a; match a with | ⟨0, _⟩ => rfl | ⟨1, _⟩ => rfl⟩
  have hb := (idx t).2.2.2.2.2.2.2
  have hi := i.isLt
  have hx := x.isLt
  have hm : t.val % 23 < 23 := Nat.mod_lt _ (by decide)
  obtain ⟨Y, hY⟩ : ∃ Y : Fin 5632, Y.val = (t.val % 23 - 1) * 256 + x.val := ⟨⟨(t.val % 23 - 1) * 256 + x.val, by omega⟩, rfl⟩
  have e : ((cfg0.win 6).blk t).view.emb (ix2 i x) = (ix2 ⟨t.val / 23 * 2048 + i.val, by omega⟩ Y : S16384x5632.Idx) := by
    blk_ext [idx t]
  have hg : ∀ i : Fin 2048, v (ix3 0 i x) = extractStridedSlice Cert.FfnActRefIdeal.S16384x5632 ![0, 0] (PROD (m ((c : Thread nD τ).loc main_arg0)) (m ((c : Thread nD τ).loc main_arg1)) (m ((c : Thread nD τ).loc main_arg2)) (m ((c : Thread nD τ).loc main_arg3))) Cert.FfnActRefIdeal.Gen.slices_S16384x11264_S16384x5632_0_0
      (ix2 ⟨t.val / 23 * 2048 + i.val, by have := i.isLt; omega⟩ Y) := by
    intro i
    rw [hv i x]
    generalize PROD (m ((c : Thread nD τ).loc main_arg0)) (m ((c : Thread nD τ).loc main_arg1)) (m ((c : Thread nD τ).loc main_arg2)) (m ((c : Thread nD τ).loc main_arg3)) = Q
    pointwise []
    refine congrArg Q (congrArg₂ ix2 (Fin.ext rfl) (Fin.ext ?_))
    show min ((t.val - 1) % 23) 21 * 256 + x.val = Y.val
    omega
  refine (act_eq _ (m ((c : Thread nD τ).loc main_arg4)) v vv (t.val / 23) hb x Y hg _ _ _ _ _ _ _ _ _
    ⟨taps_at m c t 0 _ x Y hY, taps_at m c t 1 _ x Y hY, taps_at m c t 2 _ x Y hY, taps_at m c t 3 _ x Y hY, taps_at m c t 4 _ x Y hY, taps_at m c t 5 _ x Y hY, taps_at m c t 6 _ x Y hY, taps_at m c t 7 _ x Y hY, taps_at m c t 8 _ x Y hY⟩ i).trans ?_
  rw [hvv i x, e]
  pointwise [REF]
  refine congrArg₂ (· * ·) rfl (congrArg (PROD _ _ _ _) (congrArg₂ ix2 (Fin.ext rfl) (Fin.ext ?_)))
  show (22 + min ((t.val - 1) % 23) 21) * 256 + x.val = 5632 + Y.val
  omega

/-- A load of a slot reads the slot. -/
theorem slot_load (X : Vec Ideal S2x2048x256 .f32) (s : Fin 2) (inb : ∀ a : Fin 3, (![s.val, 0, 0] : Fin 3 → ℕ) a + S1x2048x256.size a ≤ S2x2048x256.size a)
    (i : Fin 2048) (x : Fin 256) :
    View.ld X (Rect.unit (s := S2x2048x256) ![s.val, 0, 0] S1x2048x256.size inb) (ix3 0 i x) = X (ix3 s i x) := by
  refine congrArg X (funext fun a => Fin.ext ((ValueKit.rect_emb_unit_val _ _ _ _ _).trans ?_))
  match a with
  | ⟨0, _⟩ => rfl
  | ⟨1, _⟩ => exact Nat.zero_add _
  | ⟨2, _⟩ => exact Nat.zero_add _

/-- A row before the first of a run is not read: the point before stands in the same run. -/
theorem row_before (t : Fin cfg0.N) (h0 : ¬t.val % 23 = 0) (i : Fin 2048) : row (t.val - 1) (by have := t.isLt; omega) i = row t.val t.isLt i :=
  Fin.ext (by show (t.val - 1) / 23 * 2048 + i.val = t.val / 23 * 2048 + i.val; omega)

/-- The slots that an odd point reads. -/
theorem before_B (c : Dev nD) (t : Fin cfg0.N) (h0 : ¬t.val % 23 = 0) (h2 : t.val % 23 % 2 = 1) (i : Fin 2048) (x : Fin 256) :
    (outsAt0 m c (t.val - 1) (by have := t.isLt; omega)).2.2.1 (ix3 0 i x) = PROD (m ((c : Thread nD τ).loc main_arg0)) (m ((c : Thread nD τ).loc main_arg1)) (m ((c : Thread nD τ).loc main_arg2)) (m ((c : Thread nD τ).loc main_arg3)) (ix2 (row t.val t.isLt i) (gcol (t.val - 1) x))
      ∧ (outsAt0 m c (t.val - 1) (by have := t.isLt; omega)).2.2.2 (ix3 0 i x) = PROD (m ((c : Thread nD τ).loc main_arg0)) (m ((c : Thread nD τ).loc main_arg1)) (m ((c : Thread nD τ).loc main_arg2)) (m ((c : Thread nD τ).loc main_arg3)) (ix2 (row t.val t.isLt i) (vcol (t.val - 1) x)) := by
  rw [← row_before t h0 i]
  by_cases h : (t.val - 1) % 23 = 0
  · exact slots_A m c ⟨t.val - 1, by have := t.isLt; omega⟩ h i x
  · exact slots_C m c ⟨t.val - 1, by have := t.isLt; omega⟩ h (by show ¬(t.val - 1) % 23 % 2 = 1; omega) i x

/-- The slots that an even point after the first reads. -/
theorem before_C (c : Dev nD) (t : Fin cfg0.N) (h0 : ¬t.val % 23 = 0) (h2 : ¬t.val % 23 % 2 = 1) (i : Fin 2048) (x : Fin 256) :
    (outsAt0 m c (t.val - 1) (by have := t.isLt; omega)).2.2.1 (ix3 1 i x) = PROD (m ((c : Thread nD τ).loc main_arg0)) (m ((c : Thread nD τ).loc main_arg1)) (m ((c : Thread nD τ).loc main_arg2)) (m ((c : Thread nD τ).loc main_arg3)) (ix2 (row t.val t.isLt i) (gcol (t.val - 1) x))
      ∧ (outsAt0 m c (t.val - 1) (by have := t.isLt; omega)).2.2.2 (ix3 1 i x) = PROD (m ((c : Thread nD τ).loc main_arg0)) (m ((c : Thread nD τ).loc main_arg1)) (m ((c : Thread nD τ).loc main_arg2)) (m ((c : Thread nD τ).loc main_arg3)) (ix2 (row t.val t.isLt i) (vcol (t.val - 1) x)) := by
  rw [← row_before t h0 i]
  exact slots_B m c ⟨t.val - 1, by have := t.isLt; omega⟩ (by show ¬(t.val - 1) % 23 = 0; omega) (by show (t.val - 1) % 23 % 2 = 1; omega) i x

/-- The points that write their output back are those after a run's first. -/
theorem flushes : ∀ t : Fin cfg0.N, (cfg0.win 6).flush t = true → ¬t.val % 23 = 0 :=
  (by decide +kernel : ∀ t : Fin grid0.N, win0_6.flush t = true → ¬t.val % 23 = 0)

/-- The array after the run. -/
theorem final (c : Dev nD) : (dats m 0 c).arrAt 6 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h0 := flushes t hf
  blk_simp
  rw [after0_6]
  by_cases h2 : t.val % 23 % 2 = 1
  · have hs := before_B m c t h0 h2
    rw [outsAt0_B m c t h0 (not_not_intro h2) h2]
    frame_out
    refine point m c t h0 _ _ (fun i x => ?_) (fun i x => ?_) y
    · exact (congrArg (fun X => View.ld X (Rect.unit (s := S2x2048x256) ![0, 0, 0] S1x2048x256.size slot_first) (ix3 0 i x)) (Memref.IsWhole.read_unread (Memref.isWhole_whole _) _)).trans
        ((slot_load _ 0 slot_first i x).trans (hs i x).1)
    · exact (congrArg (fun X => View.ld X (Rect.unit (s := S2x2048x256) ![0, 0, 0] S1x2048x256.size slot_first) (ix3 0 i x)) (Memref.IsWhole.read_unread (Memref.isWhole_whole _) _)).trans
        ((slot_load _ 0 slot_first i x).trans (hs i x).2)
  · have hs := before_C m c t h0 h2
    rw [outsAt0_C m c t h0 h2 h2]
    frame_out
    refine point m c t h0 _ _ (fun i x => ?_) (fun i x => ?_) y
    · exact (congrArg (fun X => View.ld X (Rect.unit (s := S2x2048x256) ![1, 0, 0] S1x2048x256.size slot_second) (ix3 0 i x)) (Memref.IsWhole.read_unread (Memref.isWhole_whole _) _)).trans
        ((slot_load _ 1 slot_second i x).trans (hs i x).1)
    · exact (congrArg (fun X => View.ld X (Rect.unit (s := S2x2048x256) ![1, 0, 0] S1x2048x256.size slot_second) (ix3 0 i x)) (Memref.IsWhole.read_unread (Memref.isWhole_whole _) _)).trans
        ((slot_load _ 1 slot_second i x).trans (hs i x).2)

/-- The reference's result is that term of its arguments. -/
theorem reference_eq (m' : (ℓ : Loc Cert.FfnActRefIdeal.nD Cert.FfnActRefIdeal.τ Cert.FfnActRefIdeal.sig) → Buf (Elt Ideal) ℓ) (c : Dev Cert.FfnActRefIdeal.nD) :
    Cert.FfnActRefIdeal.Value.res_main_v103 m' c = REF (m' ((c.tc : Thread Cert.FfnActRefIdeal.nD Cert.FfnActRefIdeal.τ).loc Cert.FfnActRefIdeal.main_arg0)) (m' ((c.tc : Thread Cert.FfnActRefIdeal.nD Cert.FfnActRefIdeal.τ).loc Cert.FfnActRefIdeal.main_arg1))
      (m' ((c.tc : Thread Cert.FfnActRefIdeal.nD Cert.FfnActRefIdeal.τ).loc Cert.FfnActRefIdeal.main_arg2)) (m' ((c.tc : Thread Cert.FfnActRefIdeal.nD Cert.FfnActRefIdeal.τ).loc Cert.FfnActRefIdeal.main_arg3)) (m' ((c.tc : Thread Cert.FfnActRefIdeal.nD Cert.FfnActRefIdeal.τ).loc Cert.FfnActRefIdeal.main_arg4)) := by
  unfold Cert.FfnActRefIdeal.Value.res_main_v103 REF CONV PAD PROD ROWS
  rfl

end Cert.FfnActIdeal.Value

end
-- ==== Proof.Modul.lean ====
/- The modulation: what the kernel's array holds is the reference's term. -/
module

public import proofs.«01_k».proof.Proof.Gen.ModulIdeal.Value
public import proofs.«01_k».proof.Proof.Gen.ModulRefIdeal.Run
public import Idealize.ShloMosaic.Lib.Pipeline.ValueKit

@[expose] public section

set_option maxRecDepth 16384

noncomputable section

namespace Cert.ModulIdeal.Value

open Cert.ModulIdeal Cert.ModulIdeal.Gen Idealize.ShloMosaic Idealize.ShloMosaic.TcCoe

variable (m : (ℓ : Loc nD τ sig) → Buf (Elt Ideal) ℓ)

/-- The reference's result of its arguments. -/
abbrev REF (C : FVec Ideal S16x2048 .f32) (W : FVec Ideal S2048x12288 .f32) (B : FVec Ideal S1x12288 .f32) : FVec Ideal S16x12288 .f32 :=
  addf (Host.dotGeneral Cert.ModulRefIdeal.dot_S16x2048_S2048x12288_S16x12288_1_0_0_1_n_n none (mulf C (Host.divf
    (broadcastInDim Cert.ModulRefIdeal.S16x2048 ![] Cert.ModulRefIdeal.Gen.bcast_S_S16x2048 (constant Cert.ModulRefIdeal.S_
    .f32 0x3F800000#32)) (addf (broadcastInDim Cert.ModulRefIdeal.S16x2048 ![] Cert.ModulRefIdeal.Gen.bcast_S_S16x2048
    (constant Cert.ModulRefIdeal.S_ .f32 0x3F800000#32)) (Host.exp (Host.negf C))))) W) (broadcastInDim
    Cert.ModulRefIdeal.S16x12288 ![0, 1] Cert.ModulRefIdeal.Gen.bcast_S1x12288_S16x12288_0_1 B)

/-- The blocks of every window at a point. -/
theorem idx : ∀ t : Fin cfg0.N, win0_0.index t = ![0, 0] ∧ win0_1.index t = ![0, t.val] ∧ win0_2.index t = ![0, t.val]
    ∧ win0_3.index t = ![0, t.val] ∧ t.val < 12 :=
  (by decide +kernel : ∀ t : Fin grid0.N, _)

/-- A point stores the reference's values at its block. -/
theorem point (c : Dev nD) (t : Fin cfg0.N) (y : S16x1024.Idx) :
    k0_pay1 (iblk m c 0 t) (iblk m c 1 t) (iblk m c 2 t) y
      = REF (m ((c : Thread nD τ).loc main_arg0)) (m ((c : Thread nD τ).loc main_arg1)) (m ((c : Thread nD τ).loc main_arg2))
        (((cfg0.win 3).blk t).view.emb y) := by
  pointwise [k0_pay1, REF, Ideal.logistic]
  blk_point [iblk, V, idx t]

/-- The array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.ModulIdeal.Value

end
-- ==== Proof.Gdread.lean ====
/- What the gated DeltaNet branch gives: what the kernel's array holds is the reference's term. -/
module

public import proofs.«01_k».proof.Proof.Gen.GdreadIdeal.Value
public import proofs.«01_k».proof.Proof.Gen.GdreadRefIdeal.Run
public import Idealize.ShloMosaic.Lib.Pipeline.ValueKit

@[expose] public section

set_option maxRecDepth 16384

noncomputable section

namespace Cert.GdreadIdeal.Value

open Cert.GdreadIdeal Cert.GdreadIdeal.Gen Idealize.ShloMosaic Idealize.ShloMosaic.TcCoe

variable (m : (ℓ : Loc nD τ sig) → Buf (Elt Ideal) ℓ)

/-- The reference's result of its arguments. -/
abbrev REF (A B : FVec Ideal S16384x1024 .f32) (P : FVec Ideal S16384x12288 .f32) (G : FVec Ideal S1x128 .f32) : FVec Ideal S16384x1024 .bf16 :=
  truncf .bf16 (shapeCast _ (mulf (mulf (mulf (shapeCast _ (addf A B)
    Cert.GdreadRefIdeal.Gen.shapeCasts_S16384x1024_S16384x8x128) (broadcastInDim Cert.GdreadRefIdeal.S16384x8x128 ![0, 1, 2]
    Cert.GdreadRefIdeal.Gen.bcast_S16384x8x1_S16384x8x128_0_1_2 (Host.rsqrt (addf (Host.divf (broadcastInDim
    Cert.GdreadRefIdeal.S16384x8x1 ![0, 1] Cert.GdreadRefIdeal.Gen.bcast_S16384x8_S16384x8x1_0_1 (Host.reduceAdd (mulf
    (shapeCast _ (addf A B) Cert.GdreadRefIdeal.Gen.shapeCasts_S16384x1024_S16384x8x128) (shapeCast _ (addf A B)
    Cert.GdreadRefIdeal.Gen.shapeCasts_S16384x1024_S16384x8x128)) (constant Cert.GdreadRefIdeal.S_ .f32 0x00000000#32)
    Cert.GdreadRefIdeal.Gen.reducesTo_S16384x8x128_S16384x8_d2 Cert.GdreadRefIdeal.Gen.h_S_)) (broadcastInDim
    Cert.GdreadRefIdeal.S16384x8x1 ![] Cert.GdreadRefIdeal.Gen.bcast_S_S16384x8x1 (constant Cert.GdreadRefIdeal.S_ .f32
    0x43000000#32))) (broadcastInDim Cert.GdreadRefIdeal.S16384x8x1 ![] Cert.GdreadRefIdeal.Gen.bcast_S_S16384x8x1 (constant
    Cert.GdreadRefIdeal.S_ .f32 0x358637BD#32)))))) (broadcastInDim Cert.GdreadRefIdeal.S16384x8x128 ![0, 1, 2]
    Cert.GdreadRefIdeal.Gen.bcast_S1x1x128_S16384x8x128_0_1_2 (broadcastInDim Cert.GdreadRefIdeal.S1x1x128 ![1, 2]
    Cert.GdreadRefIdeal.Gen.bcast_S1x128_S1x1x128_1_2 G))) (mulf (shapeCast _ (extractStridedSlice
    Cert.GdreadRefIdeal.S16384x1024 ![0, 7168] P Cert.GdreadRefIdeal.Gen.slices_S16384x12288_S16384x1024_0_7168)
    Cert.GdreadRefIdeal.Gen.shapeCasts_S16384x1024_S16384x8x128) (Host.divf (broadcastInDim Cert.GdreadRefIdeal.S16384x8x128
    ![] Cert.GdreadRefIdeal.Gen.bcast_S_S16384x8x128 (constant Cert.GdreadRefIdeal.S_ .f32 0x3F800000#32)) (addf
    (broadcastInDim Cert.GdreadRefIdeal.S16384x8x128 ![] Cert.GdreadRefIdeal.Gen.bcast_S_S16384x8x128 (constant
    Cert.GdreadRefIdeal.S_ .f32 0x3F800000#32)) (Host.exp (Host.negf (shapeCast _ (extractStridedSlice
    Cert.GdreadRefIdeal.S16384x1024 ![0, 7168] P Cert.GdreadRefIdeal.Gen.slices_S16384x12288_S16384x1024_0_7168)
    Cert.GdreadRefIdeal.Gen.shapeCasts_S16384x1024_S16384x8x128)))))))
    Cert.GdreadRefIdeal.Gen.shapeCasts_S16384x8x128_S16384x1024) Cert.GdreadRefIdeal.Gen.bitsLt_bf16_f32

/-- The blocks of every window at a point. -/
theorem idx : ∀ t : Fin cfg0.N, win0_0.index t = ![t.val, 0] ∧ win0_1.index t = ![t.val, 0] ∧ win0_2.index t = ![t.val, 7]
    ∧ win0_3.index t = ![0, 0] ∧ win0_4.index t = ![t.val, 0] ∧ t.val < 32 :=
  (by decide +kernel : ∀ t : Fin grid0.N, _)

/-- The squares that a head's norm adds up. -/
theorem squares (P0 P1 : Vec Ideal S512x1024 .f32) (P2 : Vec Ideal S1x128 .f32) (P3 : Vec Ideal S512x1024 .f32) (j : Fin 8) (i : Fin 512) :
    Fam4_2 P0 P1 P2 P3 j (ix1 i) = ∑ k : Fin 128, (P0 (ix2 i ⟨128 * j.val + k.val, by omega⟩) + P1 (ix2 i ⟨128 * j.val + k.val, by omega⟩))
      * (P0 (ix2 i ⟨128 * j.val + k.val, by omega⟩) + P1 (ix2 i ⟨128 * j.val + k.val, by omega⟩)) := by
  match j with
  | ⟨0, _⟩ => pointwise []
  | ⟨1, _⟩ => pointwise []
  | ⟨2, _⟩ => pointwise []
  | ⟨3, _⟩ => pointwise []
  | ⟨4, _⟩ => pointwise []
  | ⟨5, _⟩ => pointwise []
  | ⟨6, _⟩ => pointwise []
  | ⟨7, _⟩ => pointwise []

/-- A point stores the reference's values at its block. -/
theorem point (c : Dev nD) (t : Fin cfg0.N) (y : S512x1024.Idx) :
    E4 (iblk m c 0 t) (iblk m c 1 t) (iblk m c 3 t) (iblk m c 2 t) y
      = REF (m ((c : Thread nD τ).loc main_arg0)) (m ((c : Thread nD τ).loc main_arg1)) (m ((c : Thread nD τ).loc main_arg2))
        (m ((c : Thread nD τ).loc main_arg3)) (((cfg0.win 4).blk t).view.emb y) := by
  obtain ⟨i, x, rfl⟩ : ∃ i x, y = ix2 i x := ⟨y 0, y 1, by funext a; match a with | ⟨0, _⟩ => rfl | ⟨1, _⟩ => rfl⟩
  have hi := i.isLt
  have hx := x.isLt
  have ht := (idx t).2.2.2.2.2
  have e : ((cfg0.win 4).blk t).view.emb (ix2 i x) = (ix2 ⟨t.val * 512 + i.val, by omega⟩ x : S16384x1024.Idx) := by
    blk_ext [idx t]
  have e2 : ix4_2 (ix2 i x) = ix1 i := by funext a; match a with | ⟨0, _⟩ => rfl
  have hs : Fam4_2 (iblk m c 0 t) (iblk m c 1 t) (iblk m c 3 t) (iblk m c 2 t) (sel4 (ix2 i x)) (ix4_2 (ix2 i x)) = _ :=
    (congrArg _ e2).trans (squares (iblk m c 0 t) (iblk m c 1 t) (iblk m c 3 t) (iblk m c 2 t) (sel4 (ix2 i x)) i)
  rw [e]
  pointwise [REF, E4, Ideal.logistic]
  rw [hs]
  blk_point [iblk, V, idx t]
  all_goals first | rfl | (show 128 * (x.val / 128) + _ = _; omega)

/-- What a point stores, over the blocks it reads. -/
theorem out_eq (x0 x1 x2 : Vec Ideal S512x1024 .f32) (x3 : Vec Ideal S1x128 .f32) (y : S512x1024.Idx) :
    out0_4 x0 x1 x2 x3 y = E4 x0 x1 x3 x2 y := by
  have h (x : Vec Ideal S512x1024 .f32) : View.ld x r0_0 = x := View.ld_unit_lit _ x (by decide)
  have h3 : View.ld x3 r0_1 = x3 := View.ld_unit_lit _ x3 (by decide)
  unfold out0_4 k0_pay17 k0_pay16
  rw [h x0, h x1, h x2, h3]
  exact canon4_eq x0 x1 x3 x2 y

/-- The array after the run. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  rw [after0_4]
  exact (out_eq _ _ _ _ y).trans (point m c t y)

end Cert.GdreadIdeal.Value

end
-- ==== Proof.Delta.lean ====
/- The gated delta rule over the reals: the token recurrence against the form the chunked scan computes. -/
module

public import Mathlib.Analysis.SpecialFunctions.Exp
public import Mathlib.Data.Matrix.Mul
public import Mathlib.LinearAlgebra.Matrix.NonsingularInverse

@[expose] public section

noncomputable section

namespace Delta

/-- One token of the gated delta rule: the state decays by `a`, then the part of `v` the state does not
already give back for the key `k` is written with strength `b`. -/
def step (a b : ℝ) (k v : Fin 128 → ℝ) (S : Fin 128 → Fin 128 → ℝ) : Fin 128 → Fin 128 → ℝ :=
  fun x y => S x y * a + k x * ((v y - ∑ z, (S z y * a) * k z) * b)

/-- The cumulative log decay before token `i` of a chunk. -/
def before (G : ℕ → ℝ) : ℕ → ℝ
  | 0 => 0
  | i + 1 => G i

/-- The state after the first `i` tokens of a chunk that starts at the state `S`. -/
def run (G b : ℕ → ℝ) (k v : ℕ → Fin 128 → ℝ) (S : Fin 128 → Fin 128 → ℝ) : ℕ → Fin 128 → Fin 128 → ℝ
  | 0 => S
  | i + 1 => step (Real.exp (G i - before G i)) (b i) (k i) (v i) (run G b k v S i)

/-- The values a chunk writes: what forward substitution solves for. -/
def Solves (n : ℕ) (G b : ℕ → ℝ) (k v : ℕ → Fin 128 → ℝ) (S : Fin 128 → Fin 128 → ℝ) (u : ℕ → Fin 128 → ℝ) : Prop :=
  ∀ i < n, ∀ y, u i y = v i y * b i - (∑ z, (k i z * b i * Real.exp (G i)) * S z y)
    - ∑ j ∈ Finset.range i, ((∑ z, (k i z * b i) * k j z) * Real.exp (G i - G j)) * u j y

/-- The state inside a chunk, from the state at its start and the values written. -/
theorem run_eq {n : ℕ} {G b : ℕ → ℝ} {k v : ℕ → Fin 128 → ℝ} {S : Fin 128 → Fin 128 → ℝ} {u : ℕ → Fin 128 → ℝ}
    (h : Solves n G b k v S u) : ∀ i ≤ n, ∀ x y,
      run G b k v S i x y = Real.exp (before G i) * S x y
        + ∑ j ∈ Finset.range i, Real.exp (before G i - G j) * k j x * u j y := by
  intro i
  induction i with
  | zero => intro _ x y; simp [run, before]
  | succ i ih =>
    intro hi x y
    have ih' := ih (by omega)
    have hd : ∀ x, run G b k v S i x y * Real.exp (G i - before G i)
        = Real.exp (G i) * S x y + ∑ j ∈ Finset.range i, Real.exp (G i - G j) * k j x * u j y := by
      intro x
      rw [ih', add_mul, Finset.sum_mul]
      congr 1
      · rw [mul_right_comm, ← Real.exp_add]; congr 2; ring
      · refine Finset.sum_congr rfl fun j _ => ?_
        have e : Real.exp (G i - G j) = Real.exp (before G i - G j) * Real.exp (G i - before G i) := by
          rw [← Real.exp_add]; congr 1; ring
        rw [e]; ring
    have hu : (v i y - ∑ z, (run G b k v S i z y * Real.exp (G i - before G i)) * k i z) * b i = u i y := by
      rw [h i (by omega) y]
      simp only [hd, add_mul, Finset.sum_add_distrib, sub_mul, Finset.sum_mul]
      rw [Finset.sum_comm]
      rw [← sub_sub]
      congr 1
      · congr 1
        refine Finset.sum_congr rfl fun z _ => by ring
      · refine Finset.sum_congr rfl fun j _ => Finset.sum_congr rfl fun z _ => by ring
    simp only [run, step]
    rw [hu, hd, Finset.sum_range_succ]
    simp only [before, sub_self, Real.exp_zero]
    ring

/-- The output of a token, from the state at the chunk's start and the values written. -/
theorem out_eq {n : ℕ} {G b : ℕ → ℝ} {k v : ℕ → Fin 128 → ℝ} {S : Fin 128 → Fin 128 → ℝ} {u : ℕ → Fin 128 → ℝ}
    (h : Solves n G b k v S u) (i : ℕ) (hi : i < n) (q : Fin 128 → ℝ) (y : Fin 128) :
    ∑ x, run G b k v S (i + 1) x y * q x = (∑ x, (q x * Real.exp (G i)) * S x y)
      + ∑ j ∈ Finset.range (i + 1), ((∑ x, q x * k j x) * Real.exp (G i - G j)) * u j y := by
  simp only [run_eq h (i + 1) (by omega), add_mul, Finset.sum_add_distrib, before]
  congr 1
  · refine Finset.sum_congr rfl fun z _ => by ring
  · simp only [Finset.sum_mul]
    rw [Finset.sum_comm]
    refine Finset.sum_congr rfl fun j _ => Finset.sum_congr rfl fun z _ => by ring

/-! ## The triangular inverse by doubling blocks -/

/-- The entries of `A` inside the diagonal blocks of side `s`. -/
def inside (s : ℕ) (A : Matrix (Fin 64) (Fin 64) ℝ) : Matrix (Fin 64) (Fin 64) ℝ :=
  fun i j => if i.val / s = j.val / s then A i j else 0

/-- The entries of `A` inside the diagonal blocks of side `2 s` and outside those of side `s`. -/
def level (s : ℕ) (A : Matrix (Fin 64) (Fin 64) ℝ) : Matrix (Fin 64) (Fin 64) ℝ :=
  fun i j => if i.val / (2 * s) = j.val / (2 * s) ∧ i.val / s ≠ j.val / s then A i j else 0

/-- `T` is the inverse of `1 + A` on the diagonal blocks of side `s`. -/
structure Inv (s : ℕ) (A T : Matrix (Fin 64) (Fin 64) ℝ) : Prop where
  inv : (1 + inside s A) * T = 1
  supp : ∀ i j, i.val / s ≠ j.val / s → T i j = 0

/-- Strictly triangular, towards either corner. -/
def Tri (A : Matrix (Fin 64) (Fin 64) ℝ) : Prop :=
  (∀ i j, ¬ j < i → A i j = 0) ∨ (∀ i j, ¬ i < j → A i j = 0)

theorem half (s i : ℕ) : i / (2 * s) = i / s / 2 := by rw [mul_comm, Nat.div_div_eq_div_mul]

theorem inside_two (s : ℕ) (A : Matrix (Fin 64) (Fin 64) ℝ) : inside (2 * s) A = inside s A + level s A := by
  ext i j
  simp only [inside, level, Matrix.add_apply, half]
  by_cases h : i.val / s = j.val / s
  · simp [h]
  · simp [h]

/-- A level's block row and its block column never meet through a matrix of smaller blocks. -/
theorem level_mul {s : ℕ} {A T : Matrix (Fin 64) (Fin 64) ℝ} (hA : Tri A)
    (hT : ∀ i j, i.val / s ≠ j.val / s → T i j = 0) : level s A * T * level s A = 0 := by
  ext i j
  simp only [Matrix.mul_apply, Matrix.zero_apply, Finset.sum_mul]
  refine Finset.sum_eq_zero fun b _ => Finset.sum_eq_zero fun a _ => ?_
  by_cases h1 : level s A i a = 0
  · simp [h1]
  by_cases h2 : T a b = 0
  · simp [h2]
  by_cases h3 : level s A b j = 0
  · simp [h3]
  exfalso
  have h2' : a.val / s = b.val / s := by_contra fun h => h2 (hT a b h)
  simp only [level, half] at h1 h3
  split_ifs at h1 with c1
  on_goal 2 => exact h1 rfl
  split_ifs at h3 with c3
  on_goal 2 => exact h3 rfl
  rcases hA with h | h
  · have l1 : a < i := by_contra fun hh => h1 (h _ _ hh)
    have l3 : j < b := by_contra fun hh => h3 (h _ _ hh)
    have m1 : a.val / s ≤ i.val / s := Nat.div_le_div_right l1.le
    have m3 : j.val / s ≤ b.val / s := Nat.div_le_div_right l3.le
    omega
  · have l1 : i < a := by_contra fun hh => h1 (h _ _ hh)
    have l3 : b < j := by_contra fun hh => h3 (h _ _ hh)
    have m1 : i.val / s ≤ a.val / s := Nat.div_le_div_right l1.le
    have m3 : b.val / s ≤ j.val / s := Nat.div_le_div_right l3.le
    omega

/-- One doubling: the inverse on blocks of side `2 s` from the one on blocks of side `s`. -/
theorem Inv.double {s : ℕ} {A T : Matrix (Fin 64) (Fin 64) ℝ} (hA : Tri A) (h : Inv s A T) :
    Inv (2 * s) A (T - T * level s A * T) := by
  refine ⟨?_, fun i j hij => ?_⟩
  · rw [inside_two]
    have e : (1 + inside s A) * (T * level s A * T) = level s A * T := by
      rw [← mul_assoc, ← mul_assoc, h.inv, one_mul]
    have z : level s A * (T * level s A * T) = 0 := by
      rw [← mul_assoc, ← mul_assoc, level_mul hA h.supp, zero_mul]
    rw [← add_assoc, mul_sub, add_mul _ (level s A), add_mul _ (level s A), h.inv, e, z]
    abel
  · have hs : i.val / s ≠ j.val / s := fun e => hij (by rw [half, half, e])
    rw [Matrix.sub_apply, h.supp i j hs, zero_sub, neg_eq_zero]
    simp only [Matrix.mul_apply, Finset.sum_mul]
    refine Finset.sum_eq_zero fun b _ => Finset.sum_eq_zero fun a _ => ?_
    by_cases h1 : i.val / s = a.val / s
    · by_cases h3 : b.val / s = j.val / s
      · have : level s A a b = 0 := by
          simp only [level]
          rw [if_neg]
          rintro ⟨h2, -⟩
          apply hij
          rw [half] at h2 ⊢
          rw [half] at h2 ⊢
          omega
        simp [this]
      · simp [h.supp b j h3]
    · simp [h.supp i a h1]

/-- The first blocks, of side 2: a strictly triangular block of side 2 squares to zero. -/
theorem Inv.two {A : Matrix (Fin 64) (Fin 64) ℝ} (hA : Tri A) : Inv 2 A (1 - inside 2 A) := by
  refine ⟨?_, fun i j hij => ?_⟩
  · have z : inside 2 A * inside 2 A = 0 := by
      ext i j
      rw [Matrix.mul_apply, Matrix.zero_apply]
      refine Finset.sum_eq_zero fun a _ => ?_
      by_cases h1 : inside 2 A i a = 0
      · simp [h1]
      by_cases h2 : inside 2 A a j = 0
      · simp [h2]
      exfalso
      simp only [inside] at h1 h2
      split_ifs at h1 with c1
      on_goal 2 => exact h1 rfl
      split_ifs at h2 with c2
      on_goal 2 => exact h2 rfl
      rcases hA with h | h
      · have l1 : a < i := by_contra fun hh => h1 (h _ _ hh)
        have l2 : j < a := by_contra fun hh => h2 (h _ _ hh)
        omega
      · have l1 : i < a := by_contra fun hh => h1 (h _ _ hh)
        have l2 : a < j := by_contra fun hh => h2 (h _ _ hh)
        omega
    rw [mul_sub, mul_one, add_mul, one_mul, z]; abel
  · have : i ≠ j := fun e => hij (by rw [e])
    simp [Matrix.one_apply, this, inside, hij]

/-- The inverse of a unit triangular matrix of side 64 by five doublings. -/
def doubled (A : Matrix (Fin 64) (Fin 64) ℝ) : ℕ → Matrix (Fin 64) (Fin 64) ℝ
  | 0 => 1 - inside 2 A
  | l + 1 => doubled A l - doubled A l * level (2 * 2 ^ l) A * doubled A l

theorem doubled_inv {A : Matrix (Fin 64) (Fin 64) ℝ} (hA : Tri A) : ∀ l, Inv (2 * 2 ^ l) A (doubled A l)
  | 0 => Inv.two hA
  | l + 1 => by
    have := (doubled_inv hA l).double hA
    rwa [pow_succ, mul_comm _ 2, ← mul_assoc, mul_comm (2 * 2) , ← mul_assoc, mul_comm (2 ^ l)] at *

/-- After five doublings `doubled` is the inverse of `1 + A`. -/
theorem doubled_mul {A : Matrix (Fin 64) (Fin 64) ℝ} (hA : Tri A) : (1 + A) * doubled A 5 = 1 := by
  have h := (doubled_inv hA 5).inv
  have e : inside (2 * 2 ^ 5) A = A := by
    ext i j
    have hi : i.val / (2 * 2 ^ 5) = 0 := Nat.div_eq_of_lt (by have := i.isLt; omega)
    have hj : j.val / (2 * 2 ^ 5) = 0 := Nat.div_eq_of_lt (by have := j.isLt; omega)
    simp only [inside, hi, hj, if_true]
  rwa [e] at h

end Delta

end
-- ==== Proof.Spec.lean ====
/- The gated delta rule on the call's arguments: its tokens, its states and its outputs as real numbers. -/
module

public import proofs.«01_k».proof.Proof.Delta
public import Idealize.ShloMosaic.Lib.Pipeline.ValueKit
public import Idealize.ShloMosaic.Lib.Pointwise

@[expose] public section

noncomputable section

namespace Delta

open Idealize.ShloMosaic

/-- The arrays of queries, keys and values; of decays and strengths; and of states. -/
abbrev Wide := FVec Ideal ⟨2, ![16384, 1024]⟩ .bf16
abbrev Narrow := FVec Ideal ⟨2, ![16384, 16]⟩ .f32
abbrev States := FVec Ideal ⟨5, ![8, 2, 8, 128, 128]⟩ .f32

/-- The row of token `t` of sequence `b` in the order of direction `d`. -/
def row (b : Fin 8) (d : Fin 2) (t : ℕ) : Fin 16384 :=
  ⟨(b.val * 2048 + (if d = 0 then t else 2047 - t)) % 16384, Nat.mod_lt _ (by norm_num)⟩

/-- Column `x` of head `h`. -/
def col (h : Fin 8) (x : Fin 128) : Fin 1024 := ⟨h.val * 128 + x.val, by omega⟩

/-- The column of head `h` in direction `d`. -/
def lane (d : Fin 2) (h : Fin 8) : Fin 16 := ⟨d.val * 8 + h.val, by omega⟩

theorem row_val (b : Fin 8) (d : Fin 2) {t : ℕ} (ht : t < 2048) :
    (row b d t).val = b.val * 2048 + (if d = 0 then t else 2047 - t) := by
  unfold row
  refine Nat.mod_eq_of_lt ?_
  split_ifs <;> omega

/-- Token `t`'s vector, and its number, for sequence `b`, direction `d`, head `h`. -/
def wide (A : Wide) (b : Fin 8) (d : Fin 2) (h : Fin 8) (t : ℕ) (x : Fin 128) : ℝ :=
  (A (ix2 (row b d t) (col h x))).toReal
def narrow (A : Narrow) (b : Fin 8) (d : Fin 2) (h : Fin 8) (t : ℕ) : ℝ :=
  (A (ix2 (row b d t) (lane d h))).toReal

/-- The step of the cumulative log decay at token `t`: inside its chunk of 64. -/
def dlog (g : Narrow) (b : Fin 8) (d : Fin 2) (h : Fin 8) (t : ℕ) : ℝ :=
  narrow g b d h t - if t % 64 = 0 then 0 else narrow g b d h (t - 1)

/-- The state after `t` tokens. -/
def state (k v : Wide) (g beta : Narrow) (s0 : States) (b : Fin 8) (d : Fin 2) (h : Fin 8) :
    ℕ → Fin 128 → Fin 128 → ℝ
  | 0 => fun x y => (s0 (ix5 b d h x y)).toReal
  | t + 1 => step (Real.exp (dlog g b d h t)) (narrow beta b d h t) (wide k b d h t) (wide v b d h t)
      (state k v g beta s0 b d h t)

/-- The output of token `t`. -/
def out (q k v : Wide) (g beta : Narrow) (s0 : States) (b : Fin 8) (d : Fin 2) (h : Fin 8) (t : ℕ) (y : Fin 128) : ℝ :=
  ∑ x, state k v g beta s0 b d h (t + 1) x y * wide q b d h t x

/-- The states inside a chunk run from the state at its start. -/
theorem state_chunk (k v : Wide) (g beta : Narrow) (s0 : States) (b : Fin 8) (d : Fin 2) (h : Fin 8) (c : ℕ) :
    ∀ i ≤ 64, state k v g beta s0 b d h (c * 64 + i)
      = run (fun i => narrow g b d h (c * 64 + i)) (fun i => narrow beta b d h (c * 64 + i))
          (fun i => wide k b d h (c * 64 + i)) (fun i => wide v b d h (c * 64 + i))
          (state k v g beta s0 b d h (c * 64)) i
  | 0, _ => rfl
  | i + 1, hi => by
    have ih := state_chunk k v g beta s0 b d h c i (by omega)
    show step (Real.exp (dlog g b d h (c * 64 + i))) _ _ _ (state k v g beta s0 b d h (c * 64 + i)) = _
    rw [ih]
    show _ = step (Real.exp _) _ _ _ _
    congr 2
    unfold dlog
    cases i with
    | zero => simp [before]
    | succ j =>
      have : (c * 64 + (j + 1)) % 64 ≠ 0 := by omega
      rw [if_neg this]; rfl

/-- Every entry of the arguments is a real number. -/
structure Real' (q k v : Wide) (g beta : Narrow) (s0 : States) : Prop where
  q : ∀ i, q i = ((q i).toReal : EReal)
  k : ∀ i, k i = ((k i).toReal : EReal)
  v : ∀ i, v i = ((v i).toReal : EReal)
  g : ∀ i, g i = ((g i).toReal : EReal)
  beta : ∀ i, beta i = ((beta i).toReal : EReal)
  s0 : ∀ i, s0 i = ((s0 i).toReal : EReal)

/-- A sum of reals as the sum of their values. -/
theorem coe_sum {ι : Type} [Fintype ι] (f : ι → ℝ) : ((∑ i, f i : ℝ) : EReal) = ∑ i, (f i : EReal) := by
  classical
  exact map_sum (⟨⟨Real.toEReal, EReal.coe_zero⟩, EReal.coe_add⟩ : ℝ →+ EReal) f Finset.univ

/-- A real entry of the arrays, as the number it stands for. -/
theorem wide_eq {A : Wide} (hA : ∀ i, A i = ((A i).toReal : EReal)) (b : Fin 8) (d : Fin 2) (h : Fin 8) (t : ℕ) (x : Fin 128) :
    A (ix2 (row b d t) (col h x)) = ((wide A b d h t x : ℝ) : EReal) := hA _
theorem narrow_eq {A : Narrow} (hA : ∀ i, A i = ((A i).toReal : EReal)) (b : Fin 8) (d : Fin 2) (h : Fin 8) (t : ℕ) :
    A (ix2 (row b d t) (lane d h)) = ((narrow A b d h t : ℝ) : EReal) := hA _

end Delta

end
-- ==== Proof.PreFacts.lean ====
/- What the precondition says of the arguments: their entries are real, and no step's log decay is above zero. -/
module

public import proofs.«01_k».proof.Pre_decays
public import proofs.«01_k».proof.Proof.Spec
public import Idealize.ShloMosaic.Lib.ReduceAll
public import Idealize.ShloMosaic.Lib.Affine

@[expose] public section

set_option maxRecDepth 16384

noncomputable section

namespace Cert.PreFacts

open Idealize.ShloMosaic Cert.Pre_decays Delta

/-- The shapes the precondition's operations take fit. -/
theorem facts : Cert.Pre_decays.Facts := by
  constructor <;> decide +kernel

variable [Cert.Pre_decays.Facts]

/-- An entry whose size is below the greatest number is a real. -/
theorem finite {s : Shape} {φ : FTy} (A B : FVec Ideal s φ) (i : s.Idx) (e : cmpf .olt (Host.absf A) B i = 1#1) (hB : B i = (⊤ : EReal)) :
    A i = ((A i).toReal : EReal) := by
  have h2 : max (A i : EReal) (-(A i : EReal)) < ⊤ := by
    have := (Ideal.cmp_olt_eq_one _ _).1 e
    rwa [hB] at this
  refine (EReal.coe_toReal ?_ ?_).symm
  · exact ((le_max_left _ _).trans_lt h2).ne
  · intro hbot
    have := (le_max_right _ _).trans_lt h2
    rw [hbot] at this
    exact absurd this (by simp)

/-- The greatest number in the narrow format. -/
theorem top_bf16 : (FloatOps.ofBits .bf16 0x7F80#16 : Ideal .bf16) = (⊤ : EReal) := by
  show Ideal.ofBits _ _ = ⊤
  simp [Ideal.ofBits, Ideal.ieee]

/-- The greatest number in the wide format. -/
theorem top_f32 : (FloatOps.ofBits .f32 0x7F800000#32 : Ideal .f32) = (⊤ : EReal) := by
  show Ideal.ofBits _ _ = ⊤
  simp [Ideal.ofBits, Ideal.ieee]

variable (q k v : Wide) (g beta : Narrow) (s0 : States)

/-- Rows and lanes of the same numbers are the same place. -/
theorem at_pair {r r' : Fin 16384} {l l' : Fin 16} (e : r.1 = r'.1) (e' : l.1 = l'.1) : (ix2 r l : S16384x16.Idx) = ix2 r' l' := by
  rw [Fin.ext e, Fin.ext e']

/-- What the precondition says: real entries, and log decays that do not rise inside a chunk. -/
theorem split (h : ∀ i, fn (F := Ideal) q k v g beta s0 i = 1#1) : Real' q k v g beta s0
    ∧ (∀ (r : Fin 256) (j : Fin 63) (h : Fin 8),
      g (ix2 (⟨r.1 * 64 + (j.1 + 1), by omega⟩ : Fin 16384) (lane 0 h)) ≤ g (ix2 (⟨r.1 * 64 + j.1, by omega⟩ : Fin 16384) (lane 0 h)))
    ∧ (∀ (r : Fin 256) (j : Fin 63) (h : Fin 8),
      g (ix2 (⟨r.1 * 64 + j.1, by omega⟩ : Fin 16384) (lane 1 h)) ≤ g (ix2 (⟨r.1 * 64 + (j.1 + 1), by omega⟩ : Fin 16384) (lane 1 h))) := by
  have h0 := h ix0
  unfold fn fn_part1 fn_part2 at h0
  dsimp only at h0
  obtain ⟨h15, e5⟩ := IntOp.andi_eq_one.1 h0
  clear h0
  obtain ⟨h14, e4⟩ := IntOp.andi_eq_one.1 h15
  clear h15
  obtain ⟨h13, e3⟩ := IntOp.andi_eq_one.1 h14
  clear h14
  obtain ⟨h12, e2⟩ := IntOp.andi_eq_one.1 h13
  clear h13
  obtain ⟨h11, e1⟩ := IntOp.andi_eq_one.1 h12
  clear h12
  obtain ⟨h10, e0⟩ := IntOp.andi_eq_one.1 h11
  clear h11
  obtain ⟨ef, eb⟩ := IntOp.andi_eq_one.1 h10
  clear h10 h
  haveI : Subsingleton S_.Idx := ⟨fun a b => funext fun x => x.elim0⟩
  have p0 := fun i => finite q _ i (Host.reduce_andi_all _ _ _ _ ix0 e0 i) top_bf16
  have p1 := fun i => finite k _ i (Host.reduce_andi_all _ _ _ _ ix0 e1 i) top_bf16
  have p2 := fun i => finite v _ i (Host.reduce_andi_all _ _ _ _ ix0 e2 i) top_bf16
  have p3 := fun i => finite g _ i (Host.reduce_andi_all _ _ _ _ ix0 e3 i) top_f32
  have p4 := fun i => finite beta _ i (Host.reduce_andi_all _ _ _ _ ix0 e4 i) top_f32
  have p5 := fun i => finite s0 _ i (Host.reduce_andi_all _ _ _ _ ix0 e5 i) top_f32
  clear e0 e1 e2 e3 e4 e5
  refine ⟨⟨p0, p1, p2, p3, p4, p5⟩, ?_, ?_⟩
  · intro r j h
    have h1 := (Ideal.cmp_ole_eq_one _ _).1 (Host.reduce_andi_all _ _ _ _ ix0 ef (ix3 r j h))
    clear * - h1
    revert h1
    pointwise
    exact (congrArg₂ (· ≤ ·) (congrArg g (at_pair (by dsimp only; omega) (by simp [lane])))
      (congrArg g (at_pair rfl (by simp [lane])))).mp
  · intro r j h
    have h1 := (Ideal.cmp_ole_eq_one _ _).1 (Host.reduce_andi_all _ _ _ _ ix0 eb (ix3 r j h))
    clear * - h1
    revert h1
    pointwise
    exact (congrArg₂ (· ≤ ·) (congrArg g (at_pair rfl (by simp [lane])))
      (congrArg g (at_pair (by dsimp only; omega) (by simp [lane])))).mp

/-- Inside a chunk, in the order of its direction, the cumulative log decay does not rise. -/
theorem falls (h : ∀ i, fn (F := Ideal) q k v g beta s0 i = 1#1) (b : Fin 8) (d : Fin 2) (hd : Fin 8) (c : ℕ) (hc : c < 32) (i : ℕ)
    (hi : i + 1 < 64) : narrow g b d hd (c * 64 + (i + 1)) ≤ narrow g b d hd (c * 64 + i) := by
  obtain ⟨hr, hf, hb⟩ := split q k v g beta s0 h
  rw [← EReal.coe_le_coe_iff, ← narrow_eq hr.g, ← narrow_eq hr.g]
  fin_cases d
  · have := hf ⟨b.1 * 32 + c, by omega⟩ ⟨i, by omega⟩ hd
    have e : ∀ t, t < 64 → (row b 0 (c * 64 + t)).1 = (b.1 * 32 + c) * 64 + t := fun t ht => by
      rw [row_val b 0 (by omega), if_pos rfl]
      omega
    exact (congrArg₂ (· ≤ ·) (congrArg g (at_pair (e (i + 1) hi) rfl)) (congrArg g (at_pair (e i (by omega)) rfl))).mpr this
  · have := hb ⟨b.1 * 32 + (31 - c), by omega⟩ ⟨62 - i, by omega⟩ hd
    have e : ∀ t, t < 64 → (row b 1 (c * 64 + t)).1 = (b.1 * 32 + (31 - c)) * 64 + (63 - t) := fun t ht => by
      rw [row_val b 1 (by omega), if_neg (by decide)]
      omega
    exact (congrArg₂ (· ≤ ·) (congrArg g (at_pair ((e (i + 1) hi).trans (by dsimp only; omega)) rfl))
      (congrArg g (at_pair ((e i (by omega)).trans (by dsimp only; omega)) rfl))).mpr this

/-- So the chunk's last token has the least. -/
theorem least (h : ∀ i, fn (F := Ideal) q k v g beta s0 i = 1#1) (b : Fin 8) (d : Fin 2) (hd : Fin 8) (c : ℕ) (hc : c < 32) :
    ∀ n, n < 64 → narrow g b d hd (c * 64 + 63) ≤ narrow g b d hd (c * 64 + (63 - n))
  | 0, _ => le_rfl
  | n + 1, hn => by
    have h1 := least h b d hd c hc n (by omega)
    have h2 := falls q k v g beta s0 h b d hd c hc (63 - (n + 1)) (by omega)
    rw [show 63 - (n + 1) + 1 = 63 - n by omega] at h2
    exact h1.trans h2

end Cert.PreFacts

end
-- ==== Proof.Chain.lean ====
/- The kernel's arithmetic at one grid point, stage by stage, for one direction and one pair of heads. -/
module

public import proofs.«01_k».proof.Proof.Gen.KernelIdeal.Value

@[expose] public section

set_option maxRecDepth 16384

noncomputable section

namespace Cert.Chain

open Cert.KernelIdeal Cert.KernelIdeal.Gen Idealize.ShloMosaic

/-- The 0/1 patterns of a 64 × 128 tile that holds two 64 × 64 matrices side by side: which half a lane is in, the
    diagonal 2 × 2 blocks, the off-diagonal blocks of the five doubling levels, and for a direction the rows that come
    before a row and those that do not come after it. -/
structure Masks where
  /-- the lanes of the first head -/
  half : IVec S64x128 1
  /-- inside the same 2 × 2 diagonal block -/
  blk0 : IVec S64x128 1
  /-- the off-diagonal quarter pairs of the diagonal 4 × 4 blocks -/
  blk1 : IVec S64x128 1
  /-- the same for 8 × 8 -/
  blk2 : IVec S64x128 1
  /-- the same for 16 × 16 -/
  blk3 : IVec S64x128 1
  /-- the same for 32 × 32 -/
  blk4 : IVec S64x128 1
  /-- the same for 64 × 64 -/
  blk5 : IVec S64x128 1
  /-- strictly earlier in scan order -/
  strict : IVec S64x128 1
  /-- not later in scan order -/
  incl : IVec S64x128 1

/-- The patterns a point uses in direction 0. -/
def masks0 : Masks where
  half := k0_pay52 kernelRun0_B.sl.v4
  blk0 := cmpi .eq kernelRun0_B.sl.v51 kernelRun0_B.sl.v75
  blk1 := kernelRun0_B.sl.v175
  blk2 := kernelRun0_B.sl.v274
  blk3 := kernelRun0_B.sl.v373
  blk4 := kernelRun0_B.sl.v472
  blk5 := kernelRun0_B.sl.r
  strict := k0_pay6
  incl := k0_pay8

/-- The patterns a point uses in direction 1. -/
def masks1 : Masks := { masks0 with strict := k0_pay7, incl := k0_pay9 }

variable (F : FTy → Type) [FloatOps F]

/-- What a point loads for one direction: its chunk of queries, keys, values, cumulative log decays (as a column for a
    head and as a row for a pair of heads) and gates, and the states it starts from. -/
structure Loads where
  /-- queries of a head -/
  q : Fin 8 → FVec F S64x128 .bf16
  /-- keys of a head -/
  k : Fin 8 → FVec F S64x128 .bf16
  /-- values of a head -/
  v : Fin 8 → FVec F S64x128 .bf16
  /-- cumulative log decays of a head -/
  g : Fin 8 → FVec F S1x64x1 .f32
  /-- cumulative log decays of a pair of heads, along the lanes -/
  gt : Fin 4 → FVec F S1x1x1x128 .f32
  /-- gates of a head -/
  b : Fin 8 → FVec F S1x64x1 .f32
  /-- the state of a head before the chunk -/
  s : Fin 8 → FVec F S1x1x128x128 .f32

variable {F}

/-- The first head of a pair. -/
def lo (p : Fin 4) : Fin 8 := ⟨2 * p.1, by omega⟩

/-- The second head of a pair. -/
def hi (p : Fin 4) : Fin 8 := ⟨2 * p.1 + 1, by omega⟩

/-- A scalar zero. -/
def z : F .f32 := Scalar.ofBits .f32 0x00000000#32

/-- A tile of zeros. -/
def zt : FVec F S64x128 .f32 := broadcast S64x128 z

/-- A tile of minus ones. -/
def neg : FVec F S64x128 .f32 := broadcast S64x128 (Scalar.ofBits .f32 0xBF800000#32)

variable (M : Masks) (L : Loads F) (p : Fin 4) (h : Fin 8)

/-- Queries at the working type. -/
def qf : FVec F S64x128 .f32 := extf .f32 (L.q h) bitsLt_bf16_f32
/-- Keys at the working type. -/
def kf : FVec F S64x128 .f32 := extf .f32 (L.k h) bitsLt_bf16_f32
/-- Values at the working type. -/
def vf : FVec F S64x128 .f32 := extf .f32 (L.v h) bitsLt_bf16_f32
/-- Log decays as a column. -/
def gc : FVec F S64x1 .f32 := shapeCast S64x1 (L.g h) shapeCasts_S1x64x1_S64x1
/-- Gates as a column. -/
def bc : FVec F S64x1 .f32 := shapeCast S64x1 (L.b h) shapeCasts_S1x64x1_S64x1
/-- The state as a matrix. -/
def st : FVec F S128x128 .f32 := shapeCast S128x128 (L.s h) shapeCasts_S1x1x128x128_S128x128

/-- Gated keys. -/
def kb : FVec F S64x128 .f32 := mulf (kf L h) (broadcastTo S64x128 (bc L h) broadcasts_S64x1_S64x128)

/-- Decay from the start of the chunk. -/
def eg : FVec F S64x1 .f32 := exp (gc L h)

/-- The pair's decay factors between rows, zero where the column's row comes later. -/
def decay : FVec F S64x128 .f32 :=
  select M.incl (exp (select M.incl (subf
    (select M.half (broadcastTo S64x128 (shapeCast S64x1 (gc L (lo p)) shapeCasts_S64x1_S64x1) broadcasts_S64x1_S64x128)
      (broadcastTo S64x128 (shapeCast S64x1 (gc L (hi p)) shapeCasts_S64x1_S64x1) broadcasts_S64x1_S64x128))
    (broadcastTo S64x128 (shapeCast S1x128 (L.gt p) shapeCasts_S1x1x1x128_S1x128) broadcasts_S1x128_S64x128))
    zt)) zt

/-- Side by side in the lanes. -/
def beside (x y : FVec F S64x128 .f32) : FVec F S64x256 .f32 :=
  concatenate S64x256 1 [⟨S64x128, x⟩, ⟨S64x128, y⟩] concatenates_S64x128_S64x128_S64x256_d1

/-- One above the other. -/
def above (x y : FVec F S64x256 .f32) : FVec F S128x256 .f32 :=
  concatenate S128x256 0 [⟨S64x256, x⟩, ⟨S64x256, y⟩] concatenates_S64x256_S64x256_S128x256_d0

/-- One above the other. -/
def stack (x y : FVec F S64x128 .f32) : FVec F S128x128 .f32 :=
  concatenate S128x128 0 [⟨S64x128, x⟩, ⟨S64x128, y⟩] concatenates_S64x128_S64x128_S128x128_d0

/-- The two 64 × 64 halves of a tile as a block diagonal matrix. -/
def bd (x : FVec F S64x128 .f32) : FVec F S128x128 .f32 := stack (select M.half x zt) (select M.half zt x)

/-- Products of the pair's gated keys and queries with its keys. -/
def s2 : FVec F S128x128 .f32 :=
  matmul dot_S128x256_S128x256_S128x128_1_1_0_0_n_n none
    (truncf .bf16 (above (beside (kb L (lo p)) (kb L (hi p))) (beside (qf L (lo p)) (qf L (hi p)))) bitsLt_bf16_f32)
    (truncf .bf16 (above (beside (kf L (lo p)) zt) (beside zt (kf L (hi p)))) bitsLt_bf16_f32)
    (constant S128x128 .f32 0x00000000#32)

/-- The pair's strictly triangular matrices. -/
def a : FVec F S64x128 .f32 :=
  select M.strict (mulf (extractStridedSlice S64x128 ![0, 0] (s2 L p) slices_S128x128_o0_0_S64x128) (decay M L p)) zt

/-- A tile times a block diagonal matrix. -/
def mm (x : FVec F S64x128 .f32) (y : FVec F S128x128 .f32) : FVec F S64x128 .f32 :=
  matmul dot_S64x128_S128x128_S64x128_1_0_0_1_n_n none (truncf .bf16 x bitsLt_bf16_f32) (truncf .bf16 y bitsLt_bf16_f32)
    (constant S64x128 .f32 0x00000000#32)

/-- The inverses of the 2 × 2 diagonal blocks. -/
def t0 (A : FVec F S64x128 .f32) : FVec F S64x128 .f32 := addf k0_pay10 (mulf neg (select M.blk0 A zt))

/-- One doubling: from the inverses of the diagonal blocks to those of blocks twice as large. -/
def lvl (blk : IVec S64x128 1) (A t : FVec F S64x128 .f32) : FVec F S64x128 .f32 :=
  addf t (mulf neg (mm (mm t (bd M (select blk A zt))) (bd M t)))

/-- The pair's inverses. -/
def inv (A : FVec F S64x128 .f32) : FVec F S64x128 .f32 :=
  lvl M M.blk5 A (lvl M M.blk4 A (lvl M M.blk3 A (lvl M M.blk2 A (lvl M M.blk1 A (t0 M A)))))

/-- The right hand sides of a head: gated values, and gated keys decayed from the start. -/
def rhs : FVec F S64x256 .f32 :=
  beside (mulf (vf L h) (broadcastTo S64x128 (bc L h) broadcasts_S64x1_S64x128))
    (mulf (kb L h) (broadcastTo S64x128 (eg L h) broadcasts_S64x1_S64x128))

/-- The pair's inverses applied to both right hand sides. -/
def sol : FVec F S128x256 .f32 :=
  matmul dot_S128x128_S128x256_S128x256_1_0_0_1_n_n none (truncf .bf16 (bd M (inv M (a M L p))) bitsLt_bf16_f32)
    (truncf .bf16 (above (rhs L (lo p)) (rhs L (hi p))) bitsLt_bf16_f32) (constant S128x256 .f32 0x00000000#32)

/-- A head's queries decayed from the start. -/
def qd : FVec F S64x128 .f32 := mulf (qf L h) (broadcastTo S64x128 (eg L h) broadcasts_S64x1_S64x128)

/-- The start state read by the solved keys and by the decayed queries, first head. -/
def wsLo : FVec F S128x128 .f32 :=
  matmul dot_S128x128_S128x128_S128x128_1_0_0_1_n_n none
    (truncf .bf16 (stack (extractStridedSlice S64x128 ![0, 128] (sol M L p) slices_S128x256_o0_128_S64x128) (qd L (lo p)))
      bitsLt_bf16_f32)
    (truncf .bf16 (st L (lo p)) bitsLt_bf16_f32) (constant S128x128 .f32 0x00000000#32)

/-- The same, second head. -/
def wsHi : FVec F S128x128 .f32 :=
  matmul dot_S128x128_S128x128_S128x128_1_0_0_1_n_n none
    (truncf .bf16 (stack (extractStridedSlice S64x128 ![64, 128] (sol M L p) slices_S128x256_o64_128_S64x128) (qd L (hi p)))
      bitsLt_bf16_f32)
    (truncf .bf16 (st L (hi p)) bitsLt_bf16_f32) (constant S128x128 .f32 0x00000000#32)

/-- The corrected values, first head. -/
def uLo : FVec F S64x128 .f32 :=
  subf (extractStridedSlice S64x128 ![0, 0] (sol M L p) slices_S128x256_o0_0_S64x128)
    (extractStridedSlice S64x128 ![0, 0] (wsLo M L p) slices_S128x128_o0_0_S64x128)

/-- The corrected values, second head. -/
def uHi : FVec F S64x128 .f32 :=
  subf (extractStridedSlice S64x128 ![64, 0] (sol M L p) slices_S128x256_o64_0_S64x128)
    (extractStridedSlice S64x128 ![0, 0] (wsHi M L p) slices_S128x128_o0_0_S64x128)

/-- What the chunk's own tokens contribute to the outputs of the pair. -/
def intra : FVec F S128x128 .f32 :=
  matmul dot_S128x128_S128x128_S128x128_1_0_0_1_n_n none
    (truncf .bf16 (bd M (mulf (extractStridedSlice S64x128 ![64, 0] (s2 L p) slices_S128x128_o64_0_S64x128) (decay M L p)))
      bitsLt_bf16_f32)
    (truncf .bf16 (stack (uLo M L p) (uHi M L p)) bitsLt_bf16_f32) (constant S128x128 .f32 0x00000000#32)

/-- The outputs of the first head. -/
def outLo : FVec F S64x128 .f32 :=
  addf (extractStridedSlice S64x128 ![64, 0] (wsLo M L p) slices_S128x128_o64_0_S64x128)
    (extractStridedSlice S64x128 ![0, 0] (intra M L p) slices_S128x128_o0_0_S64x128)

/-- The outputs of the second head. -/
def outHi : FVec F S64x128 .f32 :=
  addf (extractStridedSlice S64x128 ![64, 0] (wsHi M L p) slices_S128x128_o64_0_S64x128)
    (extractStridedSlice S64x128 ![64, 0] (intra M L p) slices_S128x128_o64_0_S64x128)

/-- A head's whole log decay: the least of the column. -/
def gl : FVec F S1x1 .f32 :=
  shapeCast S1x1 (multiReduction .minimumf [0] S1 (gc L h) 0x7F800000#32 reduces_S64x1_S1 (.inl rfl) rfl) shapeCasts_S1_S1x1

/-- A head's state after the chunk, from its corrected values. -/
def next (u : FVec F S64x128 .f32) : FVec F S1x1x128x128 .f32 :=
  shapeCast S1x1x128x128 (addf
    (mulf (st L h) (broadcastTo S128x128 (exp (gl L h)) broadcasts_S1x1_S128x128))
    (matmul dot_S64x128_S64x128_S128x128_0_0_1_1_n_n none
      (truncf .bf16 (mulf (kf L h) (broadcastTo S64x128 (exp (subf (broadcastTo S64x1 (gl L h) broadcasts_S1x1_S64x1) (gc L h)))
        broadcasts_S64x1_S64x128)) bitsLt_bf16_f32)
      (truncf .bf16 u bitsLt_bf16_f32) (constant S128x128 .f32 0x00000000#32)))
    shapeCasts_S128x128_S1x1x128x128

/-- The new state of the first head. -/
def nextLo : FVec F S1x1x128x128 .f32 := next L (lo p) (uLo M L p)

/-- The new state of the second head. -/
def nextHi : FVec F S1x1x128x128 .f32 := next L (hi p) (uHi M L p)

/-- Room for a head's lanes in a tile of all eight heads. -/
theorem inb_tile (h : Fin 8) : ∀ a, (![0, h.1 * 128] : Fin 2 → Nat) a + S64x128.size a ≤ S64x1024.size a := by
  revert h; decide

/-- Room for a head's state in the two directions' states. -/
theorem inb_state (d : Fin 2) (h : Fin 8) :
    ∀ a, (![d.1, h.1, 0, 0] : Fin 4 → Nat) a + S1x1x128x128.size a ≤ S2x8x128x128.size a := by
  revert d h; decide

/-- The stores of one direction's outputs, the last first. -/
def outPieces : List (View.Piece (Elt F) S64x1024 .f32) :=
  ([3, 2, 1, 0] : List (Fin 4)).flatMap fun p =>
    [⟨Rect.unit ![0, (hi p).1 * 128] S64x128.size (inb_tile (hi p)), outHi M L p⟩,
     ⟨Rect.unit ![0, (lo p).1 * 128] S64x128.size (inb_tile (lo p)), outLo M L p⟩]

/-- The stores of one direction's states, the last first. -/
def statePieces (d : Fin 2) : List (View.Piece (Elt F) S2x8x128x128 .f32) :=
  ([3, 2, 1, 0] : List (Fin 4)).flatMap fun p =>
    [⟨Rect.unit ![d.1, (hi p).1, 0, 0] S1x1x128x128.size (inb_state d (hi p)), nextHi M L p⟩,
     ⟨Rect.unit ![d.1, (lo p).1, 0, 0] S1x1x128x128.size (inb_state d (lo p)), nextLo M L p⟩]

end Cert.Chain
-- ==== Proof.Read.lean ====
/- The stages of `Chain` over the extended reals, read entry by entry when everything loaded is real: products of tiles and
   of block diagonal matrices, and the inverses of a pair of heads. -/
module

public import proofs.«01_k».proof.Proof.Chain
public import proofs.«01_k».proof.Proof.Delta
public import proofs.«01_k».proof.Proof.Spec
public import Idealize.ShloMosaic.Lib.Pointwise

@[expose] public section

set_option maxRecDepth 16384

noncomputable section

namespace Cert.Chain

open Cert.KernelIdeal Cert.KernelIdeal.Gen Idealize.ShloMosaic Delta

/-- A real 64 × 64 matrix. -/
abbrev Sq := Matrix (Fin 64) (Fin 64) ℝ

/-- Row or lane `j` of the first head. -/
def left (j : Fin 64) : Fin 128 := ⟨j.1, by omega⟩

/-- Row or lane `j` of the second head. -/
def right (j : Fin 64) : Fin 128 := ⟨64 + j.1, by omega⟩

theorem left_val (j : Fin 64) : (left j).1 = j.1 := rfl
theorem right_val (j : Fin 64) : (right j).1 = 64 + j.1 := rfl
theorem left_lt (j : Fin 64) : ((left j).1 < 64) = True := eq_true j.isLt
theorem right_lt (j : Fin 64) : ((right j).1 < 64) = False := eq_false (by simp [right_val])

theorem down_left (j : Fin 64) (h : (left j).1 < 64) : (⟨(left j).1, h⟩ : Fin 64) = j := rfl
theorem down_right (j : Fin 64) (h : (right j).1 - 64 < 64) : (⟨(right j).1 - 64, h⟩ : Fin 64) = j :=
  Fin.ext (by simp [right_val])

/-- A sum over 128 indices is one over each half. -/
theorem sum_halves (f : Fin 128 → EReal) : ∑ l, f l = ∑ j, f (left j) + ∑ j, f (right j) :=
  Fin.sum_univ_add (a := 64) (b := 64) f

/-- A tile holds two real matrices side by side. -/
structure Tile (X : FVec Ideal S64x128 .f32) (a b : Sq) : Prop where
  l : ∀ i j, X (ix2 i (left j)) = (a i j : EReal)
  r : ∀ i j, X (ix2 i (right j)) = (b i j : EReal)

/-- A 128 × 128 matrix is block diagonal, of two real blocks. -/
structure Diag (Y : FVec Ideal S128x128 .f32) (a b : Sq) : Prop where
  ll : ∀ i j, Y (ix2 (left i) (left j)) = (a i j : EReal)
  lr : ∀ i j, Y (ix2 (left i) (right j)) = 0
  rl : ∀ i j, Y (ix2 (right i) (left j)) = 0
  rr : ∀ i j, Y (ix2 (right i) (right j)) = (b i j : EReal)

/-- A pattern is the same relation of row and lane in both halves. -/
structure Pat (m : IVec S64x128 1) (P : Fin 64 → Fin 64 → Prop) : Prop where
  l : ∀ i j, m (ix2 i (left j)) = 1 ↔ P i j
  r : ∀ i j, m (ix2 i (right j)) = 1 ↔ P i j

/-- A pattern picks the first half. -/
structure Half (m : IVec S64x128 1) : Prop where
  l : ∀ i j, m (ix2 i (left j)) = 1
  r : ∀ i j, m (ix2 i (right j)) ≠ 1

theorem zt_apply (i : S64x128.Idx) : (zt : FVec Ideal S64x128 .f32) i = 0 := by
  pointwise [zt, z]

theorem neg_apply (i : S64x128.Idx) : (neg : FVec Ideal S64x128 .f32) i = ((-1 : ℝ) : EReal) := by
  pointwise [neg]
  rw [show (0xBF800000#32 : BitVec 32) = IdealRules.sign_bit.negOnePat .f32 by decide]
  exact (IdealRules.sign_bit.ideal_negOnePat .f32).trans (by simp)

/-- Keeping a tile where a pattern holds, zero elsewhere. -/
theorem Tile.keep {X : FVec Ideal S64x128 .f32} {a b : Sq} (h : Tile X a b) {m : IVec S64x128 1} {P : Fin 64 → Fin 64 → Prop}
    [∀ i j, Decidable (P i j)] (hm : Pat m P) :
    Tile (select m X zt) (fun i j => if P i j then a i j else 0) (fun i j => if P i j then b i j else 0) := by
  constructor
  · intro i j
    show Scalar.select _ _ _ = _
    rw [zt_apply, h.l, Scalar.select_def]
    by_cases hp : P i j
    · rw [if_pos ((hm.l i j).2 hp), if_pos hp]
    · rw [if_neg (fun e => hp ((hm.l i j).1 e)), if_neg hp, EReal.coe_zero]
  · intro i j
    show Scalar.select _ _ _ = _
    rw [zt_apply, h.r, Scalar.select_def]
    by_cases hp : P i j
    · rw [if_pos ((hm.r i j).2 hp), if_pos hp]
    · rw [if_neg (fun e => hp ((hm.r i j).1 e)), if_neg hp, EReal.coe_zero]

/-- A stack of two tiles, at the first and at the second tile's rows. -/
theorem stack_left (x y : FVec Ideal S64x128 .f32) (i : Fin 64) (l : Fin 128) : stack x y (ix2 (left i) l) = x (ix2 i l) := by
  pointwise [stack]
  simp only [left_lt, dite_true, down_left]

theorem stack_right (x y : FVec Ideal S64x128 .f32) (i : Fin 64) (l : Fin 128) : stack x y (ix2 (right i) l) = y (ix2 i l) := by
  pointwise [stack]
  simp only [right_lt, dite_false, down_right]

/-- The block diagonal matrix of a tile. -/
theorem Tile.diag {X : FVec Ideal S64x128 .f32} {a b : Sq} (h : Tile X a b) {M : Masks} (hm : Half M.half) :
    Diag (bd M X) a b := by
  constructor <;> intro i j <;> unfold bd
  · rw [stack_left]
    show Scalar.select _ _ _ = _
    rw [Scalar.select_of_eq_one (hm.l i j), h.l]
  · rw [stack_left]
    show Scalar.select _ _ _ = _
    rw [Scalar.select_of_ne_one (hm.r i j), zt_apply]
  · rw [stack_right]
    show Scalar.select _ _ _ = _
    rw [Scalar.select_of_eq_one (hm.l i j), zt_apply]
  · rw [stack_right]
    show Scalar.select _ _ _ = _
    rw [Scalar.select_of_ne_one (hm.r i j), h.r]

theorem mm_apply (X : FVec Ideal S64x128 .f32) (Y : FVec Ideal S128x128 .f32) (i : Fin 64) (l : Fin 128) :
    mm X Y (ix2 i l) = ∑ k : Fin 128, X (ix2 i k) * Y (ix2 k l) := by
  pointwise [mm]

/-- A tile times a block diagonal matrix: the two products. -/
theorem Tile.mul {X : FVec Ideal S64x128 .f32} {Y : FVec Ideal S128x128 .f32} {a b c d : Sq} (h : Tile X a b) (hy : Diag Y c d) :
    Tile (mm X Y) (a * c) (b * d) := by
  constructor <;> intro i j <;> rw [mm_apply, sum_halves, Matrix.mul_apply, coe_sum]
  · simp only [h.l, h.r, hy.ll, hy.rl, mul_zero, Finset.sum_const_zero, add_zero, EReal.coe_mul]
  · simp only [h.l, h.r, hy.lr, hy.rr, mul_zero, Finset.sum_const_zero, zero_add, EReal.coe_mul]

/-- A tile less another, as the kernel writes it. -/
theorem Tile.sub {X Y : FVec Ideal S64x128 .f32} {a b c d : Sq} (h : Tile X a b) (hy : Tile Y c d) :
    Tile (addf X (mulf neg Y)) (a - c) (b - d) := by
  have e (x y : ℝ) : (x : EReal) + ((-1 : ℝ) : EReal) * (y : EReal) = ((x - y : ℝ) : EReal) := by
    rw [← EReal.coe_mul, ← EReal.coe_add]; congr 1; ring
  constructor <;> intro i j
  · show X _ + neg _ * Y _ = _
    rw [h.l, hy.l, neg_apply]; exact e _ _
  · show X _ + neg _ * Y _ = _
    rw [h.r, hy.r, neg_apply]; exact e _ _

/-- What the patterns of a direction say: which half a lane is in, the blocks, and the scan's order of the rows. -/
structure Good (M : Masks) (lt le : Fin 64 → Fin 64 → Prop) : Prop where
  half : Half M.half
  blk0 : Pat M.blk0 fun i j => i.val / 2 = j.val / 2
  blk1 : Pat M.blk1 fun i j => i.val / 4 = j.val / 4 ∧ i.val / 2 ≠ j.val / 2
  blk2 : Pat M.blk2 fun i j => i.val / 8 = j.val / 8 ∧ i.val / 4 ≠ j.val / 4
  blk3 : Pat M.blk3 fun i j => i.val / 16 = j.val / 16 ∧ i.val / 8 ≠ j.val / 8
  blk4 : Pat M.blk4 fun i j => i.val / 32 = j.val / 32 ∧ i.val / 16 ≠ j.val / 16
  blk5 : Pat M.blk5 fun i j => i.val / 64 = j.val / 64 ∧ i.val / 32 ≠ j.val / 32
  strict : Pat M.strict fun i j => lt j i
  incl : Pat M.incl fun i j => le j i
  eye : Tile k0_pay10 1 1

variable {M : Masks} {lt le : Fin 64 → Fin 64 → Prop}

/-- One doubling of both heads' inverses. -/
theorem Tile.lvl {A t : FVec Ideal S64x128 .f32} {a b T U : Sq} (hA : Tile A a b) (ht : Tile t T U) (hh : Half M.half)
    (s : ℕ) {blk : IVec S64x128 1} (hb : Pat blk fun i j => i.val / (2 * s) = j.val / (2 * s) ∧ i.val / s ≠ j.val / s) :
    Tile (Chain.lvl M blk A t) (T - T * level s a * T) (U - U * level s b * U) :=
  ht.sub ((ht.mul ((hA.keep hb).diag hh)).mul (ht.diag hh))

/-- The inverses of a pair of heads. -/
theorem Tile.inv {A : FVec Ideal S64x128 .f32} {a b : Sq} (hA : Tile A a b) (hM : Good M lt le) :
    Tile (Chain.inv M A) (doubled a 5) (doubled b 5) := by
  have h0 : Tile (t0 M A) (doubled a 0) (doubled b 0) := hM.eye.sub (hA.keep hM.blk0)
  have h1 : Tile (Chain.lvl M M.blk1 A _) (doubled a 1) (doubled b 1) := hA.lvl h0 hM.half 2 hM.blk1
  have h2 : Tile (Chain.lvl M M.blk2 A _) (doubled a 2) (doubled b 2) := hA.lvl h1 hM.half 4 hM.blk2
  have h3 : Tile (Chain.lvl M M.blk3 A _) (doubled a 3) (doubled b 3) := hA.lvl h2 hM.half 8 hM.blk3
  have h4 : Tile (Chain.lvl M M.blk4 A _) (doubled a 4) (doubled b 4) := hA.lvl h3 hM.half 16 hM.blk4
  exact hA.lvl h4 hM.half 32 hM.blk5

end Cert.Chain
-- ==== Proof.MasksA.lean ====
/- The kernel's patterns of halves and of small blocks. -/
module

public import proofs.«01_k».proof.Proof.Read

@[expose] public section

set_option maxRecDepth 16384

noncomputable section

namespace Cert.Chain

open Cert.KernelIdeal Cert.KernelIdeal.Gen Idealize.ShloMosaic Delta

/-- The halves. -/
theorem half0 : Half masks0.half := ⟨by decide +kernel, by decide +kernel⟩

/-- The diagonal 2 × 2 blocks. -/
theorem pat0 : Pat masks0.blk0 fun i j => i.val / 2 = j.val / 2 := ⟨by decide +kernel, by decide +kernel⟩

/-- In the diagonal 4 × 4 blocks, outside the 2 × 2 ones. -/
theorem pat1 : Pat masks0.blk1 fun i j => i.val / 4 = j.val / 4 ∧ i.val / 2 ≠ j.val / 2 :=
  ⟨by decide +kernel, by decide +kernel⟩

/-- In the diagonal 8 × 8 blocks, outside the 4 × 4 ones. -/
theorem pat2 : Pat masks0.blk2 fun i j => i.val / 8 = j.val / 8 ∧ i.val / 4 ≠ j.val / 4 :=
  ⟨by decide +kernel, by decide +kernel⟩

end Cert.Chain
-- ==== Proof.MasksB.lean ====
/- The kernel's patterns of larger blocks. -/
module

public import proofs.«01_k».proof.Proof.Read

@[expose] public section

set_option maxRecDepth 16384

noncomputable section

namespace Cert.Chain

open Cert.KernelIdeal Cert.KernelIdeal.Gen Idealize.ShloMosaic Delta

/-- In the diagonal 16 × 16 blocks, outside the 8 × 8 ones. -/
theorem pat3 : Pat masks0.blk3 fun i j => i.val / 16 = j.val / 16 ∧ i.val / 8 ≠ j.val / 8 :=
  ⟨by decide +kernel, by decide +kernel⟩

/-- In the diagonal 32 × 32 blocks, outside the 16 × 16 ones. -/
theorem pat4 : Pat masks0.blk4 fun i j => i.val / 32 = j.val / 32 ∧ i.val / 16 ≠ j.val / 16 :=
  ⟨by decide +kernel, by decide +kernel⟩

/-- In the whole, outside the diagonal 32 × 32 blocks. -/
theorem pat5 : Pat masks0.blk5 fun i j => i.val / 64 = j.val / 64 ∧ i.val / 32 ≠ j.val / 32 :=
  ⟨by decide +kernel, by decide +kernel⟩

end Cert.Chain
-- ==== Proof.MasksC.lean ====
/- The kernel's patterns of earlier and not later tokens. -/
module

public import proofs.«01_k».proof.Proof.Read

@[expose] public section

set_option maxRecDepth 16384

noncomputable section

namespace Cert.Chain

open Cert.KernelIdeal Cert.KernelIdeal.Gen Idealize.ShloMosaic Delta

/-- Earlier, in order. -/
theorem strict0 : Pat masks0.strict fun i j => j < i := ⟨by decide +kernel, by decide +kernel⟩
/-- Earlier, in the opposite order. -/
theorem strict1 : Pat masks1.strict fun i j => i < j := ⟨by decide +kernel, by decide +kernel⟩
/-- Not later, in order. -/
theorem incl0 : Pat masks0.incl fun i j => j ≤ i := ⟨by decide +kernel, by decide +kernel⟩
/-- Not later, in the opposite order. -/
theorem incl1 : Pat masks1.incl fun i j => i ≤ j := ⟨by decide +kernel, by decide +kernel⟩

end Cert.Chain
-- ==== Proof.MasksD.lean ====
/- The kernel's identity matrices. -/
module

public import proofs.«01_k».proof.Proof.Read

@[expose] public section

set_option maxRecDepth 16384

noncomputable section

namespace Cert.Chain

open Cert.KernelIdeal Cert.KernelIdeal.Gen Idealize.ShloMosaic Delta

/-- Where row and lane are the same. -/
theorem diag_word : ∀ i j : Fin 64,
    (cmpi .eq k0_pay5 (iota .tc S64x128 32 [0] iota_S64x128_d0_w32) (ix2 i (left j)) = BitVec.ofBool (i = j))
    ∧ (cmpi .eq k0_pay5 (iota .tc S64x128 32 [0] iota_S64x128_d0_w32) (ix2 i (right j)) = BitVec.ofBool (i = j)) := by
  decide +kernel

/-- The word of a comparison, as a number, is the identity matrix's entry. -/
theorem word_real (i j : Fin 64) :
    FloatOps.sitofp (F := Ideal) .f32 (BitVec.zeroExtend 32 (BitVec.ofBool (i = j))) = ((1 : Matrix (Fin 64) (Fin 64) ℝ) i j : EReal) := by
  by_cases e : i = j
  · rw [show decide (i = j) = true from decide_eq_true e, show ((1 : Matrix (Fin 64) (Fin 64) ℝ) i j) = 1 by rw [e, Matrix.one_apply_eq]]
    show (((BitVec.zeroExtend 32 (BitVec.ofBool true)).toInt : ℝ) : EReal) = _
    simp
  · rw [show decide (i = j) = false from decide_eq_false e, Matrix.one_apply_ne e]
    show (((BitVec.zeroExtend 32 (BitVec.ofBool false)).toInt : ℝ) : EReal) = _
    simp

/-- The pair's identity matrices. -/
theorem eye : Tile k0_pay10 1 1 := by
  constructor <;> intro i j
  · have h := (diag_word i j).1
    unfold k0_pay10
    show FloatOps.sitofp (F := Ideal) .f32 (BitVec.zeroExtend 32 (cmpi .eq k0_pay5 _ _)) = _
    rw [h]
    exact word_real i j
  · have h := (diag_word i j).2
    unfold k0_pay10
    show FloatOps.sitofp (F := Ideal) .f32 (BitVec.zeroExtend 32 (cmpi .eq k0_pay5 _ _)) = _
    rw [h]
    exact word_real i j

end Cert.Chain
-- ==== Proof.Masks.lean ====
/- The kernel's patterns say what they should. -/
module

public import proofs.«01_k».proof.Proof.MasksA
public import proofs.«01_k».proof.Proof.MasksB
public import proofs.«01_k».proof.Proof.MasksC
public import proofs.«01_k».proof.Proof.MasksD

@[expose] public section

set_option maxRecDepth 16384

noncomputable section

namespace Cert.Chain

open Cert.KernelIdeal Cert.KernelIdeal.Gen Idealize.ShloMosaic Delta

/-- The patterns of the first direction: rows in order. -/
theorem good0 : Good masks0 (· < ·) (· ≤ ·) := ⟨half0, pat0, pat1, pat2, pat3, pat4, pat5, strict0, incl0, eye⟩

/-- The patterns of the second direction: rows in the opposite order. -/
theorem good1 : Good masks1 (· > ·) (· ≥ ·) := ⟨half0, pat0, pat1, pat2, pat3, pat4, pat5, strict1, incl1, eye⟩

end Cert.Chain
-- ==== Proof.Read2.lean ====
/- The stages of `Chain` over the extended reals, read entry by entry when everything loaded is real: what a point writes
   out and carries on, for each head. -/
module

public import proofs.«01_k».proof.Proof.Read

@[expose] public section

set_option maxRecDepth 16384

noncomputable section

namespace Cert.Chain

open Cert.KernelIdeal Cert.KernelIdeal.Gen Idealize.ShloMosaic Delta

/-- The real values of what a point loads for one direction, head by head; `w` is a head's whole log decay. -/
structure Vals where
  /-- queries -/
  q : Fin 8 → Fin 64 → Fin 128 → ℝ
  /-- keys -/
  k : Fin 8 → Fin 64 → Fin 128 → ℝ
  /-- values -/
  v : Fin 8 → Fin 64 → Fin 128 → ℝ
  /-- cumulative log decays -/
  g : Fin 8 → Fin 64 → ℝ
  /-- gates -/
  b : Fin 8 → Fin 64 → ℝ
  /-- start states -/
  s : Fin 8 → Fin 128 → Fin 128 → ℝ
  /-- the least cumulative log decay -/
  w : Fin 8 → ℝ

/-- What is loaded has these real values. -/
structure Reads (L : Loads Ideal) (D : Vals) : Prop where
  q : ∀ h i x, L.q h (ix2 i x) = (D.q h i x : EReal)
  k : ∀ h i x, L.k h (ix2 i x) = (D.k h i x : EReal)
  v : ∀ h i x, L.v h (ix2 i x) = (D.v h i x : EReal)
  g : ∀ h i, L.g h (ix3 0 i 0) = (D.g h i : EReal)
  b : ∀ h i, L.b h (ix3 0 i 0) = (D.b h i : EReal)
  gtl : ∀ p j, L.gt p (ix4 0 0 0 (left j)) = (D.g (lo p) j : EReal)
  gtr : ∀ p j, L.gt p (ix4 0 0 0 (right j)) = (D.g (hi p) j : EReal)
  s : ∀ h x y, L.s h (ix4 0 0 x y) = (D.s h x y : EReal)
  wle : ∀ h i, D.w h ≤ D.g h i
  wmem : ∀ h, ∃ i, D.g h i = D.w h

/-- A tile holds a real matrix over all its lanes. -/
def Mat (X : FVec Ideal S64x128 .f32) (f : Fin 64 → Fin 128 → ℝ) : Prop := ∀ i y, X (ix2 i y) = (f i y : EReal)

/-- Lane `x` of the first half of 256. -/
def fst (x : Fin 128) : Fin 256 := ⟨x.1, by omega⟩

/-- Lane `x` of the second half of 256. -/
def snd (x : Fin 128) : Fin 256 := ⟨128 + x.1, by omega⟩

theorem fst_lt (x : Fin 128) : ((fst x).1 < 128) = True := eq_true x.isLt
theorem snd_lt (x : Fin 128) : ((snd x).1 < 128) = False := eq_false (by simp [snd])
theorem down_fst (x : Fin 128) (h : (fst x).1 < 128) : (⟨(fst x).1, h⟩ : Fin 128) = x := rfl
theorem down_snd (x : Fin 128) (h : (snd x).1 - 128 < 128) : (⟨(snd x).1 - 128, h⟩ : Fin 128) = x :=
  Fin.ext (by simp [snd])

/-- A sum over 256 indices is one over each half. -/
theorem sum_wide (f : Fin 256 → EReal) : ∑ l, f l = ∑ x, f (fst x) + ∑ x, f (snd x) :=
  Fin.sum_univ_add (a := 128) (b := 128) f

/-- A sum of products of reals. -/
theorem dot_coe {n : ℕ} (f g : Fin n → ℝ) : ∑ z, (f z : EReal) * (g z : EReal) = ((∑ z, f z * g z : ℝ) : EReal) := by
  rw [coe_sum]; simp only [EReal.coe_mul]

section Layout

variable (x y : FVec Ideal S64x128 .f32) (X Y : FVec Ideal S64x256 .f32) (Z : FVec Ideal S128x128 .f32)
  (W : FVec Ideal S128x256 .f32) (i : Fin 64) (l : Fin 128) (c : Fin 256)

theorem beside_fst : beside x y (ix2 i (fst l)) = x (ix2 i l) := by
  pointwise [beside]
  simp only [fst_lt, dite_true, down_fst]

theorem beside_snd : beside x y (ix2 i (snd l)) = y (ix2 i l) := by
  pointwise [beside]
  simp only [snd_lt, dite_false, down_snd]

theorem above_left : above X Y (ix2 (left i) c) = X (ix2 i c) := by
  pointwise [above]
  simp only [left_lt, dite_true, down_left]

theorem above_right : above X Y (ix2 (right i) c) = Y (ix2 i c) := by
  pointwise [above]
  simp only [right_lt, dite_false, down_right]

theorem top_apply : extractStridedSlice S64x128 ![0, 0] Z slices_S128x128_o0_0_S64x128 (ix2 i l) = Z (ix2 (left i) l) := by
  pointwise; rfl

theorem bot_apply : extractStridedSlice S64x128 ![64, 0] Z slices_S128x128_o64_0_S64x128 (ix2 i l) = Z (ix2 (right i) l) := by
  pointwise; rfl

theorem topFst_apply : extractStridedSlice S64x128 ![0, 0] W slices_S128x256_o0_0_S64x128 (ix2 i l) = W (ix2 (left i) (fst l)) := by
  pointwise; rfl

theorem topSnd_apply : extractStridedSlice S64x128 ![0, 128] W slices_S128x256_o0_128_S64x128 (ix2 i l) = W (ix2 (left i) (snd l)) := by
  pointwise; rfl

theorem botFst_apply : extractStridedSlice S64x128 ![64, 0] W slices_S128x256_o64_0_S64x128 (ix2 i l) = W (ix2 (right i) (fst l)) := by
  pointwise; rfl

theorem botSnd_apply : extractStridedSlice S64x128 ![64, 128] W slices_S128x256_o64_128_S64x128 (ix2 i l) = W (ix2 (right i) (snd l)) := by
  pointwise; rfl

end Layout

section Head

variable (lt le : Fin 64 → Fin 64 → Prop) [∀ i j, Decidable (lt i j)] [∀ i j, Decidable (le i j)] (D : Vals) (h : Fin 8)

/-- A head's strictly triangular matrix. -/
def amat : Sq := fun i j =>
  if lt j i then (∑ x, (D.k h i x * D.b h i) * D.k h j x) * Real.exp (D.g h i - D.g h j) else 0

/-- A head's products of queries and keys, decayed, of the rows not later than the query's. -/
def imat : Sq := fun i j =>
  if le j i then (∑ x, D.q h i x * D.k h j x) * Real.exp (D.g h i - D.g h j) else 0

/-- The solved gated values. -/
def w1 (i : Fin 64) (y : Fin 128) : ℝ := ∑ m, doubled (amat lt D h) 5 i m * (D.v h m y * D.b h m)

/-- The solved gated keys. -/
def w2 (i : Fin 64) (z : Fin 128) : ℝ :=
  ∑ m, doubled (amat lt D h) 5 i m * (D.k h m z * D.b h m * Real.exp (D.g h m))

/-- The corrected values. -/
def uval (i : Fin 64) (y : Fin 128) : ℝ := w1 lt D h i y - ∑ z, w2 lt D h i z * D.s h z y

/-- The outputs. -/
def oval (i : Fin 64) (y : Fin 128) : ℝ :=
  (∑ z, (D.q h i z * Real.exp (D.g h i)) * D.s h z y) + ∑ m, imat le D h i m * uval lt D h m y

/-- The new state. -/
def sval (x y : Fin 128) : ℝ :=
  D.s h x y * Real.exp (D.w h) + ∑ i, (D.k h i x * Real.exp (D.w h - D.g h i)) * uval lt D h i y

end Head

variable {L : Loads Ideal} {D : Vals} (hD : Reads L D) {M : Masks} {lt le : Fin 64 → Fin 64 → Prop}
  [∀ i j, Decidable (lt i j)] [∀ i j, Decidable (le i j)] (hM : Good M lt le) (hle : ∀ i j, lt i j → le i j)
  (p : Fin 4) (h : Fin 8)

include hD

theorem kb_mat : Mat (kb L h) fun i x => D.k h i x * D.b h i := by
  intro i x
  pointwise [kb, kf, bc]
  rw [hD.k, hD.b, EReal.coe_mul]

theorem qf_mat : Mat (qf L h) (D.q h) := fun i x => hD.q h i x

theorem kf_mat : Mat (kf L h) (D.k h) := fun i x => hD.k h i x

theorem qd_mat : Mat (qd L h) fun i x => D.q h i x * Real.exp (D.g h i) := by
  intro i x
  pointwise [qd, qf, eg, gc]
  rw [hD.q, hD.g, Ideal.exp_coe, EReal.coe_mul]

theorem st_apply (x y : Fin 128) : st L h (ix2 x y) = (D.s h x y : EReal) := by
  pointwise [st]
  rw [hD.s]

theorem rhs_fst (i : Fin 64) (y : Fin 128) : rhs L h (ix2 i (fst y)) = ((D.v h i y * D.b h i : ℝ) : EReal) := by
  unfold rhs
  rw [beside_fst]
  pointwise [vf, bc]
  rw [hD.v, hD.b, EReal.coe_mul]

theorem rhs_snd (i : Fin 64) (y : Fin 128) :
    rhs L h (ix2 i (snd y)) = ((D.k h i y * D.b h i * Real.exp (D.g h i) : ℝ) : EReal) := by
  unfold rhs
  rw [beside_snd]
  pointwise [kb, kf, bc, eg, gc]
  rw [hD.k, hD.b, hD.g, Ideal.exp_coe, EReal.coe_mul, EReal.coe_mul]

theorem gl_apply : gl L h (ix2 0 0) = (D.w h : EReal) := by
  pointwise [gl, gc]
  simp only [hD.g]
  have top : Ideal.ofBits .f32 0x7F800000#32 = ⊤ := by simp [Ideal.ofBits, Ideal.ieee]
  rw [top]
  refine le_antisymm ?_ ?_
  · obtain ⟨i, hi⟩ := hD.wmem h
    exact (Finset.fold_min_le _).2 (Or.inr ⟨i, Finset.mem_univ _, by rw [hi]⟩)
  · exact (Finset.le_fold_min _).2 ⟨le_top, fun i _ => EReal.coe_le_coe_iff.2 (hD.wle h i)⟩

include hM

/-- The decay factors of a pair. -/
theorem decay_tile : Tile (decay M L p)
    (fun i j => if le j i then Real.exp (D.g (lo p) i - D.g (lo p) j) else 0)
    (fun i j => if le j i then Real.exp (D.g (hi p) i - D.g (hi p) j) else 0) := by
  constructor <;> intro i j
  · pointwise [decay, gc, zt, z]
    by_cases hp : le j i
    · simp only [Scalar.select_of_eq_one ((hM.incl.l i j).2 hp), Scalar.select_of_eq_one (hM.half.l i j), if_pos hp,
        hD.g, hD.gtl, ← EReal.coe_sub, Ideal.exp_coe]
    · rw [Scalar.select_of_ne_one (fun e => hp ((hM.incl.l i j).1 e)), if_neg hp, EReal.coe_zero]
  · pointwise [decay, gc, zt, z]
    by_cases hp : le j i
    · simp only [Scalar.select_of_eq_one ((hM.incl.r i j).2 hp), Scalar.select_of_ne_one (hM.half.r i j), if_pos hp,
        hD.g, hD.gtr, ← EReal.coe_sub, Ideal.exp_coe]
    · rw [Scalar.select_of_ne_one (fun e => hp ((hM.incl.r i j).1 e)), if_neg hp, EReal.coe_zero]

omit hM

theorem s2_apply (r c : Fin 128) : s2 L p (ix2 r c) = ∑ k : Fin 256,
    above (beside (kb L (lo p)) (kb L (hi p))) (beside (qf L (lo p)) (qf L (hi p))) (ix2 r k)
      * above (beside (kf L (lo p)) zt) (beside zt (kf L (hi p))) (ix2 c k) := by
  pointwise [s2]

/-- Products of gated keys with keys. -/
theorem s2_top : Tile (extractStridedSlice S64x128 ![0, 0] (s2 L p) slices_S128x128_o0_0_S64x128)
    (fun i j => ∑ x, (D.k (lo p) i x * D.b (lo p) i) * D.k (lo p) j x)
    (fun i j => ∑ x, (D.k (hi p) i x * D.b (hi p) i) * D.k (hi p) j x) := by
  constructor <;> intro i j <;> rw [top_apply, s2_apply hD, sum_wide]
  · simp only [above_left, beside_fst, beside_snd, kb_mat hD _ _ _, kf_mat hD _ _ _, zt_apply, mul_zero, Finset.sum_const_zero,
      add_zero, dot_coe]
  · simp only [above_left, above_right, beside_fst, beside_snd, kb_mat hD _ _ _, kf_mat hD _ _ _, zt_apply, mul_zero,
      Finset.sum_const_zero, zero_add, dot_coe]

/-- Products of queries with keys. -/
theorem s2_bot : Tile (extractStridedSlice S64x128 ![64, 0] (s2 L p) slices_S128x128_o64_0_S64x128)
    (fun i j => ∑ x, D.q (lo p) i x * D.k (lo p) j x)
    (fun i j => ∑ x, D.q (hi p) i x * D.k (hi p) j x) := by
  constructor <;> intro i j <;> rw [bot_apply, s2_apply hD, sum_wide]
  · simp only [above_left, above_right, beside_fst, beside_snd, qf_mat hD _ _ _, kf_mat hD _ _ _, zt_apply, mul_zero,
      Finset.sum_const_zero, add_zero, dot_coe]
  · simp only [above_right, beside_fst, beside_snd, qf_mat hD _ _ _, kf_mat hD _ _ _, zt_apply, mul_zero,
      Finset.sum_const_zero, zero_add, dot_coe]

include hM

/-- The pair's products with the decay factors. -/
theorem intra_tile : Tile (mulf (extractStridedSlice S64x128 ![64, 0] (s2 L p) slices_S128x128_o64_0_S64x128) (decay M L p))
    (imat le D (lo p)) (imat le D (hi p)) := by
  constructor <;> intro i j <;> show _ * _ = _
  · rw [(s2_bot hD p).l, (decay_tile hD hM p).l, ← EReal.coe_mul]
    unfold imat; by_cases hp : le j i <;> simp [hp]
  · rw [(s2_bot hD p).r, (decay_tile hD hM p).r, ← EReal.coe_mul]
    unfold imat; by_cases hp : le j i <;> simp [hp]

include hle

/-- The pair's strictly triangular matrices. -/
theorem a_tile : Tile (a M L p) (amat lt D (lo p)) (amat lt D (hi p)) := by
  have h : Tile (mulf (extractStridedSlice S64x128 ![0, 0] (s2 L p) slices_S128x128_o0_0_S64x128) (decay M L p))
      (fun i j => (∑ x, (D.k (lo p) i x * D.b (lo p) i) * D.k (lo p) j x)
        * if le j i then Real.exp (D.g (lo p) i - D.g (lo p) j) else 0)
      (fun i j => (∑ x, (D.k (hi p) i x * D.b (hi p) i) * D.k (hi p) j x)
        * if le j i then Real.exp (D.g (hi p) i - D.g (hi p) j) else 0) := by
    constructor <;> intro i j <;> show _ * _ = _
    · rw [(s2_top hD p).l, (decay_tile hD hM p).l, ← EReal.coe_mul]
    · rw [(s2_top hD p).r, (decay_tile hD hM p).r, ← EReal.coe_mul]
  have h' := h.keep hM.strict
  have e : ∀ h : Fin 8, (fun i j => if lt j i then (∑ x, (D.k h i x * D.b h i) * D.k h j x)
        * (if le j i then Real.exp (D.g h i - D.g h j) else 0) else 0) = amat lt D h := by
    intro h
    funext i j
    unfold amat
    by_cases hp : lt j i
    · rw [if_pos hp, if_pos hp, if_pos (hle _ _ hp)]
    · rw [if_neg hp, if_neg hp]
  rw [← e, ← e]
  exact h'

theorem inv_tile : Tile (inv M (a M L p)) (doubled (amat lt D (lo p)) 5) (doubled (amat lt D (hi p)) 5) :=
  (a_tile hD hM hle p).inv hM

omit hD hM hle in
theorem sol_apply (r : Fin 128) (c : Fin 256) : sol M L p (ix2 r c) = ∑ k : Fin 128,
    bd M (inv M (a M L p)) (ix2 r k) * above (rhs L (lo p)) (rhs L (hi p)) (ix2 k c) := by
  pointwise [sol]

theorem sol_left (i : Fin 64) (c : Fin 256) : sol M L p (ix2 (left i) c)
    = ∑ m, ((doubled (amat lt D (lo p)) 5 i m : ℝ) : EReal) * rhs L (lo p) (ix2 m c) := by
  have hT := (inv_tile hD hM hle p).diag hM.half
  rw [sol_apply, sum_halves]
  simp only [hT.ll, hT.lr, above_left, zero_mul, Finset.sum_const_zero, add_zero]

theorem sol_right (i : Fin 64) (c : Fin 256) : sol M L p (ix2 (right i) c)
    = ∑ m, ((doubled (amat lt D (hi p)) 5 i m : ℝ) : EReal) * rhs L (hi p) (ix2 m c) := by
  have hT := (inv_tile hD hM hle p).diag hM.half
  rw [sol_apply, sum_halves]
  simp only [hT.rl, hT.rr, above_right, zero_mul, Finset.sum_const_zero, zero_add]

omit hD hM hle in
theorem wsLo_apply (r y : Fin 128) : wsLo M L p (ix2 r y) = ∑ z : Fin 128,
    stack (extractStridedSlice S64x128 ![0, 128] (sol M L p) slices_S128x256_o0_128_S64x128) (qd L (lo p)) (ix2 r z)
      * st L (lo p) (ix2 z y) := by
  pointwise [wsLo]

omit hD hM hle in
theorem wsHi_apply (r y : Fin 128) : wsHi M L p (ix2 r y) = ∑ z : Fin 128,
    stack (extractStridedSlice S64x128 ![64, 128] (sol M L p) slices_S128x256_o64_128_S64x128) (qd L (hi p)) (ix2 r z)
      * st L (hi p) (ix2 z y) := by
  pointwise [wsHi]

/-- The corrected values of the first head. -/
theorem uLo_mat : Mat (uLo M L p) (uval lt D (lo p)) := by
  intro i y
  show extractStridedSlice _ _ _ _ _ - extractStridedSlice _ _ _ _ _ = _
  rw [topFst_apply, top_apply, sol_left hD hM hle, wsLo_apply]
  simp only [stack_left, topSnd_apply, sol_left hD hM hle, rhs_fst hD, rhs_snd hD, st_apply hD, dot_coe, ← EReal.coe_sub]
  rfl

/-- The corrected values of the second head. -/
theorem uHi_mat : Mat (uHi M L p) (uval lt D (hi p)) := by
  intro i y
  show extractStridedSlice _ _ _ _ _ - extractStridedSlice _ _ _ _ _ = _
  rw [botFst_apply, top_apply, sol_right hD hM hle, wsHi_apply]
  simp only [stack_left, botSnd_apply, sol_right hD hM hle, rhs_fst hD, rhs_snd hD, st_apply hD, dot_coe, ← EReal.coe_sub]
  rfl

omit hD hM hle in
theorem intra_apply (r y : Fin 128) : intra M L p (ix2 r y) = ∑ k : Fin 128,
    bd M (mulf (extractStridedSlice S64x128 ![64, 0] (s2 L p) slices_S128x128_o64_0_S64x128) (decay M L p)) (ix2 r k)
      * stack (uLo M L p) (uHi M L p) (ix2 k y) := by
  pointwise [intra]

/-- What the first head writes out. -/
theorem outLo_mat : Mat (outLo M L p) (oval lt le D (lo p)) := by
  intro i y
  have hI := (intra_tile hD hM p).diag hM.half
  show extractStridedSlice _ _ _ _ _ + extractStridedSlice _ _ _ _ _ = _
  rw [bot_apply, top_apply, intra_apply, sum_halves, wsLo_apply]
  simp only [stack_left, stack_right, hI.ll, hI.lr, zero_mul, Finset.sum_const_zero, add_zero, qd_mat hD _ _ _, st_apply hD,
    uLo_mat hD hM hle p _ _, dot_coe, ← EReal.coe_add]
  rfl

/-- What the second head writes out. -/
theorem outHi_mat : Mat (outHi M L p) (oval lt le D (hi p)) := by
  intro i y
  have hI := (intra_tile hD hM p).diag hM.half
  show extractStridedSlice _ _ _ _ _ + extractStridedSlice _ _ _ _ _ = _
  rw [bot_apply, bot_apply, intra_apply, sum_halves, wsHi_apply]
  simp only [stack_left, stack_right, hI.rl, hI.rr, zero_mul, Finset.sum_const_zero, zero_add, qd_mat hD _ _ _, st_apply hD,
    uHi_mat hD hM hle p _ _, dot_coe, ← EReal.coe_add]
  rfl

omit hM hle in
/-- The new state of a head. -/
theorem next_apply {u : FVec Ideal S64x128 .f32} (hu : Mat u (uval lt D h)) (x y : Fin 128) :
    next L h u (ix4 0 0 x y) = (sval lt D h x y : EReal) := by
  pointwise [next, kf, gc]
  simp only [st_apply hD, gl_apply hD, hD.k, hD.g, hu _ _, ← EReal.coe_sub, Ideal.exp_coe, ← EReal.coe_mul, ← coe_sum, ← EReal.coe_add]
  rfl

theorem nextLo_apply (x y : Fin 128) : nextLo M L p (ix4 0 0 x y) = (sval lt D (lo p) x y : EReal) :=
  next_apply hD (lo p) (uLo_mat hD hM hle p) x y

theorem nextHi_apply (x y : Fin 128) : nextHi M L p (ix4 0 0 x y) = (sval lt D (hi p) x y : EReal) :=
  next_apply hD (hi p) (uHi_mat hD hM hle p) x y

end Cert.Chain
-- ==== Proof.Solve.lean ====
/- A chunk's real formulas are the token recurrence over the chunk. -/
module

public import proofs.«01_k».proof.Proof.Read2

@[expose] public section

set_option maxRecDepth 16384

noncomputable section

namespace Cert.Chain

open Delta

/-- Rows of a chunk in scan order. -/
structure Order (lt le : Fin 64 → Fin 64 → Prop) (σ : Fin 64 ≃ Fin 64) : Prop where
  lt : ∀ i j, lt (σ j) (σ i) ↔ j < i
  le : ∀ i j, le (σ j) (σ i) ↔ j ≤ i

theorem order0 : Order (· < ·) (· ≤ ·) (Equiv.refl _) := ⟨fun _ _ => Iff.rfl, fun _ _ => Iff.rfl⟩

theorem order1 : Order (· > ·) (· ≥ ·) Fin.revPerm :=
  ⟨fun i j => by simp, fun i j => by simp⟩

/-- Terms of a sum that vanish from an index on. -/
theorem sum_below (f : ℕ → ℝ) {i : ℕ} (hi : i ≤ 64) :
    ∑ j : Fin 64, (if j.1 < i then f j.1 else 0) = ∑ j ∈ Finset.range i, f j := by
  rw [Fin.sum_univ_eq_sum_range (fun j => if j < i then f j else 0) 64, ← Finset.sum_filter]
  congr 1
  ext j
  simp only [Finset.mem_filter, Finset.mem_range]
  omega

/-- One head's chunk in scan order: the functions of the token recurrence at its tokens are the rows' values. -/
structure Tokens (D : Vals) (h : Fin 8) (σ : Fin 64 ≃ Fin 64) (q : ℕ → Fin 128 → ℝ) (G b : ℕ → ℝ) (k v : ℕ → Fin 128 → ℝ)
    (S : Fin 128 → Fin 128 → ℝ) : Prop where
  q : ∀ i : Fin 64, D.q h (σ i) = q i
  k : ∀ i : Fin 64, D.k h (σ i) = k i
  v : ∀ i : Fin 64, D.v h (σ i) = v i
  g : ∀ i : Fin 64, D.g h (σ i) = G i
  b : ∀ i : Fin 64, D.b h (σ i) = b i
  s : D.s h = S
  w : D.w h = G 63

variable {lt le : Fin 64 → Fin 64 → Prop} [∀ i j, Decidable (lt i j)] [∀ i j, Decidable (le i j)] {σ : Fin 64 ≃ Fin 64}
  {D : Vals} {h : Fin 8} {q : ℕ → Fin 128 → ℝ} {G b : ℕ → ℝ} {k v : ℕ → Fin 128 → ℝ} {S : Fin 128 → Fin 128 → ℝ}

/-- A sum over rows, taken in scan order. -/
theorem sum_rows (σ : Fin 64 ≃ Fin 64) (f : Fin 64 → ℝ) : ∑ j, f j = ∑ j, f (σ j) := (Equiv.sum_comp σ f).symm

/-- A head's matrix is strictly triangular. -/
theorem tri (ho : Order lt le σ) (hs : σ = Equiv.refl _ ∨ σ = Fin.revPerm) : Tri (amat lt D h) := by
  have key : ∀ i j, ¬ (σ.symm j < σ.symm i) → amat lt D h i j = 0 := by
    intro i j hij
    have := (ho.lt (σ.symm i) (σ.symm j))
    rw [σ.apply_symm_apply, σ.apply_symm_apply] at this
    exact if_neg (fun e => hij (this.1 e))
  rcases hs with rfl | rfl
  · exact Or.inl key
  · refine Or.inr fun i j hij => key i j ?_
    simpa using hij

/-- What the corrected values satisfy: forward substitution, in the rows' own order. -/
theorem uval_eq (hA : Tri (amat lt D h)) (i : Fin 64) (y : Fin 128) :
    uval lt D h i y + ∑ j, amat lt D h i j * uval lt D h j y
      = D.v h i y * D.b h i - ∑ z, (D.k h i z * D.b h i * Real.exp (D.g h i)) * D.s h z y := by
  have hT := doubled_mul hA
  set T := doubled (amat lt D h) 5 with hTd
  set r : Fin 64 → ℝ := fun m => D.v h m y * D.b h m - ∑ z, (D.k h m z * D.b h m * Real.exp (D.g h m)) * D.s h z y with hr
  have hu : ∀ i, uval lt D h i y = T.mulVec r i := by
    intro i
    unfold uval w1 w2
    simp only [Matrix.mulVec, dotProduct, hr, mul_sub, Finset.sum_sub_distrib, ← hTd]
    congr 1
    simp only [Finset.sum_mul, Finset.mul_sum]
    rw [Finset.sum_comm]
    exact Finset.sum_congr rfl fun m _ => Finset.sum_congr rfl fun z _ => by ring
  have e : (1 + amat lt D h).mulVec (T.mulVec r) = r := by
    rw [Matrix.mulVec_mulVec, hT, Matrix.one_mulVec]
  have := congrFun e i
  rw [Matrix.add_mulVec, Matrix.one_mulVec, Pi.add_apply] at this
  rw [hu i]
  refine Eq.trans ?_ this
  congr 1
  exact Finset.sum_congr rfl fun j _ => congrArg (amat lt D h i j * ·) (hu j)

/-- The corrected values at a token. -/
def uAt (lt : Fin 64 → Fin 64 → Prop) [∀ i j, Decidable (lt i j)] (D : Vals) (h : Fin 8) (σ : Fin 64 ≃ Fin 64) (i : ℕ)
    (y : Fin 128) : ℝ := uval lt D h (σ (Fin.ofNat 64 i)) y

theorem uAt_fin (i : Fin 64) (y : Fin 128) : uAt lt D h σ i y = uval lt D h (σ i) y := by
  unfold uAt
  congr 2
  exact Fin.ext (Nat.mod_eq_of_lt i.isLt)

/-- The corrected values are what the token recurrence writes. -/
theorem solves (ho : Order lt le σ) (hA : Tri (amat lt D h)) (ht : Tokens D h σ q G b k v S) :
    Solves 64 G b k v S (uAt lt D h σ) := by
  intro i hi y
  have e := uval_eq hA (σ ⟨i, hi⟩) y
  rw [← uAt_fin, ht.v, ht.b, ht.g, ht.k, ht.s, sum_rows σ] at e
  have e2 : ∑ j, amat lt D h (σ ⟨i, hi⟩) (σ j) * uval lt D h (σ j) y
      = ∑ j ∈ Finset.range i, ((∑ z, (k i z * b i) * k j z) * Real.exp (G i - G j)) * uAt lt D h σ j y := by
    rw [← sum_below (fun j => ((∑ z, (k i z * b i) * k j z) * Real.exp (G i - G j)) * uAt lt D h σ j y) hi.le]
    refine Finset.sum_congr rfl fun j _ => ?_
    unfold amat
    simp only [ho.lt, uAt_fin, ht.k, ht.b, ht.g, Fin.lt_def]
    by_cases hj : j.1 < i <;> simp [hj]
  rw [e2] at e
  exact eq_sub_of_add_eq e

/-- The outputs of a chunk are those of the token recurrence. -/
theorem oval_eq (ho : Order lt le σ) (hA : Tri (amat lt D h)) (ht : Tokens D h σ q G b k v S) (i : Fin 64) (y : Fin 128) :
    oval lt le D h (σ i) y = ∑ x, run G b k v S (i.1 + 1) x y * q i x := by
  rw [out_eq (solves ho hA ht) i.1 i.isLt]
  unfold oval
  rw [ht.q, ht.g, ht.s, sum_rows σ]
  congr 1
  rw [← sum_below (fun j => ((∑ x, q i x * k j x) * Real.exp (G i - G j)) * uAt lt D h σ j y) (by omega)]
  refine Finset.sum_congr rfl fun j _ => ?_
  unfold imat
  simp only [ho.le, uAt_fin, ht.k, ht.q, ht.g, Fin.le_def]
  by_cases hj : j.1 ≤ i.1
  · rw [if_pos hj, if_pos (by omega)]
  · rw [if_neg hj, if_neg (by omega), zero_mul]

/-- The state after a chunk is that of the token recurrence. -/
theorem sval_eq (ho : Order lt le σ) (hA : Tri (amat lt D h)) (ht : Tokens D h σ q G b k v S) (x y : Fin 128) :
    sval lt D h x y = run G b k v S 64 x y := by
  rw [run_eq (solves ho hA ht) 64 le_rfl]
  unfold sval
  rw [ht.s, ht.w, sum_rows σ, mul_comm]
  congr 1
  rw [← Fin.sum_univ_eq_sum_range (fun j => Real.exp (before G 64 - G j) * k j x * uAt lt D h σ j y) 64]
  refine Finset.sum_congr rfl fun j _ => ?_
  rw [uAt_fin, ht.k, ht.g, mul_comm (k j x)]
  rfl

end Cert.Chain
-- ==== Proof.Pieces.lean ====
/- The stores of the kernel's body at a grid point, as the stages of `Chain` on what the point loads. -/
module

public import proofs.«01_k».proof.Proof.Chain

@[expose] public section

set_option maxRecDepth 65536

noncomputable section

namespace Cert.Chain

open Cert.KernelIdeal Cert.KernelIdeal.Gen Idealize.ShloMosaic

variable {F : FTy → Type} [FloatOps F]

/-- Room for a head's column. -/
theorem inb_col (h : Fin 8) : ∀ a, (![0, 0, h.1] : Fin 3 → Nat) a + S1x64x1.size a ≤ S1x64x8.size a := by
  revert h; decide

/-- Room for a pair's row. -/
theorem inb_row (p : Fin 4) : ∀ a, (![0, 0, p.1, 0] : Fin 4 → Nat) a + S1x1x1x128.size a ≤ S1x1x4x128.size a := by
  revert p; decide

/-- What a point loads for one direction from its six blocks, with the start states given. -/
def loads (arg2 : Memref sig .tc .vmem S64x1024 .bf16) (harg2 : arg2.IsWhole) (arg3 : Memref sig .tc .vmem S64x1024 .bf16) (harg3 : arg3.IsWhole) (arg4 : Memref sig .tc .vmem S64x1024 .bf16) (harg4 : arg4.IsWhole) (arg5 : Memref sig .tc .vmem S1x64x8 .f32) (harg5 : arg5.IsWhole) (arg6 : Memref sig .tc .vmem S1x1x4x128 .f32) (harg6 : arg6.IsWhole) (arg7 : Memref sig .tc .vmem S1x64x8 .f32) (harg7 : arg7.IsWhole)
    (x0 : Vec F S64x1024 .bf16) (x1 : Vec F S64x1024 .bf16) (x2 : Vec F S64x1024 .bf16) (x3 : Vec F S1x64x8 .f32) (x4 : Vec F S1x1x4x128 .f32) (x5 : Vec F S1x64x8 .f32) (s : Fin 8 → FVec F S1x1x128x128 .f32) : Loads F where
  q h := arg2.view.readAt (Elt F) (Rect.unit ![0, h.1 * 128] S64x128.size (inb_tile h) : Rect S64x1024).toLoadRect (harg2.unread x0)
  k h := arg3.view.readAt (Elt F) (Rect.unit ![0, h.1 * 128] S64x128.size (inb_tile h) : Rect S64x1024).toLoadRect (harg3.unread x1)
  v h := arg4.view.readAt (Elt F) (Rect.unit ![0, h.1 * 128] S64x128.size (inb_tile h) : Rect S64x1024).toLoadRect (harg4.unread x2)
  g h := arg5.view.readAt (Elt F) (Rect.unit ![0, 0, h.1] S1x64x1.size (inb_col h) : Rect S1x64x8).toLoadRect (harg5.unread x3)
  gt p := arg6.view.readAt (Elt F) (Rect.unit ![0, 0, p.1, 0] S1x1x1x128.size (inb_row p) : Rect S1x1x4x128).toLoadRect (harg6.unread x4)
  b h := arg7.view.readAt (Elt F) (Rect.unit ![0, 0, h.1] S1x64x1.size (inb_col h) : Rect S1x64x8).toLoadRect (harg7.unread x5)
  s := s

/-- The start states a point finds in the carried states. -/
def kept (arg18 : Memref sig .tc .vmem S2x8x128x128 .f32) (harg18 : arg18.IsWhole) (xs0 : Vec F S2x8x128x128 .f32) (d : Fin 2) (h : Fin 8) : FVec F S1x1x128x128 .f32 :=
  arg18.view.readAt (Elt F) (Rect.unit ![d.1, h.1, 0, 0] S1x1x128x128.size (inb_state d h) : Rect S2x8x128x128).toLoadRect (harg18.unread xs0)

/-- The start states a run's first point finds: what it has just stored, read back. -/
def reset (arg14 : Memref sig .tc .vmem S1x2x8x128x128 .f32) (harg14 : arg14.IsWhole)
    (arg18 : Memref sig .tc .vmem S2x8x128x128 .f32) (c : Dev nD) (x12 : Vec F S1x2x8x128x128 .f32) (d : Fin 2) (h : Fin 8) :
    FVec F S1x1x128x128 .f32 :=
  arg18.view.readCov (kernelRun0_A.sl.HS0_1 c arg14 harg14 x12)
    (Rect.unit ![d.1, h.1, 0, 0] S1x1x128x128.size (inb_state d h) : Rect S2x8x128x128).toLoadRect

end Cert.Chain
-- ==== Proof.Tiles.lean ====
/- What a point's stores leave: the outputs of one direction and the carried states, read at an index. -/
module

public import proofs.«01_k».proof.Proof.Solve
public import proofs.«01_k».proof.Proof.Pieces
public import Idealize.ShloMosaic.Lib.Pipeline.CanonAppend

@[expose] public section

set_option maxRecDepth 16384

noncomputable section

namespace Cert.Chain

open Cert.KernelIdeal Cert.KernelIdeal.Gen Idealize.ShloMosaic Delta

theorem all_pairs : ∀ p : Fin 4, p ∈ ([3, 2, 1, 0] : List (Fin 4)) := by decide

/-- Every head is the first or the second of its pair. -/
theorem lo_or_hi : ∀ h : Fin 8, ∃ p : Fin 4, h = lo p ∨ h = hi p := by decide

variable (M : Masks) (L : Loads Ideal)

/-- Where a head's tile of the outputs lies. -/
theorem emb_tile (h : Fin 8) (i : Fin 64) (y : Fin 128) :
    (Rect.unit ![0, h.1 * 128] S64x128.size (inb_tile h) : Rect S64x1024).idx (ix2 i y) = ix2 i (col h y) :=
  funext fun a => Fin.ext (by
    rw [Rect.idx_unit_val]
    fin_cases a
    · exact Nat.zero_add _
    · rfl)

/-- Where a head's state lies. -/
theorem emb_state (d : Fin 2) (h : Fin 8) (x y : Fin 128) :
    (Rect.unit ![d.1, h.1, 0, 0] S1x1x128x128.size (inb_state d h) : Rect S2x8x128x128).idx (ix4 0 0 x y) = ix4 d h x y :=
  funext fun a => Fin.ext (by
    rw [Rect.idx_unit_val]
    fin_cases a
    · rfl
    · rfl
    · exact Nat.zero_add _
    · exact Nat.zero_add _)

/-- A function of rows, heads and lanes, over the outputs' columns. -/
def flat (G : Fin 64 → Fin 8 → Fin 128 → EReal) (z : S64x1024.Idx) : EReal :=
  G (z 0) ⟨(z 1).1 / 128, Nat.div_lt_of_lt_mul (z 1).isLt⟩ ⟨(z 1).1 % 128, Nat.mod_lt _ (by norm_num)⟩

theorem flat_col (G : Fin 64 → Fin 8 → Fin 128 → EReal) (i : Fin 64) (h : Fin 8) (y : Fin 128) :
    flat G (ix2 i (col h y)) = G i h y := by
  have e1 : (h.1 * 128 + y.1) / 128 = h.1 := by omega
  have e2 : (h.1 * 128 + y.1) % 128 = y.1 := by omega
  show G i ⟨(h.1 * 128 + y.1) / 128, _⟩ ⟨(h.1 * 128 + y.1) % 128, _⟩ = _
  congr 1
  · exact Fin.ext e1
  · exact Fin.ext e2

/-- What the stores of one direction's outputs leave, through any view, is each head's tile. -/
theorem read_out {sg : RefSig} {κ : Kind} {sp : Space} (v : View sg κ sp S64x1024 .f32) (f : v.ty.Contents (Elt Ideal))
    (G : Fin 64 → Fin 8 → Fin 128 → EReal) (hlo : ∀ p i y, outLo M L p (ix2 i y) = G i (lo p) y)
    (hhi : ∀ p i y, outHi M L p (ix2 i y) = G i (hi p) y) (i : Fin 64) (h : Fin 8) (y : Fin 128) :
    v.read (Elt Ideal) (v.writes (Elt Ideal) f (outPieces M L)) (ix2 i (col h y)) = G i h y := by
  have hmem : ∃ P ∈ outPieces M L, ix2 i (col h y) ∈ P.1.set := by
    obtain ⟨p, rfl | rfl⟩ := lo_or_hi h
    · exact ⟨_, List.mem_flatMap.mpr ⟨p, all_pairs p, List.mem_cons_of_mem _ (List.mem_singleton_self _)⟩,
        emb_tile (lo p) i y ▸ LoadRect.idx_mem _ _⟩
    · exact ⟨_, List.mem_flatMap.mpr ⟨p, all_pairs p, List.mem_cons_self⟩, emb_tile (hi p) i y ▸ LoadRect.idx_mem _ _⟩
  rw [View.read_writes_apply_eq_canon v f _ _ hmem, View.canon_apply_of_pieces (flat G) _ ?_ _ hmem]
  · exact flat_col G i h y
  · intro P hP x
    obtain ⟨p, -, hp⟩ := List.mem_flatMap.mp hP
    rcases List.mem_cons.mp hp with rfl | hp
    · obtain ⟨i, y, rfl⟩ : ∃ (i : Fin 64) (y : Fin 128), x = ix2 i y := ⟨x 0, x 1, by funext a; fin_cases a <;> rfl⟩
      exact (hhi p i y).trans ((flat_col G i (hi p) y).symm.trans (congrArg (flat G) (emb_tile (hi p) i y).symm))
    · obtain rfl := List.mem_singleton.mp hp
      obtain ⟨i, y, rfl⟩ : ∃ (i : Fin 64) (y : Fin 128), x = ix2 i y := ⟨x 0, x 1, by funext a; fin_cases a <;> rfl⟩
      exact (hlo p i y).trans ((flat_col G i (lo p) y).symm.trans (congrArg (flat G) (emb_tile (lo p) i y).symm))

/-- A function of directions, heads and two lanes, over the states. -/
def cell (G : Fin 2 → Fin 8 → Fin 128 → Fin 128 → EReal) (z : S2x8x128x128.Idx) : EReal := G (z 0) (z 1) (z 2) (z 3)

/-- The stores of one direction's states agree with the states they should hold. -/
theorem state_agree (d : Fin 2) (G : Fin 2 → Fin 8 → Fin 128 → Fin 128 → EReal)
    (hlo : ∀ p x y, nextLo M L p (ix4 0 0 x y) = G d (lo p) x y) (hhi : ∀ p x y, nextHi M L p (ix4 0 0 x y) = G d (hi p) x y) :
    ∀ P ∈ statePieces M L d, ∀ x : P.1.shape.Idx, P.2 x = cell G (P.1.emb x) := by
  intro P hP x
  obtain ⟨p, -, hp⟩ := List.mem_flatMap.mp hP
  have split : ∀ x : S1x1x128x128.Idx, ∃ a b : Fin 128, x = ix4 0 0 a b := fun x => ⟨x 2, x 3, by
    funext a
    fin_cases a
    · exact Subsingleton.elim (α := Fin 1) _ _
    · exact Subsingleton.elim (α := Fin 1) _ _
    · rfl
    · rfl⟩
  rcases List.mem_cons.mp hp with rfl | hp
  · obtain ⟨a, b, rfl⟩ := split x
    exact (hhi p a b).trans (congrArg (cell G) (emb_state d (hi p) a b).symm)
  · obtain rfl := List.mem_singleton.mp hp
    obtain ⟨a, b, rfl⟩ := split x
    exact (hlo p a b).trans (congrArg (cell G) (emb_state d (lo p) a b).symm)

/-- They reach every state of the direction. -/
theorem state_mem (d : Fin 2) (h : Fin 8) (x y : Fin 128) : ∃ P ∈ statePieces M L d, ix4 d h x y ∈ P.1.set := by
  obtain ⟨p, rfl | rfl⟩ := lo_or_hi h
  · exact ⟨_, List.mem_flatMap.mpr ⟨p, all_pairs p, List.mem_cons_of_mem _ (List.mem_singleton_self _)⟩,
      emb_state d (lo p) x y ▸ LoadRect.idx_mem _ _⟩
  · exact ⟨_, List.mem_flatMap.mpr ⟨p, all_pairs p, List.mem_cons_self⟩, emb_state d (hi p) x y ▸ LoadRect.idx_mem _ _⟩

/-- What the stores of both directions' states leave, after any earlier stores and through any view. -/
theorem read_state {sg : RefSig} {κ : Kind} {sp : Space} (v : View sg κ sp S2x8x128x128 .f32) (f : v.ty.Contents (Elt Ideal))
    (M' : Masks) (L' : Loads Ideal) (rest : List (View.Piece (Elt Ideal) S2x8x128x128 .f32))
    (G : Fin 2 → Fin 8 → Fin 128 → Fin 128 → EReal)
    (hlo : ∀ p x y, nextLo M L p (ix4 0 0 x y) = G 0 (lo p) x y) (hhi : ∀ p x y, nextHi M L p (ix4 0 0 x y) = G 0 (hi p) x y)
    (hlo' : ∀ p x y, nextLo M' L' p (ix4 0 0 x y) = G 1 (lo p) x y) (hhi' : ∀ p x y, nextHi M' L' p (ix4 0 0 x y) = G 1 (hi p) x y)
    (d : Fin 2) (h : Fin 8) (x y : Fin 128) :
    v.read (Elt Ideal) (v.writes (Elt Ideal) f (statePieces M' L' 1 ++ statePieces M L 0 ++ rest)) (ix4 d h x y) = G d h x y := by
  have hmem : ∃ P ∈ statePieces M' L' 1 ++ statePieces M L 0, ix4 d h x y ∈ P.1.set := by
    fin_cases d
    · obtain ⟨P, hP, hy⟩ := state_mem M L 0 h x y
      exact ⟨P, List.mem_append_right _ hP, hy⟩
    · obtain ⟨P, hP, hy⟩ := state_mem M' L' 1 h x y
      exact ⟨P, List.mem_append_left _ hP, hy⟩
  have hmem' : ∃ P ∈ statePieces M' L' 1 ++ statePieces M L 0 ++ rest, ix4 d h x y ∈ P.1.set := by
    obtain ⟨P, hP, hy⟩ := hmem
    exact ⟨P, List.mem_append_left _ hP, hy⟩
  rw [View.read_writes_apply_eq_canon v f _ _ hmem', View.canon_append_of_pieces (cell G) rest _ ?_ _ hmem]
  · rfl
  · intro P hP
    rcases List.mem_append.mp hP with hP | hP
    · exact state_agree M' L' 1 G hlo' hhi' P hP
    · exact state_agree M L 0 G hlo hhi P hP

end Cert.Chain
-- ==== Proof.Blocks.lean ====
/- What a grid point loads, as entries of the call's arguments. -/
module

public import proofs.«01_k».proof.Proof.Tiles
public import Idealize.ShloMosaic.Lib.WholeRead

@[expose] public section

set_option maxRecDepth 16384

noncomputable section

namespace Cert.Chain

open Cert.KernelIdeal Cert.KernelIdeal.Gen Idealize.ShloMosaic Delta

/-! ## Loads out of the blocks -/

theorem emb_col (h : Fin 8) (i : Fin 64) :
    (Rect.unit ![0, 0, h.1] S1x64x1.size (inb_col h) : Rect S1x64x8).idx (ix3 0 i 0) = ix3 0 i h :=
  funext fun a => Fin.ext (by
    rw [Rect.idx_unit_val]
    fin_cases a
    · rfl
    · exact Nat.zero_add _
    · rfl)

theorem emb_row (p : Fin 4) (l : Fin 128) :
    (Rect.unit ![0, 0, p.1, 0] S1x1x1x128.size (inb_row p) : Rect S1x1x4x128).idx (ix4 0 0 0 l) = ix4 0 0 p l :=
  funext fun a => Fin.ext (by
    rw [Rect.idx_unit_val]
    fin_cases a
    · rfl
    · rfl
    · rfl
    · exact Nat.zero_add _)

section
variable (arg2 : Memref sig .tc .vmem S64x1024 .bf16) (harg2 : arg2.IsWhole) (arg3 : Memref sig .tc .vmem S64x1024 .bf16) (harg3 : arg3.IsWhole)
  (arg4 : Memref sig .tc .vmem S64x1024 .bf16) (harg4 : arg4.IsWhole) (arg5 : Memref sig .tc .vmem S1x64x8 .f32) (harg5 : arg5.IsWhole)
  (arg6 : Memref sig .tc .vmem S1x1x4x128 .f32) (harg6 : arg6.IsWhole) (arg7 : Memref sig .tc .vmem S1x64x8 .f32) (harg7 : arg7.IsWhole)
  (x0 x1 x2 : Vec Ideal S64x1024 .bf16) (x3 : Vec Ideal S1x64x8 .f32) (x4 : Vec Ideal S1x1x4x128 .f32) (x5 : Vec Ideal S1x64x8 .f32)
  (s : Fin 8 → FVec Ideal S1x1x128x128 .f32)

/-- Blocks that hold real values give loads that do. -/
theorem loads_reads (D : Vals) (h0 : ∀ h i x, x0 (ix2 i (col h x)) = (D.q h i x : EReal))
    (h1 : ∀ h i x, x1 (ix2 i (col h x)) = (D.k h i x : EReal)) (h2 : ∀ h i x, x2 (ix2 i (col h x)) = (D.v h i x : EReal))
    (h3 : ∀ h i, x3 (ix3 0 i h) = (D.g h i : EReal)) (h4l : ∀ p j, x4 (ix4 0 0 p (left j)) = (D.g (lo p) j : EReal))
    (h4r : ∀ p j, x4 (ix4 0 0 p (right j)) = (D.g (hi p) j : EReal)) (h5 : ∀ h i, x5 (ix3 0 i h) = (D.b h i : EReal))
    (hs : ∀ h x y, s h (ix4 0 0 x y) = (D.s h x y : EReal)) (hle : ∀ h i, D.w h ≤ D.g h i) (hw : ∀ h, ∃ i, D.g h i = D.w h) :
    Reads (loads arg2 harg2 arg3 harg3 arg4 harg4 arg5 harg5 arg6 harg6 arg7 harg7 x0 x1 x2 x3 x4 x5 s) D where
  q h i x := (harg2.readAt_unread x0 (Rect.unit ![0, h.1 * 128] S64x128.size (inb_tile h) : Rect S64x1024).toLoadRect
      (ix2 i x)).trans ((congrArg x0 (emb_tile h i x)).trans (h0 h i x))
  k h i x := (harg3.readAt_unread x1 (Rect.unit ![0, h.1 * 128] S64x128.size (inb_tile h) : Rect S64x1024).toLoadRect
      (ix2 i x)).trans ((congrArg x1 (emb_tile h i x)).trans (h1 h i x))
  v h i x := (harg4.readAt_unread x2 (Rect.unit ![0, h.1 * 128] S64x128.size (inb_tile h) : Rect S64x1024).toLoadRect
      (ix2 i x)).trans ((congrArg x2 (emb_tile h i x)).trans (h2 h i x))
  g h i := (harg5.readAt_unread x3 (Rect.unit ![0, 0, h.1] S1x64x1.size (inb_col h) : Rect S1x64x8).toLoadRect
      (ix3 0 i 0)).trans ((congrArg x3 (emb_col h i)).trans (h3 h i))
  b h i := (harg7.readAt_unread x5 (Rect.unit ![0, 0, h.1] S1x64x1.size (inb_col h) : Rect S1x64x8).toLoadRect
      (ix3 0 i 0)).trans ((congrArg x5 (emb_col h i)).trans (h5 h i))
  gtl p j := (harg6.readAt_unread x4 (Rect.unit ![0, 0, p.1, 0] S1x1x1x128.size (inb_row p) : Rect S1x1x4x128).toLoadRect
      (ix4 0 0 0 (left j))).trans ((congrArg x4 (emb_row p (left j))).trans (h4l p j))
  gtr p j := (harg6.readAt_unread x4 (Rect.unit ![0, 0, p.1, 0] S1x1x1x128.size (inb_row p) : Rect S1x1x4x128).toLoadRect
      (ix4 0 0 0 (right j))).trans ((congrArg x4 (emb_row p (right j))).trans (h4r p j))
  s := hs
  wle := hle
  wmem := hw
end

/-- The carried states, read. -/
theorem kept_apply (arg18 : Memref sig .tc .vmem S2x8x128x128 .f32) (harg18 : arg18.IsWhole) (xs0 : Vec Ideal S2x8x128x128 .f32)
    (d : Fin 2) (h : Fin 8) (x y : Fin 128) : kept arg18 harg18 xs0 d h (ix4 0 0 x y) = xs0 (ix4 d h x y) :=
  (harg18.readAt_unread xs0 (Rect.unit ![d.1, h.1, 0, 0] S1x1x128x128.size (inb_state d h) : Rect S2x8x128x128).toLoadRect
    (ix4 0 0 x y)).trans (congrArg xs0 (emb_state d h x y))

/-- The states a run starts from, read. -/
theorem reset_apply (arg14 : Memref sig .tc .vmem S1x2x8x128x128 .f32) (harg14 : arg14.IsWhole)
    (arg18 : Memref sig .tc .vmem S2x8x128x128 .f32) (c : Dev nD) (x12 : Vec Ideal S1x2x8x128x128 .f32)
    (d : Fin 2) (h : Fin 8) (x y : Fin 128) : reset arg14 harg14 arg18 c x12 d h (ix4 0 0 x y) = x12 (ix5 0 d h x y) := by
  unfold reset kernelRun0_A.sl.HS0_1
  rw [View.readCov_eq_canon _ _ _ fun j => ⟨_, List.mem_singleton_self _, View.mem_set_unit_zero (by funext a; fin_cases a <;> rfl) inb_S2x8x128x128_S2x8x128x128_0_0_0_0 _⟩,
    View.canon_unit_zero (by funext a; fin_cases a <;> rfl)]
  dsimp only
  rw [emb_state]
  unfold k0_pay4
  pointwise
  rw [harg14.readAt_unread]
  exact congrArg x12 (funext fun a => Fin.ext (by
    rw [Rect.idx_unit_val]
    fin_cases a <;> exact Nat.zero_add _))

end Cert.Chain
-- ==== Proof.Windows.lean ====
/- A grid point's blocks, as entries of the call's arguments. -/
module

public import proofs.«01_k».proof.Proof.Tiles

@[expose] public section

set_option maxRecDepth 16384

noncomputable section

namespace Cert.Chain

open Cert.KernelIdeal Cert.KernelIdeal.Gen Idealize.ShloMosaic Delta

variable (m : (ℓ : Loc nD τ sig) → Buf (Elt Ideal) ℓ) (c : Dev nD)

/-- The arguments, by name. -/
abbrev Q : Wide := m ((c.tc : Thread nD τ).loc main_arg0)
abbrev K : Wide := m ((c.tc : Thread nD τ).loc main_arg1)
abbrev Vv : Wide := m ((c.tc : Thread nD τ).loc main_arg2)
abbrev Gd : Narrow := m ((c.tc : Thread nD τ).loc main_arg3)
abbrev Bt : Narrow := m ((c.tc : Thread nD τ).loc main_arg4)
abbrev S0 : States := m ((c.tc : Thread nD τ).loc main_arg5)

/-- There are 256 points. -/
theorem points (t : Fin cfg0.N) : t.val < 256 := lt_of_lt_of_eq t.isLt (show cfg0.N = 256 from N_0)

/-- The sequence a point works on. -/
def seq (t : Fin cfg0.N) : Fin 8 := ⟨t.val / 32, by have := points t; omega⟩

/-- The row of its block `i` holds the token at this place of the chunk, for each direction. -/
def place (d : Fin 2) (i : Fin 64) : ℕ := if d = 0 then i.1 else 63 - i.1

/-- The place of a row's token in its sequence, for each direction. -/
def token (t : Fin cfg0.N) (d : Fin 2) (i : Fin 64) : ℕ := t.val % 32 * 64 + place d i

/-- The blocks' places. -/
theorem idx : ∀ t : Fin cfg0.N,
    (win0_0.index t = ![t.val, 0] ∧ win0_1.index t = ![t.val, 0] ∧ win0_2.index t = ![t.val, 0]
      ∧ win0_3.index t = ![0, t.val, 0] ∧ win0_4.index t = ![0, t.val, 0, 0] ∧ win0_5.index t = ![0, t.val, 0])
    ∧ (win0_6.index t = ![t.val / 32 * 32 + (31 - t.val % 32), 0] ∧ win0_7.index t = ![t.val / 32 * 32 + (31 - t.val % 32), 0]
      ∧ win0_8.index t = ![t.val / 32 * 32 + (31 - t.val % 32), 0] ∧ win0_9.index t = ![1, t.val / 32 * 32 + (31 - t.val % 32), 0]
      ∧ win0_10.index t = ![1, t.val / 32 * 32 + (31 - t.val % 32), 0, 0] ∧ win0_11.index t = ![1, t.val / 32 * 32 + (31 - t.val % 32), 0])
    ∧ win0_12.index t = ![t.val / 32, 0, 0, 0, 0] ∧ win0_13.index t = ![t.val, 0]
    ∧ win0_14.index t = ![t.val / 32 * 32 + (31 - t.val % 32), 0] ∧ win0_15.index t = ![t.val / 32, 0, 0, 0, 0] :=
  (by decide +kernel : ∀ t : Fin grid0.N, _)

/-- The forward blocks hold these rows. -/
theorem row_fwd (t : Fin cfg0.N) (i : Fin 64) : (row (seq t) 0 (token t 0 i)).val = t.val * 64 + i.val := by
  have := points t
  rw [row_val _ _ (by unfold token place; simp; omega)]
  simp only [token, place, seq, if_true]
  omega

/-- The backward blocks hold these rows. -/
theorem row_bwd (t : Fin cfg0.N) (i : Fin 64) :
    (row (seq t) 1 (token t 1 i)).val = (t.val / 32 * 32 + (31 - t.val % 32)) * 64 + i.val := by
  have := points t
  rw [row_val _ _ (by unfold token place; simp; omega)]
  simp only [token, place, seq, if_neg (by decide : ¬(1 : Fin 2) = 0)]
  omega

/-- The forward queries. -/
theorem blk0 (t : Fin cfg0.N) (i : Fin 64) (h : Fin 8) (x : Fin 128) :
    (iblk m c 0 t : Vec Ideal S64x1024 .bf16) (ix2 i (col h x)) = Q m c (ix2 (row (seq t) 0 (token t 0 i)) (col h x)) := by
  have e := row_fwd t i
  generalize row (seq t) 0 (token t 0 i) = r at e ⊢
  generalize col h x = l
  blk_ext [iblk, V, idx t]

/-- The forward keys. -/
theorem blk1 (t : Fin cfg0.N) (i : Fin 64) (h : Fin 8) (x : Fin 128) :
    (iblk m c 1 t : Vec Ideal S64x1024 .bf16) (ix2 i (col h x)) = K m c (ix2 (row (seq t) 0 (token t 0 i)) (col h x)) := by
  have e := row_fwd t i
  generalize row (seq t) 0 (token t 0 i) = r at e ⊢
  generalize col h x = l
  blk_ext [iblk, V, idx t]

/-- The forward values. -/
theorem blk2 (t : Fin cfg0.N) (i : Fin 64) (h : Fin 8) (x : Fin 128) :
    (iblk m c 2 t : Vec Ideal S64x1024 .bf16) (ix2 i (col h x)) = Vv m c (ix2 (row (seq t) 0 (token t 0 i)) (col h x)) := by
  have e := row_fwd t i
  generalize row (seq t) 0 (token t 0 i) = r at e ⊢
  generalize col h x = l
  blk_ext [iblk, V, idx t]

/-- The forward log decays. -/
theorem blk3 (t : Fin cfg0.N) (i : Fin 64) (h : Fin 8) :
    (iblk m c 3 t : Vec Ideal S1x64x8 .f32) (ix3 0 i h) = Gd m c (ix2 (row (seq t) 0 (token t 0 i)) (lane 0 h)) := by
  have e := row_fwd t i
  have hh : (lane 0 h).1 = 0 * 8 + h.1 := rfl
  generalize lane 0 h = n at hh ⊢
  generalize row (seq t) 0 (token t 0 i) = r at e ⊢
  blk_simp [iblk, idx t]
  entry_read
  pointwise
  blk_ext [idx t]

/-- The forward log decays again, along the lanes: a pair's first head. -/
theorem blk4l (t : Fin cfg0.N) (j : Fin 64) (p : Fin 4) :
    (iblk m c 4 t : Vec Ideal S1x1x4x128 .f32) (ix4 0 0 p (left j)) = Gd m c (ix2 (row (seq t) 0 (token t 0 j)) (lane 0 (lo p))) := by
  have e := row_fwd t j
  have hl := left_val j
  generalize left j = l at hl ⊢
  have hh : (lane 0 (lo p)).1 = 0 * 8 + 2 * p.1 := rfl
  generalize lane 0 (lo p) = n at hh ⊢
  generalize row (seq t) 0 (token t 0 j) = r at e ⊢
  blk_simp [iblk, idx t]
  entry_read
  pointwise
  blk_ext [idx t]

/-- A pair's second head. -/
theorem blk4r (t : Fin cfg0.N) (j : Fin 64) (p : Fin 4) :
    (iblk m c 4 t : Vec Ideal S1x1x4x128 .f32) (ix4 0 0 p (right j)) = Gd m c (ix2 (row (seq t) 0 (token t 0 j)) (lane 0 (hi p))) := by
  have e := row_fwd t j
  have hl := right_val j
  generalize right j = l at hl ⊢
  have hh : (lane 0 (hi p)).1 = 0 * 8 + (2 * p.1 + 1) := rfl
  generalize lane 0 (hi p) = n at hh ⊢
  generalize row (seq t) 0 (token t 0 j) = r at e ⊢
  blk_simp [iblk, idx t]
  entry_read
  pointwise
  blk_ext [idx t]

/-- The forward strengths. -/
theorem blk5 (t : Fin cfg0.N) (i : Fin 64) (h : Fin 8) :
    (iblk m c 5 t : Vec Ideal S1x64x8 .f32) (ix3 0 i h) = Bt m c (ix2 (row (seq t) 0 (token t 0 i)) (lane 0 h)) := by
  have e := row_fwd t i
  have hh : (lane 0 h).1 = 0 * 8 + h.1 := rfl
  generalize lane 0 h = n at hh ⊢
  generalize row (seq t) 0 (token t 0 i) = r at e ⊢
  blk_simp [iblk, idx t]
  entry_read
  pointwise
  blk_ext [idx t]

/-- The backward queries. -/
theorem blk6 (t : Fin cfg0.N) (i : Fin 64) (h : Fin 8) (x : Fin 128) :
    (iblk m c 6 t : Vec Ideal S64x1024 .bf16) (ix2 i (col h x)) = Q m c (ix2 (row (seq t) 1 (token t 1 i)) (col h x)) := by
  have e := row_bwd t i
  generalize row (seq t) 1 (token t 1 i) = r at e ⊢
  generalize col h x = l
  blk_ext [iblk, V, idx t]

/-- The backward keys. -/
theorem blk7 (t : Fin cfg0.N) (i : Fin 64) (h : Fin 8) (x : Fin 128) :
    (iblk m c 7 t : Vec Ideal S64x1024 .bf16) (ix2 i (col h x)) = K m c (ix2 (row (seq t) 1 (token t 1 i)) (col h x)) := by
  have e := row_bwd t i
  generalize row (seq t) 1 (token t 1 i) = r at e ⊢
  generalize col h x = l
  blk_ext [iblk, V, idx t]

/-- The backward values. -/
theorem blk8 (t : Fin cfg0.N) (i : Fin 64) (h : Fin 8) (x : Fin 128) :
    (iblk m c 8 t : Vec Ideal S64x1024 .bf16) (ix2 i (col h x)) = Vv m c (ix2 (row (seq t) 1 (token t 1 i)) (col h x)) := by
  have e := row_bwd t i
  generalize row (seq t) 1 (token t 1 i) = r at e ⊢
  generalize col h x = l
  blk_ext [iblk, V, idx t]

/-- The backward log decays. -/
theorem blk9 (t : Fin cfg0.N) (i : Fin 64) (h : Fin 8) :
    (iblk m c 9 t : Vec Ideal S1x64x8 .f32) (ix3 0 i h) = Gd m c (ix2 (row (seq t) 1 (token t 1 i)) (lane 1 h)) := by
  have e := row_bwd t i
  have hh : (lane 1 h).1 = 1 * 8 + h.1 := rfl
  generalize lane 1 h = n at hh ⊢
  generalize row (seq t) 1 (token t 1 i) = r at e ⊢
  blk_simp [iblk, idx t]
  entry_read
  pointwise
  blk_ext [idx t]

/-- The backward log decays again, along the lanes: a pair's first head. -/
theorem blk10l (t : Fin cfg0.N) (j : Fin 64) (p : Fin 4) :
    (iblk m c 10 t : Vec Ideal S1x1x4x128 .f32) (ix4 0 0 p (left j)) = Gd m c (ix2 (row (seq t) 1 (token t 1 j)) (lane 1 (lo p))) := by
  have e := row_bwd t j
  have hl := left_val j
  generalize left j = l at hl ⊢
  have hh : (lane 1 (lo p)).1 = 1 * 8 + 2 * p.1 := rfl
  generalize lane 1 (lo p) = n at hh ⊢
  generalize row (seq t) 1 (token t 1 j) = r at e ⊢
  blk_simp [iblk, idx t]
  entry_read
  pointwise
  blk_ext [idx t]

/-- A pair's second head. -/
theorem blk10r (t : Fin cfg0.N) (j : Fin 64) (p : Fin 4) :
    (iblk m c 10 t : Vec Ideal S1x1x4x128 .f32) (ix4 0 0 p (right j)) = Gd m c (ix2 (row (seq t) 1 (token t 1 j)) (lane 1 (hi p))) := by
  have e := row_bwd t j
  have hl := right_val j
  generalize right j = l at hl ⊢
  have hh : (lane 1 (hi p)).1 = 1 * 8 + (2 * p.1 + 1) := rfl
  generalize lane 1 (hi p) = n at hh ⊢
  generalize row (seq t) 1 (token t 1 j) = r at e ⊢
  blk_simp [iblk, idx t]
  entry_read
  pointwise
  blk_ext [idx t]

/-- The backward strengths. -/
theorem blk11 (t : Fin cfg0.N) (i : Fin 64) (h : Fin 8) :
    (iblk m c 11 t : Vec Ideal S1x64x8 .f32) (ix3 0 i h) = Bt m c (ix2 (row (seq t) 1 (token t 1 i)) (lane 1 h)) := by
  have e := row_bwd t i
  have hh : (lane 1 h).1 = 1 * 8 + h.1 := rfl
  generalize lane 1 h = n at hh ⊢
  generalize row (seq t) 1 (token t 1 i) = r at e ⊢
  blk_simp [iblk, idx t]
  entry_read
  pointwise
  blk_ext [idx t]

/-- The starting states. -/
theorem blk12 (t : Fin cfg0.N) (d : Fin 2) (h : Fin 8) (x y : Fin 128) :
    (iblk m c 12 t : Vec Ideal S1x2x8x128x128 .f32) (ix5 0 d h x y) = S0 m c (ix5 (seq t) d h x y) := by
  have e : (seq t).val = t.val / 32 := rfl
  generalize seq t = b at e ⊢
  blk_ext [iblk, V, idx t]

end Cert.Chain
-- ==== Proof.Point.lean ====
/- A grid point in the token recurrence: what it writes out and carries on, from what it loads. -/
module

public import proofs.«01_k».proof.Proof.Masks
public import proofs.«01_k».proof.Proof.Blocks
public import proofs.«01_k».proof.Proof.Windows
public import proofs.«01_k».proof.Proof.Solve
public import proofs.«01_k».proof.Proof.Read2

@[expose] public section

set_option maxRecDepth 16384

noncomputable section

namespace Cert.Chain

open Cert.KernelIdeal Cert.KernelIdeal.Gen Idealize.ShloMosaic Delta

variable (m : (ℓ : Loc nD τ sig) → Buf (Elt Ideal) ℓ) (c : Dev nD)

/-- The states, in short. -/
abbrev St (b : Fin 8) (d : Fin 2) (h : Fin 8) (n : ℕ) : Fin 128 → Fin 128 → ℝ :=
  state (K m c) (Vv m c) (Gd m c) (Bt m c) (S0 m c) b d h n

/-- The outputs, in short. -/
abbrev Ou (b : Fin 8) (d : Fin 2) (h : Fin 8) (n : ℕ) (y : Fin 128) : ℝ :=
  out (Q m c) (K m c) (Vv m c) (Gd m c) (Bt m c) (S0 m c) b d h n y

/-- The real values of what a point loads for a direction, when the states are those of its chunk's start. -/
def vals (t : Fin cfg0.N) (d : Fin 2) : Vals where
  q h i x := wide (Q m c) (seq t) d h (token t d i) x
  k h i x := wide (K m c) (seq t) d h (token t d i) x
  v h i x := wide (Vv m c) (seq t) d h (token t d i) x
  g h i := narrow (Gd m c) (seq t) d h (token t d i)
  b h i := narrow (Bt m c) (seq t) d h (token t d i)
  s h := St m c (seq t) d h (t.val % 32 * 64)
  w h := narrow (Gd m c) (seq t) d h (t.val % 32 * 64 + 63)

/-- What the precondition gives. -/
structure Fits : Prop where
  real : Real' (Q m c) (K m c) (Vv m c) (Gd m c) (Bt m c) (S0 m c)
  least : ∀ (b : Fin 8) (d : Fin 2) (h : Fin 8) (n : ℕ), n < 32 → ∀ i, i < 64 →
    narrow (Gd m c) b d h (n * 64 + 63) ≤ narrow (Gd m c) b d h (n * 64 + i)

variable {m c}

theorem place_lt (d : Fin 2) (i : Fin 64) : place d i < 64 := by
  unfold place
  split_ifs <;> omega

theorem vals_le (hf : Fits m c) (t : Fin cfg0.N) (d : Fin 2) (h : Fin 8) (i : Fin 64) : (vals m c t d).w h ≤ (vals m c t d).g h i :=
  hf.least (seq t) d h (t.val % 32) (Nat.mod_lt _ (by norm_num)) (place d i) (place_lt d i)

theorem vals_mem (t : Fin cfg0.N) (d : Fin 2) (h : Fin 8) : ∃ i, (vals m c t d).g h i = (vals m c t d).w h := by
  fin_cases d
  · exact ⟨63, rfl⟩
  · exact ⟨0, rfl⟩

section
variable {arg2 : Memref sig .tc .vmem S64x1024 .bf16} {harg2 : arg2.IsWhole} {arg3 : Memref sig .tc .vmem S64x1024 .bf16} {harg3 : arg3.IsWhole}
  {arg4 : Memref sig .tc .vmem S64x1024 .bf16} {harg4 : arg4.IsWhole} {arg5 : Memref sig .tc .vmem S1x64x8 .f32} {harg5 : arg5.IsWhole}
  {arg6 : Memref sig .tc .vmem S1x1x4x128 .f32} {harg6 : arg6.IsWhole} {arg7 : Memref sig .tc .vmem S1x64x8 .f32} {harg7 : arg7.IsWhole}
  {s : Fin 8 → FVec Ideal S1x1x128x128 .f32}

/-- The forward direction's loads. -/
theorem reads0 (hf : Fits m c) (t : Fin cfg0.N) (hs : ∀ h x y, s h (ix4 0 0 x y) = (St m c (seq t) 0 h (t.val % 32 * 64) x y : EReal)) :
    Reads (loads arg2 harg2 arg3 harg3 arg4 harg4 arg5 harg5 arg6 harg6 arg7 harg7 (iblk m c 0 t) (iblk m c 1 t) (iblk m c 2 t)
      (iblk m c 3 t) (iblk m c 4 t) (iblk m c 5 t) s) (vals m c t 0) :=
  loads_reads _ _ _ _ _ _ _ _ _ _ _ _ _ _ _ _ _ _ _ _
    (fun h i x => (blk0 m c t i h x).trans (wide_eq hf.real.q _ _ _ _ _))
    (fun h i x => (blk1 m c t i h x).trans (wide_eq hf.real.k _ _ _ _ _))
    (fun h i x => (blk2 m c t i h x).trans (wide_eq hf.real.v _ _ _ _ _))
    (fun h i => (blk3 m c t i h).trans (narrow_eq hf.real.g _ _ _ _))
    (fun p j => (blk4l m c t j p).trans (narrow_eq hf.real.g _ _ _ _))
    (fun p j => (blk4r m c t j p).trans (narrow_eq hf.real.g _ _ _ _))
    (fun h i => (blk5 m c t i h).trans (narrow_eq hf.real.beta _ _ _ _))
    hs (vals_le hf t 0) (vals_mem t 0)

/-- The backward direction's loads. -/
theorem reads1 (hf : Fits m c) (t : Fin cfg0.N) (hs : ∀ h x y, s h (ix4 0 0 x y) = (St m c (seq t) 1 h (t.val % 32 * 64) x y : EReal)) :
    Reads (loads arg2 harg2 arg3 harg3 arg4 harg4 arg5 harg5 arg6 harg6 arg7 harg7 (iblk m c 6 t) (iblk m c 7 t) (iblk m c 8 t)
      (iblk m c 9 t) (iblk m c 10 t) (iblk m c 11 t) s) (vals m c t 1) :=
  loads_reads _ _ _ _ _ _ _ _ _ _ _ _ _ _ _ _ _ _ _ _
    (fun h i x => (blk6 m c t i h x).trans (wide_eq hf.real.q _ _ _ _ _))
    (fun h i x => (blk7 m c t i h x).trans (wide_eq hf.real.k _ _ _ _ _))
    (fun h i x => (blk8 m c t i h x).trans (wide_eq hf.real.v _ _ _ _ _))
    (fun h i => (blk9 m c t i h).trans (narrow_eq hf.real.g _ _ _ _))
    (fun p j => (blk10l m c t j p).trans (narrow_eq hf.real.g _ _ _ _))
    (fun p j => (blk10r m c t j p).trans (narrow_eq hf.real.g _ _ _ _))
    (fun h i => (blk11 m c t i h).trans (narrow_eq hf.real.beta _ _ _ _))
    hs (vals_le hf t 1) (vals_mem t 1)
end

section
variable {lt le : Fin 64 → Fin 64 → Prop} [∀ i j, Decidable (lt i j)] [∀ i j, Decidable (le i j)] {σ : Fin 64 ≃ Fin 64}
  (ho : Order lt le σ) (hs : σ = Equiv.refl _ ∨ σ = Fin.revPerm) (t : Fin cfg0.N) (d : Fin 2) (hσ : ∀ i, place d (σ i) = i.1) (h : Fin 8)

/-- A head's rows, in scan order, are the tokens of the chunk. -/
theorem tokens (hσ : ∀ i, place d (σ i) = i.1) : Tokens (vals m c t d) h σ (fun n => wide (Q m c) (seq t) d h (t.val % 32 * 64 + n))
    (fun n => narrow (Gd m c) (seq t) d h (t.val % 32 * 64 + n)) (fun n => narrow (Bt m c) (seq t) d h (t.val % 32 * 64 + n))
    (fun n => wide (K m c) (seq t) d h (t.val % 32 * 64 + n)) (fun n => wide (Vv m c) (seq t) d h (t.val % 32 * 64 + n))
    (St m c (seq t) d h (t.val % 32 * 64)) := by
  have key : ∀ i, token t d (σ i) = t.val % 32 * 64 + i.1 := fun i => congrArg (t.val % 32 * 64 + ·) (hσ i)
  exact ⟨fun i => congrArg (wide (Q m c) (seq t) d h) (key i), fun i => congrArg (wide (K m c) (seq t) d h) (key i),
    fun i => congrArg (wide (Vv m c) (seq t) d h) (key i), fun i => congrArg (narrow (Gd m c) (seq t) d h) (key i),
    fun i => congrArg (narrow (Bt m c) (seq t) d h) (key i), rfl, rfl⟩

include ho hs hσ

/-- A head's outputs are the recurrence's. -/
theorem head_out (i : Fin 64) (y : Fin 128) : oval lt le (vals m c t d) h i y = Ou m c (seq t) d h (token t d i) y := by
  obtain ⟨j, rfl⟩ := σ.surjective i
  rw [oval_eq ho (tri ho hs) (tokens t d h hσ) j y, ← state_chunk _ _ _ _ _ _ _ _ _ (j.1 + 1) (by omega)]
  unfold token
  rw [hσ]
  rfl

/-- A head's state at the chunk's end is the recurrence's. -/
theorem head_next (x y : Fin 128) : sval lt (vals m c t d) h x y = St m c (seq t) d h ((t.val % 32 + 1) * 64) x y := by
  rw [sval_eq ho (tri ho hs) (tokens t d h hσ) x y, ← state_chunk _ _ _ _ _ _ _ _ _ 64 le_rfl, Nat.add_mul, one_mul]
end

theorem place0 (i : Fin 64) : place 0 (Equiv.refl (Fin 64) i) = i.1 := rfl

theorem place1 (i : Fin 64) : place 1 (Fin.revPerm i) = i.1 := by
  show 63 - (Fin.rev i).1 = i.1
  rw [Fin.val_rev]
  omega

section
variable {L0 L1 : Loads Ideal} (t : Fin cfg0.N) (h0 : Reads L0 (vals m c t 0)) (h1 : Reads L1 (vals m c t 1))
  {sg : RefSig} {κ : Kind} {sp : Space}

include h0 in
/-- The forward outputs a point writes. -/
theorem point_out0 (v : View sg κ sp S64x1024 .f32) (f : v.ty.Contents (Elt Ideal)) (i : Fin 64) (h : Fin 8) (y : Fin 128) :
    v.read (Elt Ideal) (v.writes (Elt Ideal) f (outPieces masks0 L0)) (ix2 i (col h y))
      = (Ou m c (seq t) 0 h (token t 0 i) y : EReal) :=
  read_out masks0 L0 v f (fun i h y => (Ou m c (seq t) 0 h (token t 0 i) y : EReal))
    (fun p i y => (outLo_mat h0 good0 (fun _ _ => le_of_lt) p i y).trans
      (congrArg Real.toEReal (head_out order0 (.inl rfl) t 0 place0 (lo p) i y)))
    (fun p i y => (outHi_mat h0 good0 (fun _ _ => le_of_lt) p i y).trans
      (congrArg Real.toEReal (head_out order0 (.inl rfl) t 0 place0 (hi p) i y))) i h y

include h1 in
/-- The backward outputs a point writes. -/
theorem point_out1 (v : View sg κ sp S64x1024 .f32) (f : v.ty.Contents (Elt Ideal)) (i : Fin 64) (h : Fin 8) (y : Fin 128) :
    v.read (Elt Ideal) (v.writes (Elt Ideal) f (outPieces masks1 L1)) (ix2 i (col h y))
      = (Ou m c (seq t) 1 h (token t 1 i) y : EReal) :=
  read_out masks1 L1 v f (fun i h y => (Ou m c (seq t) 1 h (token t 1 i) y : EReal))
    (fun p i y => (outLo_mat h1 good1 (fun _ _ => le_of_lt) p i y).trans
      (congrArg Real.toEReal (head_out order1 (.inr rfl) t 1 place1 (lo p) i y)))
    (fun p i y => (outHi_mat h1 good1 (fun _ _ => le_of_lt) p i y).trans
      (congrArg Real.toEReal (head_out order1 (.inr rfl) t 1 place1 (hi p) i y))) i h y

include h0 h1 in
/-- The states a point carries on. -/
theorem point_state (v : View sg κ sp S2x8x128x128 .f32) (f : v.ty.Contents (Elt Ideal))
    (rest : List (View.Piece (Elt Ideal) S2x8x128x128 .f32)) (d : Fin 2) (h : Fin 8) (x y : Fin 128) :
    v.read (Elt Ideal) (v.writes (Elt Ideal) f (statePieces masks1 L1 1 ++ statePieces masks0 L0 0 ++ rest)) (ix4 d h x y)
      = (St m c (seq t) d h ((t.val % 32 + 1) * 64) x y : EReal) :=
  read_state masks0 L0 v f masks1 L1 rest (fun d h x y => (St m c (seq t) d h ((t.val % 32 + 1) * 64) x y : EReal))
    (fun p x y => (nextLo_apply h0 good0 (fun _ _ => le_of_lt) p x y).trans
      (congrArg Real.toEReal (head_next order0 (.inl rfl) t 0 place0 (lo p) x y)))
    (fun p x y => (nextHi_apply h0 good0 (fun _ _ => le_of_lt) p x y).trans
      (congrArg Real.toEReal (head_next order0 (.inl rfl) t 0 place0 (hi p) x y)))
    (fun p x y => (nextLo_apply h1 good1 (fun _ _ => le_of_lt) p x y).trans
      (congrArg Real.toEReal (head_next order1 (.inr rfl) t 1 place1 (lo p) x y)))
    (fun p x y => (nextHi_apply h1 good1 (fun _ _ => le_of_lt) p x y).trans
      (congrArg Real.toEReal (head_next order1 (.inr rfl) t 1 place1 (hi p) x y))) d h x y
end

end Cert.Chain
-- ==== Proof.PiecesA.lean ====
/- The stores at the first point of a run. -/
module

public import proofs.«01_k».proof.Proof.Pieces

@[expose] public section

set_option maxRecDepth 65536

noncomputable section

namespace Cert.Chain

open Cert.KernelIdeal Cert.KernelIdeal.Gen Idealize.ShloMosaic

variable {F : FTy → Type} [FloatOps F]

variable (c : Dev nD) (i : grid0.Coords)
  (arg2 : Memref sig .tc .vmem S64x1024 .bf16) (harg2 : arg2.IsWhole)
  (arg3 : Memref sig .tc .vmem S64x1024 .bf16) (harg3 : arg3.IsWhole)
  (arg4 : Memref sig .tc .vmem S64x1024 .bf16) (harg4 : arg4.IsWhole)
  (arg5 : Memref sig .tc .vmem S1x64x8 .f32) (harg5 : arg5.IsWhole)
  (arg6 : Memref sig .tc .vmem S1x1x4x128 .f32) (harg6 : arg6.IsWhole)
  (arg7 : Memref sig .tc .vmem S1x64x8 .f32) (harg7 : arg7.IsWhole)
  (arg8 : Memref sig .tc .vmem S64x1024 .bf16) (harg8 : arg8.IsWhole)
  (arg9 : Memref sig .tc .vmem S64x1024 .bf16) (harg9 : arg9.IsWhole)
  (arg10 : Memref sig .tc .vmem S64x1024 .bf16) (harg10 : arg10.IsWhole)
  (arg11 : Memref sig .tc .vmem S1x64x8 .f32) (harg11 : arg11.IsWhole)
  (arg12 : Memref sig .tc .vmem S1x1x4x128 .f32) (harg12 : arg12.IsWhole)
  (arg13 : Memref sig .tc .vmem S1x64x8 .f32) (harg13 : arg13.IsWhole)
  (arg14 : Memref sig .tc .vmem S1x2x8x128x128 .f32) (harg14 : arg14.IsWhole)
  (arg15 : Memref sig .tc .vmem S64x1024 .f32) (harg15 : arg15.IsWhole)
  (arg16 : Memref sig .tc .vmem S64x1024 .f32) (harg16 : arg16.IsWhole)
  (arg17 : Memref sig .tc .vmem S1x2x8x128x128 .f32) (harg17 : arg17.IsWhole)
  (arg18 : Memref sig .tc .vmem S2x8x128x128 .f32) (harg18 : arg18.IsWhole)
  (x0 : Vec F S64x1024 .bf16) (x1 : Vec F S64x1024 .bf16) (x2 : Vec F S64x1024 .bf16) (x3 : Vec F S1x64x8 .f32) (x4 : Vec F S1x1x4x128 .f32) (x5 : Vec F S1x64x8 .f32) (x6 : Vec F S64x1024 .bf16) (x7 : Vec F S64x1024 .bf16) (x8 : Vec F S64x1024 .bf16) (x9 : Vec F S1x64x8 .f32) (x10 : Vec F S1x1x4x128 .f32) (x11 : Vec F S1x64x8 .f32) (x12 : Vec F S1x2x8x128x128 .f32)

set_option maxHeartbeats 40000000 in
/-- At the first point of a run: the stores of both directions' outputs and of the states. -/
theorem storesA (hc0 : cond0_0 i) (hc1 : ¬cond0_1 i) :
    ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).1,
      (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).2.1,
      (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).2.2.2.1)
      = (outPieces masks0 (loads arg2 harg2 arg3 harg3 arg4 harg4 arg5 harg5 arg6 harg6 arg7 harg7 x0 x1 x2 x3 x4 x5 (reset arg14 harg14 arg18 c x12 0)),
        outPieces masks1 (loads arg8 harg8 arg9 harg9 arg10 harg10 arg11 harg11 arg12 harg12 arg13 harg13 x6 x7 x8 x9 x10 x11 (reset arg14 harg14 arg18 c x12 1)),
        statePieces masks1 (loads arg8 harg8 arg9 harg9 arg10 harg10 arg11 harg11 arg12 harg12 arg13 harg13 x6 x7 x8 x9 x10 x11 (reset arg14 harg14 arg18 c x12 1)) 1
          ++ statePieces masks0 (loads arg2 harg2 arg3 harg3 arg4 harg4 arg5 harg5 arg6 harg6 arg7 harg7 x0 x1 x2 x3 x4 x5 (reset arg14 harg14 arg18 c x12 0)) 0 ++ kernelRun0_A.sl.HS0_1 c arg14 harg14 x12) :=
  rfl

end Cert.Chain
-- ==== Proof.PiecesB.lean ====
/- The stores at the middle points of a run. -/
module

public import proofs.«01_k».proof.Proof.Pieces

@[expose] public section

set_option maxRecDepth 65536

noncomputable section

namespace Cert.Chain

open Cert.KernelIdeal Cert.KernelIdeal.Gen Idealize.ShloMosaic

variable {F : FTy → Type} [FloatOps F]

variable (c : Dev nD) (i : grid0.Coords)
  (arg2 : Memref sig .tc .vmem S64x1024 .bf16) (harg2 : arg2.IsWhole)
  (arg3 : Memref sig .tc .vmem S64x1024 .bf16) (harg3 : arg3.IsWhole)
  (arg4 : Memref sig .tc .vmem S64x1024 .bf16) (harg4 : arg4.IsWhole)
  (arg5 : Memref sig .tc .vmem S1x64x8 .f32) (harg5 : arg5.IsWhole)
  (arg6 : Memref sig .tc .vmem S1x1x4x128 .f32) (harg6 : arg6.IsWhole)
  (arg7 : Memref sig .tc .vmem S1x64x8 .f32) (harg7 : arg7.IsWhole)
  (arg8 : Memref sig .tc .vmem S64x1024 .bf16) (harg8 : arg8.IsWhole)
  (arg9 : Memref sig .tc .vmem S64x1024 .bf16) (harg9 : arg9.IsWhole)
  (arg10 : Memref sig .tc .vmem S64x1024 .bf16) (harg10 : arg10.IsWhole)
  (arg11 : Memref sig .tc .vmem S1x64x8 .f32) (harg11 : arg11.IsWhole)
  (arg12 : Memref sig .tc .vmem S1x1x4x128 .f32) (harg12 : arg12.IsWhole)
  (arg13 : Memref sig .tc .vmem S1x64x8 .f32) (harg13 : arg13.IsWhole)
  (arg14 : Memref sig .tc .vmem S1x2x8x128x128 .f32) (harg14 : arg14.IsWhole)
  (arg15 : Memref sig .tc .vmem S64x1024 .f32) (harg15 : arg15.IsWhole)
  (arg16 : Memref sig .tc .vmem S64x1024 .f32) (harg16 : arg16.IsWhole)
  (arg17 : Memref sig .tc .vmem S1x2x8x128x128 .f32) (harg17 : arg17.IsWhole)
  (arg18 : Memref sig .tc .vmem S2x8x128x128 .f32) (harg18 : arg18.IsWhole)
  (x0 : Vec F S64x1024 .bf16) (x1 : Vec F S64x1024 .bf16) (x2 : Vec F S64x1024 .bf16) (x3 : Vec F S1x64x8 .f32) (x4 : Vec F S1x1x4x128 .f32) (x5 : Vec F S1x64x8 .f32) (x6 : Vec F S64x1024 .bf16) (x7 : Vec F S64x1024 .bf16) (x8 : Vec F S64x1024 .bf16) (x9 : Vec F S1x64x8 .f32) (x10 : Vec F S1x1x4x128 .f32) (x11 : Vec F S1x64x8 .f32) (x12 : Vec F S1x2x8x128x128 .f32) (xs0 : Vec F S2x8x128x128 .f32)

set_option maxHeartbeats 40000000 in
/-- At the middle points of a run: the stores of both directions' outputs and of the states. -/
theorem storesB (hc0 : ¬cond0_0 i) (hc1 : ¬cond0_1 i) :
    ((kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).1,
      (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).2.1,
      (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).2.2.2.1)
      = (outPieces masks0 (loads arg2 harg2 arg3 harg3 arg4 harg4 arg5 harg5 arg6 harg6 arg7 harg7 x0 x1 x2 x3 x4 x5 (kept arg18 harg18 xs0 0)),
        outPieces masks1 (loads arg8 harg8 arg9 harg9 arg10 harg10 arg11 harg11 arg12 harg12 arg13 harg13 x6 x7 x8 x9 x10 x11 (kept arg18 harg18 xs0 1)),
        statePieces masks1 (loads arg8 harg8 arg9 harg9 arg10 harg10 arg11 harg11 arg12 harg12 arg13 harg13 x6 x7 x8 x9 x10 x11 (kept arg18 harg18 xs0 1)) 1
          ++ statePieces masks0 (loads arg2 harg2 arg3 harg3 arg4 harg4 arg5 harg5 arg6 harg6 arg7 harg7 x0 x1 x2 x3 x4 x5 (kept arg18 harg18 xs0 0)) 0) :=
  rfl

end Cert.Chain
-- ==== Proof.PiecesC.lean ====
/- The stores at the last point of a run. -/
module

public import proofs.«01_k».proof.Proof.Pieces

@[expose] public section

set_option maxRecDepth 65536

noncomputable section

namespace Cert.Chain

open Cert.KernelIdeal Cert.KernelIdeal.Gen Idealize.ShloMosaic

variable {F : FTy → Type} [FloatOps F]

variable (c : Dev nD) (i : grid0.Coords)
  (arg2 : Memref sig .tc .vmem S64x1024 .bf16) (harg2 : arg2.IsWhole)
  (arg3 : Memref sig .tc .vmem S64x1024 .bf16) (harg3 : arg3.IsWhole)
  (arg4 : Memref sig .tc .vmem S64x1024 .bf16) (harg4 : arg4.IsWhole)
  (arg5 : Memref sig .tc .vmem S1x64x8 .f32) (harg5 : arg5.IsWhole)
  (arg6 : Memref sig .tc .vmem S1x1x4x128 .f32) (harg6 : arg6.IsWhole)
  (arg7 : Memref sig .tc .vmem S1x64x8 .f32) (harg7 : arg7.IsWhole)
  (arg8 : Memref sig .tc .vmem S64x1024 .bf16) (harg8 : arg8.IsWhole)
  (arg9 : Memref sig .tc .vmem S64x1024 .bf16) (harg9 : arg9.IsWhole)
  (arg10 : Memref sig .tc .vmem S64x1024 .bf16) (harg10 : arg10.IsWhole)
  (arg11 : Memref sig .tc .vmem S1x64x8 .f32) (harg11 : arg11.IsWhole)
  (arg12 : Memref sig .tc .vmem S1x1x4x128 .f32) (harg12 : arg12.IsWhole)
  (arg13 : Memref sig .tc .vmem S1x64x8 .f32) (harg13 : arg13.IsWhole)
  (arg14 : Memref sig .tc .vmem S1x2x8x128x128 .f32) (harg14 : arg14.IsWhole)
  (arg15 : Memref sig .tc .vmem S64x1024 .f32) (harg15 : arg15.IsWhole)
  (arg16 : Memref sig .tc .vmem S64x1024 .f32) (harg16 : arg16.IsWhole)
  (arg17 : Memref sig .tc .vmem S1x2x8x128x128 .f32) (harg17 : arg17.IsWhole)
  (arg18 : Memref sig .tc .vmem S2x8x128x128 .f32) (harg18 : arg18.IsWhole)
  (x0 : Vec F S64x1024 .bf16) (x1 : Vec F S64x1024 .bf16) (x2 : Vec F S64x1024 .bf16) (x3 : Vec F S1x64x8 .f32) (x4 : Vec F S1x1x4x128 .f32) (x5 : Vec F S1x64x8 .f32) (x6 : Vec F S64x1024 .bf16) (x7 : Vec F S64x1024 .bf16) (x8 : Vec F S64x1024 .bf16) (x9 : Vec F S1x64x8 .f32) (x10 : Vec F S1x1x4x128 .f32) (x11 : Vec F S1x64x8 .f32) (x12 : Vec F S1x2x8x128x128 .f32) (xs0 : Vec F S2x8x128x128 .f32)

set_option maxHeartbeats 40000000 in
/-- At the last point of a run: the stores of both directions' outputs and of the states. -/
theorem storesC (hc0 : ¬cond0_0 i) (hc1 : cond0_1 i) :
    ((kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).1,
      (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).2.1,
      (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).2.2.2.1)
      = (outPieces masks0 (loads arg2 harg2 arg3 harg3 arg4 harg4 arg5 harg5 arg6 harg6 arg7 harg7 x0 x1 x2 x3 x4 x5 (kept arg18 harg18 xs0 0)),
        outPieces masks1 (loads arg8 harg8 arg9 harg9 arg10 harg10 arg11 harg11 arg12 harg12 arg13 harg13 x6 x7 x8 x9 x10 x11 (kept arg18 harg18 xs0 1)),
        statePieces masks1 (loads arg8 harg8 arg9 harg9 arg10 harg10 arg11 harg11 arg12 harg12 arg13 harg13 x6 x7 x8 x9 x10 x11 (kept arg18 harg18 xs0 1)) 1
          ++ statePieces masks0 (loads arg2 harg2 arg3 harg3 arg4 harg4 arg5 harg5 arg6 harg6 arg7 harg7 x0 x1 x2 x3 x4 x5 (kept arg18 harg18 xs0 0)) 0) :=
  rfl

end Cert.Chain
-- ==== Proof.PiecesAll.lean ====
/- The stores at every kind of grid point. -/
module

public import proofs.«01_k».proof.Proof.PiecesA
public import proofs.«01_k».proof.Proof.PiecesB
public import proofs.«01_k».proof.Proof.PiecesC
-- ==== Proof.LastC.lean ====
/- What the last point of a run stores of the states. -/
module

public import proofs.«01_k».proof.Proof.Pieces

@[expose] public section

set_option maxRecDepth 65536

noncomputable section

namespace Cert.Chain

open Cert.KernelIdeal Cert.KernelIdeal.Gen Idealize.ShloMosaic

variable {F : FTy → Type} [FloatOps F]

variable (c : Dev nD) (i : grid0.Coords)
  (arg2 : Memref sig .tc .vmem S64x1024 .bf16) (harg2 : arg2.IsWhole)
  (arg3 : Memref sig .tc .vmem S64x1024 .bf16) (harg3 : arg3.IsWhole)
  (arg4 : Memref sig .tc .vmem S64x1024 .bf16) (harg4 : arg4.IsWhole)
  (arg5 : Memref sig .tc .vmem S1x64x8 .f32) (harg5 : arg5.IsWhole)
  (arg6 : Memref sig .tc .vmem S1x1x4x128 .f32) (harg6 : arg6.IsWhole)
  (arg7 : Memref sig .tc .vmem S1x64x8 .f32) (harg7 : arg7.IsWhole)
  (arg8 : Memref sig .tc .vmem S64x1024 .bf16) (harg8 : arg8.IsWhole)
  (arg9 : Memref sig .tc .vmem S64x1024 .bf16) (harg9 : arg9.IsWhole)
  (arg10 : Memref sig .tc .vmem S64x1024 .bf16) (harg10 : arg10.IsWhole)
  (arg11 : Memref sig .tc .vmem S1x64x8 .f32) (harg11 : arg11.IsWhole)
  (arg12 : Memref sig .tc .vmem S1x1x4x128 .f32) (harg12 : arg12.IsWhole)
  (arg13 : Memref sig .tc .vmem S1x64x8 .f32) (harg13 : arg13.IsWhole)
  (arg14 : Memref sig .tc .vmem S1x2x8x128x128 .f32) (harg14 : arg14.IsWhole)
  (arg15 : Memref sig .tc .vmem S64x1024 .f32) (harg15 : arg15.IsWhole)
  (arg16 : Memref sig .tc .vmem S64x1024 .f32) (harg16 : arg16.IsWhole)
  (arg17 : Memref sig .tc .vmem S1x2x8x128x128 .f32) (harg17 : arg17.IsWhole)
  (arg18 : Memref sig .tc .vmem S2x8x128x128 .f32) (harg18 : arg18.IsWhole)
  (x0 : Vec F S64x1024 .bf16) (x1 : Vec F S64x1024 .bf16) (x2 : Vec F S64x1024 .bf16) (x3 : Vec F S1x64x8 .f32) (x4 : Vec F S1x1x4x128 .f32) (x5 : Vec F S1x64x8 .f32) (x6 : Vec F S64x1024 .bf16) (x7 : Vec F S64x1024 .bf16) (x8 : Vec F S64x1024 .bf16) (x9 : Vec F S1x64x8 .f32) (x10 : Vec F S1x1x4x128 .f32) (x11 : Vec F S1x64x8 .f32) (x12 : Vec F S1x2x8x128x128 .f32) (xs0 : Vec F S2x8x128x128 .f32)

set_option maxHeartbeats 4000000 in
/-- At the last point of a run: the carried states, read back whole, are stored. -/
theorem storesC15 (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).2.2.1
      = [⟨(Rect.unit ![0, 0, 0, 0, 0] S1x2x8x128x128.size inb_S1x2x8x128x128_S1x2x8x128x128_0_0_0_0_0 : Rect S1x2x8x128x128),
          k0_pay3 (arg18.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).2.2.2.1
            (Rect.unit ![0, 0, 0, 0] S2x8x128x128.size inb_S2x8x128x128_S2x8x128x128_0_0_0_0 : Rect S2x8x128x128).toLoadRect)⟩] :=
  rfl

end Cert.Chain
-- ==== Proof.State.lean ====
/- What each grid point leaves: the recurrence's outputs and states. -/
module

public import proofs.«01_k».proof.Proof.Point
public import proofs.«01_k».proof.Proof.PiecesAll
public import proofs.«01_k».proof.Proof.LastC
public import proofs.«01_k».proof.Proof.Gen.KernelIdeal.Value

@[expose] public section

set_option maxRecDepth 65536

noncomputable section

namespace Cert.Chain

open Cert.KernelIdeal Cert.KernelIdeal.Gen Idealize.ShloMosaic Delta

variable {m : (ℓ : Loc nD τ sig) → Buf (Elt Ideal) ℓ} {c : Dev nD}

/-- Equal triples have equal parts. -/
theorem parts {α β γ : Type*} {a a' : α} {b b' : β} {g g' : γ} (e : (a, b, g) = (a', b', g')) : a = a' ∧ b = b' ∧ g = g' := by
  simpa using e

variable (m c) in
/-- What a point should leave: each direction's outputs of its chunk, and the states at its chunk's end. -/
def Left (t : Fin cfg0.N) (o : Vec Ideal S64x1024 .f32 × Vec Ideal S64x1024 .f32 × Vec Ideal S1x2x8x128x128 .f32 × Vec Ideal S2x8x128x128 .f32) : Prop :=
  (∀ i h y, o.1 (ix2 i (col h y)) = (Ou m c (seq t) 0 h (token t 0 i) y : EReal))
  ∧ (∀ i h y, o.2.1 (ix2 i (col h y)) = (Ou m c (seq t) 1 h (token t 1 i) y : EReal))
  ∧ (∀ d h x y, o.2.2.2 (ix4 d h x y) = (St m c (seq t) d h ((t.val % 32 + 1) * 64) x y : EReal))

/-- The states a run starts from are the recurrence's first. -/
theorem start (hf : Fits m c) (t : Fin cfg0.N) (h0 : t.val % 32 = 0) (d : Fin 2) (h : Fin 8) (x y : Fin 128) :
    (iblk m c 12 t : Vec Ideal S1x2x8x128x128 .f32) (ix5 0 d h x y) = (St m c (seq t) d h (t.val % 32 * 64) x y : EReal) := by
  rw [blk12, h0]
  exact hf.real.s0 _

set_option maxHeartbeats 4000000 in
/-- The first point of a run leaves what it should. -/
theorem at_A (hf : Fits m c) (t : Fin cfg0.N) (h0 : t.val % 32 = 0) (h1 : ¬t.val % 32 = 31) :
    Left m c t (outsAt0 m c t.val t.isLt) := by
  rw [outsAt0_A m c t h0 h1]
  refine ⟨fun i h y => ?_, fun i h y => ?_, fun d h x y => ?_⟩
  · dsimp only
    unfold out0_A_13
    rw [(parts (storesA _ _ _ _ _ _ _ _ _ _ _ _ _ _ _ _ _ _ _ _ _ _ _ _ _ _ _ _ _ _ _ _ _ _ _ _ _ _ _ _ _ _ _ _ _ _ _ _ _ _ _ )).1]
    exact point_out0 t (reads0 hf t (fun h x y => (reset_apply _ _ _ _ _ 0 h x y).trans (start hf t h0 0 h x y))) _ _ i h y
  · dsimp only
    unfold out0_A_14
    rw [(parts (storesA _ _ _ _ _ _ _ _ _ _ _ _ _ _ _ _ _ _ _ _ _ _ _ _ _ _ _ _ _ _ _ _ _ _ _ _ _ _ _ _ _ _ _ _ _ _ _ _ _ _ _ )).2.1]
    exact point_out1 t (reads1 hf t (fun h x y => (reset_apply _ _ _ _ _ 1 h x y).trans (start hf t h0 1 h x y))) _ _ i h y
  · dsimp only
    unfold sout0_A_0
    rw [(parts (storesA _ _ _ _ _ _ _ _ _ _ _ _ _ _ _ _ _ _ _ _ _ _ _ _ _ _ _ _ _ _ _ _ _ _ _ _ _ _ _ _ _ _ _ _ _ _ _ _ _ _ _ )).2.2]
    exact point_state t (reads0 hf t (fun h x y => (reset_apply _ _ _ _ _ 0 h x y).trans (start hf t h0 0 h x y))) (reads1 hf t (fun h x y => (reset_apply _ _ _ _ _ 1 h x y).trans (start hf t h0 1 h x y))) _ _ _ d h x y

set_option maxHeartbeats 4000000 in
/-- A middle point leaves what it should, when the point before did. -/
theorem at_B (hf : Fits m c) (t : Fin cfg0.N) (h0 : ¬t.val % 32 = 0) (h1 : ¬t.val % 32 = 31)
    (ih : ∀ d h x y, (outsAt0 m c (t.val - 1) (by omega)).2.2.2 (ix4 d h x y) = (St m c (seq t) d h (t.val % 32 * 64) x y : EReal)) :
    Left m c t (outsAt0 m c t.val t.isLt) := by
  rw [outsAt0_B m c t h0 h1]
  refine ⟨fun i h y => ?_, fun i h y => ?_, fun d h x y => ?_⟩
  · dsimp only
    unfold out0_B_13
    rw [(parts (storesB _ _ _ _ _ _ _ _ _ _ _ _ _ _ _ _ _ _ _ _ _ _ _ _ _ _ _ _ _ _ _ _ _ _ _ _ _ _ _ _ _ _ _ _ _ _ _ _ _ _ _ _ )).1]
    exact point_out0 t (reads0 hf t (fun h x y => (kept_apply _ _ _ 0 h x y).trans (ih 0 h x y))) _ _ i h y
  · dsimp only
    unfold out0_B_14
    rw [(parts (storesB _ _ _ _ _ _ _ _ _ _ _ _ _ _ _ _ _ _ _ _ _ _ _ _ _ _ _ _ _ _ _ _ _ _ _ _ _ _ _ _ _ _ _ _ _ _ _ _ _ _ _ _ )).2.1]
    exact point_out1 t (reads1 hf t (fun h x y => (kept_apply _ _ _ 1 h x y).trans (ih 1 h x y))) _ _ i h y
  · dsimp only
    unfold sout0_B_0
    rw [(parts (storesB _ _ _ _ _ _ _ _ _ _ _ _ _ _ _ _ _ _ _ _ _ _ _ _ _ _ _ _ _ _ _ _ _ _ _ _ _ _ _ _ _ _ _ _ _ _ _ _ _ _ _ _ )).2.2]
    rw [← List.append_nil (statePieces _ _ 1 ++ statePieces _ _ 0)]
    exact point_state t (reads0 hf t (fun h x y => (kept_apply _ _ _ 0 h x y).trans (ih 0 h x y))) (reads1 hf t (fun h x y => (kept_apply _ _ _ 1 h x y).trans (ih 1 h x y))) _ _ _ d h x y

set_option maxHeartbeats 4000000 in
/-- The last point of a run leaves what it should, when the point before did. -/
theorem at_C (hf : Fits m c) (t : Fin cfg0.N) (h0 : ¬t.val % 32 = 0) (h1 : t.val % 32 = 31)
    (ih : ∀ d h x y, (outsAt0 m c (t.val - 1) (by omega)).2.2.2 (ix4 d h x y) = (St m c (seq t) d h (t.val % 32 * 64) x y : EReal)) :
    Left m c t (outsAt0 m c t.val t.isLt) := by
  rw [outsAt0_C m c t h0 h1]
  refine ⟨fun i h y => ?_, fun i h y => ?_, fun d h x y => ?_⟩
  · dsimp only
    unfold out0_C_13
    rw [(parts (storesC _ _ _ _ _ _ _ _ _ _ _ _ _ _ _ _ _ _ _ _ _ _ _ _ _ _ _ _ _ _ _ _ _ _ _ _ _ _ _ _ _ _ _ _ _ _ _ _ _ _ _ _ )).1]
    exact point_out0 t (reads0 hf t (fun h x y => (kept_apply _ _ _ 0 h x y).trans (ih 0 h x y))) _ _ i h y
  · dsimp only
    unfold out0_C_14
    rw [(parts (storesC _ _ _ _ _ _ _ _ _ _ _ _ _ _ _ _ _ _ _ _ _ _ _ _ _ _ _ _ _ _ _ _ _ _ _ _ _ _ _ _ _ _ _ _ _ _ _ _ _ _ _ _ )).2.1]
    exact point_out1 t (reads1 hf t (fun h x y => (kept_apply _ _ _ 1 h x y).trans (ih 1 h x y))) _ _ i h y
  · dsimp only
    unfold sout0_C_0
    rw [(parts (storesC _ _ _ _ _ _ _ _ _ _ _ _ _ _ _ _ _ _ _ _ _ _ _ _ _ _ _ _ _ _ _ _ _ _ _ _ _ _ _ _ _ _ _ _ _ _ _ _ _ _ _ _ )).2.2]
    rw [← List.append_nil (statePieces _ _ 1 ++ statePieces _ _ 0)]
    exact point_state t (reads0 hf t (fun h x y => (kept_apply _ _ _ 0 h x y).trans (ih 0 h x y))) (reads1 hf t (fun h x y => (kept_apply _ _ _ 1 h x y).trans (ih 1 h x y))) _ _ _ d h x y

set_option maxHeartbeats 4000000 in
/-- The last point of a run writes the states out. -/
theorem at_last (hf : Fits m c) (t : Fin cfg0.N) (h0 : ¬t.val % 32 = 0) (h1 : t.val % 32 = 31)
    (ih : ∀ d h x y, (outsAt0 m c (t.val - 1) (by omega)).2.2.2 (ix4 d h x y) = (St m c (seq t) d h (t.val % 32 * 64) x y : EReal)) (d : Fin 2) (h : Fin 8) (x y : Fin 128) :
    (outsAt0 m c t.val t.isLt).2.2.1 (ix5 0 d h x y) = (St m c (seq t) d h ((t.val % 32 + 1) * 64) x y : EReal) := by
  rw [outsAt0_C m c t h0 h1]
  dsimp only
  unfold out0_C_15
  rw [storesC15 _ _ _ _ _ _ _ _ _ _ _ _ _ _ _ _ _ _ _ _ _ _ _ _ _ _ _ _ _ _ _ _ _ _ _ _ _ _ _ _ _ _ _ _ _ _ _ _ _ _ _ _ , View.read_writes_junk_apply_eq_canon, View.canon_unit_zero (by funext a; fin_cases a <;> rfl)]
  unfold k0_pay3
  pointwise
  rw [View.readCov_eq_canon' ]
  dsimp only
  rw [show (Rect.unit ![0, 0, 0, 0] S2x8x128x128.size inb_S2x8x128x128_S2x8x128x128_0_0_0_0 : Rect S2x8x128x128).toLoadRect.idx (ix4 d h x y)
    = ix4 d h x y from funext fun a => Fin.ext (by
      rw [Rect.idx_unit_val]
      fin_cases a <;> exact Nat.zero_add _), (parts (storesC _ _ _ _ _ _ _ _ _ _ _ _ _ _ _ _ _ _ _ _ _ _ _ _ _ _ _ _ _ _ _ _ _ _ _ _ _ _ _ _ _ _ _ _ _ _ _ _ _ _ _ _ )).2.2,
    ← View.read_writes_junk_apply_eq_canon VS0_0]
  rw [← List.append_nil (statePieces _ _ 1 ++ statePieces _ _ 0)]
  exact point_state t (reads0 hf t (fun h x y => (kept_apply _ _ _ 0 h x y).trans (ih 0 h x y))) (reads1 hf t (fun h x y => (kept_apply _ _ _ 1 h x y).trans (ih 1 h x y))) _ _ _ d h x y

/-- What a point left is what the next point of its run finds. -/
theorem carry {k : ℕ} (hk : k + 1 < cfg0.N) (h0 : ¬(k + 1) % 32 = 0)
    (ih : Left m c ⟨k, by omega⟩ (outsAt0 m c k (by omega))) (d : Fin 2) (h : Fin 8) (x y : Fin 128) :
    (outsAt0 m c k (by omega)).2.2.2 (ix4 d h x y) = (St m c (seq ⟨k + 1, hk⟩) d h ((k + 1) % 32 * 64) x y : EReal) := by
  rw [ih.2.2 d h x y, show seq ⟨k, by omega⟩ = seq ⟨k + 1, hk⟩ from Fin.ext (by show k / 32 = (k + 1) / 32; omega)]
  rw [show (k % 32 + 1) * 64 = (k + 1) % 32 * 64 by omega]

/-- Every point leaves what it should. -/
theorem leaves (hf : Fits m c) : ∀ (n : ℕ) (hn : n < cfg0.N), Left m c ⟨n, hn⟩ (outsAt0 m c n hn)
  | 0, hn => at_A hf ⟨0, hn⟩ rfl (by dsimp only; omega)
  | k + 1, hn => by
    by_cases h0 : (k + 1) % 32 = 0
    · exact at_A hf ⟨k + 1, hn⟩ h0 (by dsimp only; omega)
    · have ih := carry hn h0 (leaves hf k (by omega))
      by_cases h1 : (k + 1) % 32 = 31
      · exact at_C hf ⟨k + 1, hn⟩ h0 h1 ih
      · exact at_B hf ⟨k + 1, hn⟩ h0 h1 ih

/-- The last point of a run writes out the states after all its tokens. -/
theorem last (hf : Fits m c) (t : Fin cfg0.N) (h1 : t.val % 32 = 31) (d : Fin 2) (h : Fin 8) (x y : Fin 128) :
    (outsAt0 m c t.val t.isLt).2.2.1 (ix5 0 d h x y) = (St m c (seq t) d h 2048 x y : EReal) := by
  obtain ⟨n, hn⟩ := t
  obtain ⟨k, rfl⟩ : ∃ k, n = k + 1 := ⟨n - 1, by dsimp only at h1; omega⟩
  have h0 : ¬(k + 1) % 32 = 0 := by dsimp only at h1; omega
  rw [at_last hf ⟨k + 1, hn⟩ h0 h1 (carry hn h0 (leaves hf k (by omega))) d h x y]
  dsimp only at h1 ⊢
  rw [h1]

end Cert.Chain
-- ==== Proof.RefScan.lean ====
/- The reference's token loop, read as the recurrence over real numbers. -/
module

public import proofs.«01_k».proof.Proof.Spec
public import proofs.«01_k».proof.Proof.Gen.ReferenceIdeal.Step

@[expose] public section

set_option maxRecDepth 65536

noncomputable section

namespace Cert.RefScan

open Idealize.ShloMosaic Cert.ReferenceIdeal Cert.ReferenceIdeal.Gen Cert.ReferenceIdeal.Step Delta

variable (q k v : Wide) (g beta : Narrow) (s0 : States)

/-- A row of the direction-`d` order, given by its number. -/
theorem row_eq (t : Fin 2048) (b : Fin 8) (d : Fin 2) (m : ℕ) (hm : m < 16384)
    (h : m = b.val * 2048 + (if d = 0 then t.val else 2047 - t.val)) : (⟨m, hm⟩ : Fin 16384) = row b d t.val :=
  Fin.ext (by rw [row_val b d t.isLt]; exact h)

theorem q_entry (t : Fin 2048) (b : Fin 8) (d : Fin 2) (h : Fin 8) (x : Fin 128) :
    A_main_v20 (F := Ideal) q k v g beta (ix5 t b d h x) = q (ix2 (row b d t.val) (col h x)) := by
  pointwise [A_main_v20, A_main_v19, A_main_v18, A_main_v17, A_main_v16, A_main_v15, A_main_v14]
  fin_cases d
  · exact congrArg (fun r => q (ix2 r (col h x))) (row_eq t b 0 _ _ (by simp))
  · exact congrArg (fun r => q (ix2 r (col h x))) (row_eq t b 1 _ _ (by simp [Fin.val_rev]))

theorem k_entry (t : Fin 2048) (b : Fin 8) (d : Fin 2) (h : Fin 8) (x : Fin 128) :
    A_main_v27 (F := Ideal) q k v g beta (ix5 t b d h x) = k (ix2 (row b d t.val) (col h x)) :=
  q_entry k k v g beta t b d h x

theorem v_entry (t : Fin 2048) (b : Fin 8) (d : Fin 2) (h : Fin 8) (x : Fin 128) :
    A_main_v34 (F := Ideal) q k v g beta (ix5 t b d h x) = v (ix2 (row b d t.val) (col h x)) :=
  q_entry v k v g beta t b d h x

theorem g_entry (t : Fin 2048) (b : Fin 8) (d : Fin 2) (h : Fin 8) :
    A_main_v5 (F := Ideal) q k v g beta (ix4 t b d h) = g (ix2 (row b d t.val) (lane d h)) := by
  pointwise [A_main_v0, A_main_v1, A_main_v2, A_main_v3, A_main_v4, A_main_v5]
  fin_cases d
  · exact congrArg (fun r => g (ix2 r (lane 0 h))) (row_eq t b 0 _ _ (by simp))
  · exact congrArg (fun r => g (ix2 r (lane 1 h))) (row_eq t b 1 _ _ (by simp [Fin.val_rev]))

theorem beta_entry (t : Fin 2048) (b : Fin 8) (d : Fin 2) (h : Fin 8) :
    A_main_v40 (F := Ideal) q k v g beta (ix4 t b d h) = beta (ix2 (row b d t.val) (lane d h)) :=
  g_entry q k v beta beta t b d h

theorem decay_entry (hr : Real' q k v g beta s0) (t : Fin 2048) (b : Fin 8) (d : Fin 2) (h : Fin 8) :
    A_main_v13 (F := Ideal) q k v g beta (ix4 t b d h) = ((Real.exp (dlog g b d h t.val) : ℝ) : EReal) := by
  pointwise [A_main_v13, A_main_v12, A_main_v11, A_main_v10, A_main_v9, A_main_v6, K_main_v8, K_main_cst]
  simp only [g_entry]
  rw [← Ideal.exp_coe]
  congr 1
  unfold dlog narrow
  rw [EReal.coe_sub, ← hr.g]
  by_cases h0 : t.val % 64 = 0
  · rw [dif_pos (by omega), if_pos h0]; simp
  · rw [dif_neg (by omega), if_neg h0, ← hr.g]
    congr 4
    omega

/-- A number of trips below the tokens, as the loop's counter. -/
theorem counter {n : ℕ} (hn : n < 2048) : (BitVec.ofNat 32 n).toInt = n := by
  rw [BitVec.toInt_eq_toNat_of_lt] <;> simp only [BitVec.toNat_ofNat] <;> omega

/-- The trip's block of the stacked vectors starts at its token. -/
theorem start5 {n : ℕ} (hn : n < 2048) (hr : S1x8x2x8x128.rank = S2048x8x2x8x128.rank) (st : Fin 5 → Int) (h0 : st 0 = n)
    (h1 : ∀ a, a ≠ 0 → st a = 0) (a : Fin 5) :
    Host.clampedStart S2048x8x2x8x128 S1x8x2x8x128 hr st a = if a = 0 then n else 0 := by
  apply Host.clampedStart_of_le
  · split_ifs with ha
    · rw [ha]; exact h0
    · exact h1 a ha
  · fin_cases a
    · show n + 1 ≤ 2048; omega
    · show 0 + 8 ≤ 8; omega
    · show 0 + 2 ≤ 2; omega
    · show 0 + 8 ≤ 8; omega
    · show 0 + 128 ≤ 128; omega

/-- The same for the stacked numbers. -/
theorem start4 {n : ℕ} (hn : n < 2048) (hr : S1x8x2x8.rank = S2048x8x2x8.rank) (st : Fin 4 → Int) (h0 : st 0 = n)
    (h1 : ∀ a, a ≠ 0 → st a = 0) (a : Fin 4) :
    Host.clampedStart S2048x8x2x8 S1x8x2x8 hr st a = if a = 0 then n else 0 := by
  apply Host.clampedStart_of_le
  · split_ifs with ha
    · rw [ha]; exact h0
    · exact h1 a ha
  · fin_cases a
    · show n + 1 ≤ 2048; omega
    · show 0 + 8 ≤ 8; omega
    · show 0 + 2 ≤ 2; omega
    · show 0 + 8 ≤ 8; omega

/-- The vector of token `n` out of the stacked queries, keys or values. -/
theorem slice5 {n : ℕ} (hn : n < 2048) (s : State Ideal) (b : Fin 8) (d : Fin 2) (h : Fin 8) (x : Fin 128) :
    b5 n s (ix4 b d h x) = s.main_v42_0 (ix5 ⟨n, hn⟩ b d h x) := by
  unfold b5
  pointwise
  unfold b4
  rw [Host.dynamicSlice_apply]
  congr 1
  funext a
  apply Fin.ext
  refine (congrArg (· + _) (start5 hn _ _ (counter hn) ?_ a)).trans ?_
  · intro a ha; fin_cases a <;> first | exact absurd rfl ha | rfl
  · fin_cases a <;> simp [ix5]

theorem slice5k {n : ℕ} (hn : n < 2048) (s : State Ideal) (b : Fin 8) (d : Fin 2) (h : Fin 8) (x : Fin 128) :
    b11 n s (ix4 b d h x) = s.main_v42_1 (ix5 ⟨n, hn⟩ b d h x) :=
  slice5 hn { s with main_v42_0 := s.main_v42_1 } b d h x

theorem slice5v {n : ℕ} (hn : n < 2048) (s : State Ideal) (b : Fin 8) (d : Fin 2) (h : Fin 8) (x : Fin 128) :
    b17 n s (ix4 b d h x) = s.main_v42_2 (ix5 ⟨n, hn⟩ b d h x) :=
  slice5 hn { s with main_v42_0 := s.main_v42_2 } b d h x

/-- The number of token `n` out of the stacked decays or strengths. -/
theorem slice4 {n : ℕ} (hn : n < 2048) (s : State Ideal) (b : Fin 8) (d : Fin 2) (h : Fin 8) :
    b22 n s (ix3 b d h) = s.main_v42_3 (ix4 ⟨n, hn⟩ b d h) := by
  unfold b22
  pointwise
  unfold b21
  rw [Host.dynamicSlice_apply]
  congr 1
  funext a
  apply Fin.ext
  refine (congrArg (· + _) (start4 hn _ _ (counter hn) ?_ a)).trans ?_
  · intro a ha; fin_cases a <;> first | exact absurd rfl ha | rfl
  · fin_cases a <;> simp [ix4]

theorem slice4b {n : ℕ} (hn : n < 2048) (s : State Ideal) (b : Fin 8) (d : Fin 2) (h : Fin 8) :
    b27 n s (ix3 b d h) = s.main_v42_4 (ix4 ⟨n, hn⟩ b d h) :=
  slice4 hn { s with main_v42_3 := s.main_v42_4 } b d h

theorem b41_entry (n : ℕ) (s : State Ideal) (b : Fin 8) (d : Fin 2) (h : Fin 8) (x y : Fin 128) :
    b41 n s (ix5 b d h x y) = s.main_v42_6 (ix5 b d h x y) * b22 n s (ix3 b d h)
      + b11 n s (ix4 b d h x) * ((b17 n s (ix4 b d h y)
          - ∑ z, (s.main_v42_6 (ix5 b d h z y) * b22 n s (ix3 b d h)) * b11 n s (ix4 b d h z)) * b27 n s (ix3 b d h)) := by
  pointwise [b41, b40, b39, b38, b37, b36, b35, b34, b33, b32, b31, b30, b29, b28]

theorem b42_entry (n : ℕ) (s : State Ideal) (b : Fin 8) (d : Fin 2) (h : Fin 8) (y : Fin 128) :
    b42 n s (ix4 b d h y) = ∑ x, b41 n s (ix5 b d h x y) * b5 n s (ix4 b d h x) := by
  pointwise [b42]

theorem b48_entry {n : ℕ} (hn : n < 2048) (s : State Ideal) (t : Fin 2048) (b : Fin 8) (d : Fin 2) (h : Fin 8) (y : Fin 128) :
    b48 n s (ix5 t b d h y) = if t.val = n then b42 n s (ix4 b d h y) else s.main_v42_7 (ix5 t b d h y) := by
  unfold b48
  rw [Host.dynamicUpdateSlice_apply]
  have hst : ∀ a : Fin 5, Host.clampedStart S2048x8x2x8x128 S1x8x2x8x128 updateFits_S2048x8x2x8x128_S1x8x2x8x128.1 (fun k => BitVec.toInt
      (![constantI S_ 32 (BitVec.ofNat 32 n), b44 n s, b45 n s, b46 n s, b47 n s] k (Shape.Idx.first h_S_))) a
        = if a = 0 then n else 0 := fun a => start5 hn _ _ (counter hn) (by
    intro a ha; fin_cases a <;> first | exact absurd rfl ha | rfl) a
  split_ifs with hin htn htn
  · have : b43 n s (ix5 0 b d h y) = b42 n s (ix4 b d h y) := by pointwise [b43]
    rw [← this]
    congr 1
    funext a
    apply Fin.ext
    refine (congrArg (_ - ·) (hst a)).trans ?_
    fin_cases a <;> simp [ix5, htn]
  · have h0 := hin (0 : Fin 5)
    have e : Host.clampedStart S2048x8x2x8x128 S1x8x2x8x128 updateFits_S2048x8x2x8x128_S1x8x2x8x128.1 (fun k => BitVec.toInt
      (![constantI S_ 32 (BitVec.ofNat 32 n), b44 n s, b45 n s, b46 n s, b47 n s] k (Shape.Idx.first h_S_))) (0 : Fin 5) = n := hst 0
    exact absurd (show t.val = n from le_antisymm (Nat.lt_succ_iff.1 (e ▸ h0.2)) (e ▸ h0.1)) htn
  · refine absurd (fun a => ?_) hin
    have e := hst a
    refine e ▸ ?_
    change Fin 5 at a
    fin_cases a
    · exact ⟨le_of_eq htn.symm, (by omega : t.val < n + 1)⟩
    · exact ⟨Nat.zero_le _, (by omega : b.val < 0 + 8)⟩
    · exact ⟨Nat.zero_le _, (by omega : d.val < 0 + 2)⟩
    · exact ⟨Nat.zero_le _, (by omega : h.val < 0 + 8)⟩
    · exact ⟨Nat.zero_le _, (by omega : y.val < 0 + 128)⟩
  · rfl

theorem o1_entry (s : State Ideal) (b : Fin 8) (t : Fin 2048) (h : Fin 8) (y : Fin 128) :
    R_main_v46 s (ix2 ⟨b.val * 2048 + t.val, by omega⟩ (col h y)) = s.main_v42_7 (ix5 t b 0 h y) := by
  unfold col
  pointwise [R_main_v46]

theorem o2_entry (s : State Ideal) (b : Fin 8) (t : Fin 2048) (h : Fin 8) (y : Fin 128) :
    R_main_v51 s (ix2 ⟨b.val * 2048 + t.val, by omega⟩ (col h y)) = s.main_v42_7 (ix5 t.rev b 1 h y) := by
  unfold col
  pointwise [R_main_v51]
  rfl

/-- The loop's state after `n` tokens. -/
def it : ℕ → State Ideal
  | 0 => init s0 q k v g beta
  | n + 1 => Step.step n (it n)

/-- The arrays the loop reads stay as they are. -/
theorem it_reads (n : ℕ) : (it q k v g beta s0 n).main_v42_0 = A_main_v20 q k v g beta
    ∧ (it q k v g beta s0 n).main_v42_1 = A_main_v27 q k v g beta
    ∧ (it q k v g beta s0 n).main_v42_2 = A_main_v34 q k v g beta
    ∧ (it q k v g beta s0 n).main_v42_3 = A_main_v13 q k v g beta
    ∧ (it q k v g beta s0 n).main_v42_4 = A_main_v40 q k v g beta := by
  induction n with
  | zero => exact ⟨rfl, rfl, rfl, rfl, rfl⟩
  | succ n ih => exact ih

variable (hr : Real' q k v g beta s0)
include hr

/-- One token of the loop is one step of the recurrence. -/
theorem b41_step {n : ℕ} (hn : n < 2048) (b : Fin 8) (d : Fin 2) (h : Fin 8)
    (ih : ∀ x y, (it q k v g beta s0 n).main_v42_6 (ix5 b d h x y) = ((state k v g beta s0 b d h n x y : ℝ) : EReal))
    (x y : Fin 128) :
    b41 n (it q k v g beta s0 n) (ix5 b d h x y) = ((state k v g beta s0 b d h (n + 1) x y : ℝ) : EReal) := by
  obtain ⟨e0, e1, e2, e3, e4⟩ := it_reads q k v g beta s0 n
  rw [b41_entry]
  simp only [slice5k hn, slice5v hn, slice4 hn, slice4b hn, e1, e2, e3, e4, k_entry, v_entry, beta_entry,
    decay_entry q k v g beta s0 hr, ih, wide_eq hr.k, wide_eq hr.v, narrow_eq hr.beta,
    ← EReal.coe_mul, ← coe_sum, ← EReal.coe_sub, ← EReal.coe_add]
  rfl

/-- The loop's states are the recurrence's. -/
theorem it_state (b : Fin 8) (d : Fin 2) (h : Fin 8) : ∀ n ≤ 2048, ∀ x y,
    (it q k v g beta s0 n).main_v42_6 (ix5 b d h x y) = ((state k v g beta s0 b d h n x y : ℝ) : EReal)
  | 0, _, x, y => hr.s0 _
  | n + 1, hn, x, y => b41_step q k v g beta s0 hr hn b d h (it_state b d h n (by omega)) x y

/-- The loop's outputs are the recurrence's. -/
theorem it_out (t : Fin 2048) (b : Fin 8) (d : Fin 2) (h : Fin 8) (y : Fin 128) : ∀ n ≤ 2048, t.val < n →
    (it q k v g beta s0 n).main_v42_7 (ix5 t b d h y) = ((out q k v g beta s0 b d h t.val y : ℝ) : EReal)
  | 0, _, h0 => absurd h0 (by omega)
  | n + 1, hn, ht => by
    show b48 n (it q k v g beta s0 n) _ = _
    rw [b48_entry hn]
    split_ifs with htn
    · subst htn
      rw [b42_entry]
      obtain ⟨e0, e1, e2, e3, e4⟩ := it_reads q k v g beta s0 t.val
      simp only [b41_step q k v g beta s0 hr hn b d h (it_state q k v g beta s0 hr b d h _ (by omega)), slice5 hn, e0, q_entry,
        wide_eq hr.q, ← EReal.coe_mul, ← coe_sum]
      rfl
    · exact it_out t b d h y n (by omega) (by omega)

/-- The first result: the outputs of the forward direction. -/
theorem result1 (b : Fin 8) (t : Fin 2048) (h : Fin 8) (y : Fin 128) :
    R_main_v46 (it q k v g beta s0 2048) (ix2 ⟨b.val * 2048 + t.val, by omega⟩ (col h y))
      = ((out q k v g beta s0 b 0 h t.val y : ℝ) : EReal) := by
  rw [o1_entry, it_out q k v g beta s0 hr t b 0 h y 2048 le_rfl t.isLt]

/-- The second: those of the backward direction, put back in the tokens' own order. -/
theorem result2 (b : Fin 8) (t : Fin 2048) (h : Fin 8) (y : Fin 128) :
    R_main_v51 (it q k v g beta s0 2048) (ix2 ⟨b.val * 2048 + t.val, by omega⟩ (col h y))
      = ((out q k v g beta s0 b 1 h (2047 - t.val) y : ℝ) : EReal) := by
  rw [o2_entry, it_out q k v g beta s0 hr t.rev b 1 h y 2048 le_rfl t.rev.isLt]
  congr 3
  rw [Fin.val_rev]; omega

end Cert.RefScan

end
-- ==== Proof.RefRun.lean ====
/- The reference's run: after the loop its buffers hold the last of the states `RefScan.it`. -/
module

public import proofs.«01_k».proof.Proof.RefScan
public import proofs.«01_k».proof.Proof.Gen.ReferenceIdeal.Run

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- The loop's buffers hold the fields of a state, and its counter the number of trips made. -/
structure Loads (V : Valuation τ sig (Elt Ideal)) (s : State Ideal) (n : ℕ) : Prop where
  states : V (Proc.devRef .tc main_v42_6) = s.main_v42_6
  outs : V (Proc.devRef .tc main_v42_7) = s.main_v42_7
  q : V (Proc.devRef .tc main_v42_0) = s.main_v42_0
  k : V (Proc.devRef .tc main_v42_1) = s.main_v42_1
  v : V (Proc.devRef .tc main_v42_2) = s.main_v42_2
  decay : V (Proc.devRef .tc main_v42_3) = s.main_v42_3
  beta : V (Proc.devRef .tc main_v42_4) = s.main_v42_4
  count : V (Proc.devRef .tc main_v42_5) = constantI S_ 32 (BitVec.ofNat 32 n)

variable {V : Valuation τ sig (Elt Ideal)} {s : State Ideal} {n : ℕ}

set_option maxRecDepth 16384 in
theorem keys_trip (h : Loads V s n) : res_main_while0b_v53 V = b11 n s := by
  unfold res_main_while0b_v53
  rw [h.k, h.count]
  rfl

set_option maxRecDepth 16384 in
theorem decayed_trip (h : Loads V s n) : res_main_while0b_v59 V = b30 n s := by
  unfold res_main_while0b_v59
  rw [h.states, h.decay, h.count]
  rfl

set_option maxRecDepth 16384 in
theorem states_trip (h : Loads V s n) : res_main_while0b_v70 V = b41 n s := by
  unfold res_main_while0b_v70
  rw [keys_trip h, decayed_trip h, h.v, h.beta, h.count]
  rfl

set_option maxRecDepth 16384 in
theorem outs_trip (h : Loads V s n) : Value.step_main_v42_7 V = b48 n s := by
  unfold Value.step_main_v42_7
  rw [states_trip h, h.q, h.outs, h.count]
  rfl

/-- One trip takes the buffers of a state to those of the next. -/
theorem loads_step (h : Loads V s n) : Loads (STEP V) (Step.step n s) (n + 1) where
  states := (STEP_main_v42_6 V).trans (states_trip h)
  outs := (STEP_main_v42_7 V).trans (outs_trip h)
  q := (STEP_main_v42_0 V).trans h.q
  k := (STEP_main_v42_1 V).trans h.k
  v := (STEP_main_v42_2 V).trans h.v
  decay := (STEP_main_v42_3 V).trans h.decay
  beta := (STEP_main_v42_4 V).trans h.beta
  count := (STEP_main_v42_5 V).trans (by
    unfold Value.step_main_v42_5
    rw [h.count]
    funext i
    show BitVec.ofNat 32 n + 1#32 = BitVec.ofNat 32 (n + 1)
    simp only [BitVec.ofNat_add])

variable (m : (ℓ : Loc nD τ sig) → Buf (Elt Ideal) ℓ) (c : Dev nD)

/-- The loop's states of the arguments the run starts from. -/
abbrev states (n : ℕ) : State Ideal :=
  RefScan.it (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) n

set_option maxRecDepth 65536 in
set_option maxHeartbeats 4000000 in
/-- The operations before the loop leave the first state. -/
theorem loads_entry : Loads (entryContents preI m c) (states m c 0) 0 := by
  constructor <;> (simp only [entryContents, afterL_cons, afterL_nil]; after_reads_simp) <;> rfl

/-- Before every trip the buffers hold its state. -/
theorem loads_iter : ∀ n, Loads (STEP^[n] (entryContents preI m c)) (states m c n) n
  | 0 => loads_entry m c
  | n + 1 => by
    rw [Function.iterate_succ_apply']
    exact loads_step (loads_iter n)

set_option maxRecDepth 16384 in
theorem out1_loads (h : Loads V s n) : out_main_v46 V = R_main_v46 s := by
  unfold out_main_v46
  rw [h.outs]
  rfl

set_option maxRecDepth 16384 in
theorem out2_loads (h : Loads V s n) : out_main_v51 V = R_main_v51 s := by
  unfold out_main_v51
  rw [h.outs]
  rfl

end Cert.RefRun

end
-- ==== Proof.Final.lean ====
/- The kernel's results are the reference's. -/
module

public import proofs.«01_k».proof.Proof.State
public import proofs.«01_k».proof.Proof.RefRun

@[expose] public section

set_option maxRecDepth 16384

noncomputable section

namespace Cert.Chain

open Cert.KernelIdeal Cert.KernelIdeal.Gen Idealize.ShloMosaic Delta

variable {m : (ℓ : Loc nD τ sig) → Buf (Elt Ideal) ℓ} {c : Dev nD}

variable (m c) in
/-- The reference loop's last state, of the kernel's own arguments. -/
abbrev ends : Cert.ReferenceIdeal.Step.State Ideal := Cert.RefScan.it (Q m c) (K m c) (Vv m c) (Gd m c) (Bt m c) (S0 m c) 2048

/-- The forward outputs by row. -/
theorem ends_fwd (hf : Fits m c) (b : Fin 8) (n : ℕ) (hn : n < 2048) (h : Fin 8) (y : Fin 128) :
    Cert.ReferenceIdeal.Step.R_main_v46 (ends m c) (ix2 (row b 0 n) (col h y)) = (Ou m c b 0 h n y : EReal) := by
  have e : row b 0 n = ⟨b.val * 2048 + (⟨n, hn⟩ : Fin 2048).val, by have := b.isLt; dsimp only; omega⟩ :=
    Fin.ext (by rw [row_val b 0 hn, if_pos rfl])
  rw [e]
  exact Cert.RefScan.result1 _ _ _ _ _ _ hf.real b ⟨n, hn⟩ h y

/-- The backward outputs by row. -/
theorem ends_bwd (hf : Fits m c) (b : Fin 8) (n : ℕ) (hn : n < 2048) (h : Fin 8) (y : Fin 128) :
    Cert.ReferenceIdeal.Step.R_main_v51 (ends m c) (ix2 (row b 1 n) (col h y)) = (Ou m c b 1 h n y : EReal) := by
  have e : row b 1 n = ⟨b.val * 2048 + (⟨2047 - n, by omega⟩ : Fin 2048).val, by have := b.isLt; dsimp only; omega⟩ :=
    Fin.ext (by rw [row_val b 1 hn, if_neg (by decide)])
  rw [e, Cert.RefScan.result2 _ _ _ _ _ _ hf.real b ⟨2047 - n, by omega⟩ h y]
  dsimp only
  rw [show 2047 - (2047 - n) = n by omega]

/-- A row and a column of a head. -/
theorem at_head (y : S64x1024.Idx) : ∃ (i : Fin 64) (h : Fin 8) (x : Fin 128), y = ix2 i (col h x) := by
  have h1 : (y 1).val < 1024 := (y 1).isLt
  refine ⟨y 0, ⟨(y 1).val / 128, by omega⟩, ⟨(y 1).val % 128, by omega⟩, ?_⟩
  funext a
  fin_cases a
  · rfl
  · exact Fin.ext (by show (y 1).val = (y 1).val / 128 * 128 + (y 1).val % 128; omega)

/-- A token's place is inside its sequence. -/
theorem token_lt (t : Fin cfg0.N) (d : Fin 2) (i : Fin 64) : token t d i < 2048 := by
  have := place_lt d i
  unfold token
  omega

/-- The first result. -/
theorem arr13 (hf : Fits m c) : (dats m 0 c).arrAt 13 cfg0.N = Cert.ReferenceIdeal.Step.R_main_v46 (ends m c) := by
  refine (dats m 0 c).arrAt_eq_of_covers 13 _ (by decide +kernel) fun t _ y => ?_
  obtain ⟨i, h, x, rfl⟩ := at_head y
  blk_simp
  rw [after0_13, (leaves hf t.val t.isLt).1 i h x, ← ends_fwd hf (seq t) _ (token_lt t 0 i) h x]
  have e := row_fwd t i
  generalize row (seq t) 0 (token t 0 i) = r at e ⊢
  generalize col h x = l
  blk_ext [idx t]

/-- The second. -/
theorem arr14 (hf : Fits m c) : (dats m 0 c).arrAt 14 cfg0.N = Cert.ReferenceIdeal.Step.R_main_v51 (ends m c) := by
  refine (dats m 0 c).arrAt_eq_of_covers 14 _ (by decide +kernel) fun t _ y => ?_
  obtain ⟨i, h, x, rfl⟩ := at_head y
  blk_simp
  rw [after0_14, (leaves hf t.val t.isLt).2.1 i h x, ← ends_bwd hf (seq t) _ (token_lt t 1 i) h x]
  have e := row_bwd t i
  generalize row (seq t) 1 (token t 1 i) = r at e ⊢
  generalize col h x = l
  blk_ext [idx t]

/-- The third. -/
theorem arr15 (hf : Fits m c) : (dats m 0 c).arrAt 15 cfg0.N = (ends m c).main_v42_6 := by
  refine (dats m 0 c).arrAt_eq_of_covers 15 _ (by decide +kernel) fun t h1 y => ?_
  obtain ⟨d, h, x, z, rfl⟩ : ∃ (d : Fin 2) (h : Fin 8) (x z : Fin 128), y = ix5 0 d h x z := ⟨y 1, y 2, y 3, y 4, by
    funext a
    fin_cases a
    · exact Subsingleton.elim (α := Fin 1) _ _
    all_goals rfl⟩
  blk_simp
  rw [after0_15, last hf t ((flush0_15 t).mp h1) d h x z]
  have e := Cert.RefScan.it_state _ _ _ _ _ _ hf.real (seq t) d h 2048 le_rfl x z
  rw [← e]
  have e : (seq t).val = t.val / 32 := rfl
  generalize seq t = b at e ⊢
  unfold ends
  generalize (Cert.RefScan.it (Q m c) (K m c) (Vv m c) (Gd m c) (Bt m c) (S0 m c) 2048).main_v42_6 = W
  blk_ext [idx t]

end Cert.Chain

end
-- ==== Proof.lean ====
/- The claims, proved. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Inproj.Frame
public import proofs.«01_k».proof.Proof.Inproj
public import proofs.«01_k».proof.Proof.Gen.Merge.Frame
public import proofs.«01_k».proof.Proof.Merge
public import proofs.«01_k».proof.Proof.Gen.Outproj.Frame
public import proofs.«01_k».proof.Proof.Outproj
public import proofs.«01_k».proof.Proof.Gen.FfnOut.Frame
public import proofs.«01_k».proof.Proof.FfnOut
public import proofs.«01_k».proof.Proof.ActFrame
public import proofs.«01_k».proof.Proof.FfnAct
public import proofs.«01_k».proof.Proof.Gen.Modul.Frame
public import proofs.«01_k».proof.Proof.Modul
public import proofs.«01_k».proof.Proof.Gen.Gdread.Frame
public import proofs.«01_k».proof.Proof.Gdread
public import proofs.«01_k».proof.Proof.PreFacts
public import proofs.«01_k».proof.Proof.Final
public import proofs.«01_k».proof.Proof.RefRun
public import Idealize.ShloMosaic.Adequacy
public import Idealize.ShloMosaic.Init

@[expose] public section

noncomputable section

namespace Cert.Proof

open Idealize.ShloMosaic Idealize.SL.Sem

/-- What the precondition gives about the arguments. -/
theorem fits [Cert.Pre_decays.Facts] (m : (ℓ : Loc Cert.KernelIdeal.nD Cert.KernelIdeal.τ Cert.KernelIdeal.sig) → Buf (Elt Ideal) ℓ)
    (h : Cert.Pre_KernelIdeal_decays m) (c : Dev Cert.KernelIdeal.nD) : Cert.Chain.Fits m c where
  real := (Cert.PreFacts.split _ _ _ _ _ _ (fun i => congrFun (h c) i)).1
  least b d hd n hn i hi := by
    have e := Cert.PreFacts.least _ _ _ _ _ _ (fun i => congrFun (h c) i) b d hd n hn (63 - i) (by omega)
    rwa [show 63 - (63 - i) = i by omega] at e

/-- The reference's run leaves its arguments, and every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The kernel and the reference end with the same results. -/
theorem value [Cert.Pre_decays.Facts] : Cert.algebraic_KernelIdeal_ReferenceIdeal_pre_decays := by
  intro m g m' g' hpre hagree
  refine ⟨fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    Cert.KernelIdeal.Value.run_blocks m g, ?_⟩
  refine (θ_run _ _ _).mono (fun r h c => ⟨?_, ?_, ?_, (h c).2.2.2⟩) (Cert.ReferenceIdeal.Value.run (F := Ideal) m' g')
  all_goals
    have hf := fits m hpre c
    have hl := Cert.RefRun.loads_iter m' c 2048
    have hs : Cert.RefRun.states m' c 2048 = Cert.Chain.ends m c := by
      obtain ⟨a0, a1, a2, a3, a4, a5⟩ := hagree c
      unfold Cert.RefRun.states Cert.Chain.ends
      rw [a0, a1, a2, a3, a4, a5]
  · exact (h c).1.trans ((Cert.RefRun.out1_loads hl).trans ((congrArg _ hs).trans (Cert.Chain.arr13 hf).symm))
  · exact (h c).2.1.trans ((Cert.RefRun.out2_loads hl).trans ((congrArg _ hs).trans (Cert.Chain.arr14 hf).symm))
  · exact (h c).2.2.1.trans (hl.states.trans ((congrArg _ hs).trans (Cert.Chain.arr15 hf).symm))

/-- The reference of the first projection: its run leaves its arguments, and every counter at zero. -/
theorem frame_inproj (m : (ℓ : Loc Cert.InprojRefIdeal.nD Cert.InprojRefIdeal.τ Cert.InprojRefIdeal.sig) → Buf (Elt Ideal) ℓ)
    (g : Dev Cert.InprojRefIdeal.nD → PrngReg) :
    θ_run (Cert.InprojRefIdeal.defs (F := Ideal)) (onTc (τ := Cert.InprojRefIdeal.τ) (Cert.InprojRefIdeal.main (F := Ideal)))
      ⟨m, fun _ => 0, g⟩ (fun r => (∀ c : Dev Cert.InprojRefIdeal.nD,
        r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
        ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
        ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
        ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
        ∧ r.2.sem = fun _ => 0) :=
  (θ_run Cert.InprojRefIdeal.defs _ _).mono (fun r h => ⟨fun c => (h c).2,
      Idealize.ShloMosaic.sem_eq_zero_of_no_sems (by decide) r.2⟩)
    (Cert.InprojRefIdeal.Value.run (F := Ideal) m g)

/-- The first projection: the kernel and the reference end with the same result. -/
theorem value_inproj : Cert.algebraic_InprojIdeal_InprojRefIdeal := by
  intro m g m' g' _ hagree
  refine ⟨fun c => (Cert.InprojIdeal.Gen.dats m 0 c).arrAt 4 Cert.InprojIdeal.cfg0.N, Cert.InprojIdeal.Value.run_blocks m g, ?_⟩
  refine (θ_run _ _ _).mono (fun r h c => ⟨?_, (h c).2⟩) (Cert.InprojRefIdeal.Value.run (F := Ideal) m' g')
  obtain ⟨a0, a1, a2, a3⟩ := hagree c
  rw [(h c).1, a0, a1, a2, a3]
  exact (Cert.InprojIdeal.Value.final m c).symm

/-- The reference of the merge of the branches: its run leaves its arguments, and every counter at zero. -/
theorem frame_merge (m : (ℓ : Loc Cert.MergeRefIdeal.nD Cert.MergeRefIdeal.τ Cert.MergeRefIdeal.sig) → Buf (Elt Ideal) ℓ)
    (g : Dev Cert.MergeRefIdeal.nD → PrngReg) :
    θ_run (Cert.MergeRefIdeal.defs (F := Ideal)) (onTc (τ := Cert.MergeRefIdeal.τ) (Cert.MergeRefIdeal.main (F := Ideal)))
      ⟨m, fun _ => 0, g⟩ (fun r => (∀ c : Dev Cert.MergeRefIdeal.nD,
        r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
        ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
        ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
        ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
        ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
        ∧ r.2.sem = fun _ => 0) :=
  (θ_run Cert.MergeRefIdeal.defs _ _).mono (fun r h => ⟨fun c => (h c).2,
      Idealize.ShloMosaic.sem_eq_zero_of_no_sems (by decide) r.2⟩)
    (Cert.MergeRefIdeal.Value.run (F := Ideal) m g)

/-- The merge of the branches: the kernel and the reference end with the same result. -/
theorem value_merge : Cert.algebraic_MergeIdeal_MergeRefIdeal := by
  intro m g m' g' _ hagree
  refine ⟨fun c => (Cert.MergeIdeal.Gen.dats m 0 c).arrAt 6 Cert.MergeIdeal.cfg0.N, Cert.MergeIdeal.Value.run_blocks m g, ?_⟩
  refine (θ_run _ _ _).mono (fun r h c => ⟨?_, (h c).2⟩) (Cert.MergeRefIdeal.Value.run (F := Ideal) m' g')
  obtain ⟨a0, a1, a2, a3, a4⟩ := hagree c
  rw [(h c).1, a0, a1, a2, a3, a4]
  exact (Cert.MergeIdeal.Value.final m c).symm

/-- The reference of the output projection: its run leaves its arguments, and every counter at zero. -/
theorem frame_outproj (m : (ℓ : Loc Cert.OutprojRefIdeal.nD Cert.OutprojRefIdeal.τ Cert.OutprojRefIdeal.sig) → Buf (Elt Ideal) ℓ)
    (g : Dev Cert.OutprojRefIdeal.nD → PrngReg) :
    θ_run (Cert.OutprojRefIdeal.defs (F := Ideal)) (onTc (τ := Cert.OutprojRefIdeal.τ) (Cert.OutprojRefIdeal.main (F := Ideal)))
      ⟨m, fun _ => 0, g⟩ (fun r => (∀ c : Dev Cert.OutprojRefIdeal.nD,
        r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
        ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
        ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
        ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
        ∧ r.2.sem = fun _ => 0) :=
  (θ_run Cert.OutprojRefIdeal.defs _ _).mono (fun r h => ⟨fun c => (h c).2,
      Idealize.ShloMosaic.sem_eq_zero_of_no_sems (by decide) r.2⟩)
    (Cert.OutprojRefIdeal.Value.run (F := Ideal) m g)

/-- The output projection: the kernel and the reference end with the same result. -/
theorem value_outproj : Cert.algebraic_OutprojIdeal_OutprojRefIdeal := by
  intro m g m' g' _ hagree
  refine ⟨fun c => (Cert.OutprojIdeal.Gen.dats m 0 c).arrAt 4 Cert.OutprojIdeal.cfg0.N, Cert.OutprojIdeal.Value.run_blocks m g, ?_⟩
  refine (θ_run _ _ _).mono (fun r h c => ⟨?_, (h c).2⟩) (Cert.OutprojRefIdeal.Value.run (F := Ideal) m' g')
  obtain ⟨a0, a1, a2, a3⟩ := hagree c
  rw [(h c).1, a0, a1, a2, a3]
  exact (Cert.OutprojIdeal.Value.final m c).symm

/-- The reference of the second product of the feed-forward part: its run leaves its arguments, and every counter at zero. -/
theorem frame_ffnOut (m : (ℓ : Loc Cert.FfnOutRefIdeal.nD Cert.FfnOutRefIdeal.τ Cert.FfnOutRefIdeal.sig) → Buf (Elt Ideal) ℓ)
    (g : Dev Cert.FfnOutRefIdeal.nD → PrngReg) :
    θ_run (Cert.FfnOutRefIdeal.defs (F := Ideal)) (onTc (τ := Cert.FfnOutRefIdeal.τ) (Cert.FfnOutRefIdeal.main (F := Ideal)))
      ⟨m, fun _ => 0, g⟩ (fun r => (∀ c : Dev Cert.FfnOutRefIdeal.nD,
        r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
        ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
        ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
        ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
        ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
        ∧ r.2.sem = fun _ => 0) :=
  (θ_run Cert.FfnOutRefIdeal.defs _ _).mono (fun r h => ⟨fun c => (h c).2,
      Idealize.ShloMosaic.sem_eq_zero_of_no_sems (by decide) r.2⟩)
    (Cert.FfnOutRefIdeal.Value.run (F := Ideal) m g)

/-- The second product of the feed-forward part: the kernel and the reference end with the same result. -/
theorem value_ffnOut : Cert.algebraic_FfnOutIdeal_FfnOutRefIdeal := by
  intro m g m' g' _ hagree
  refine ⟨fun c => (Cert.FfnOutIdeal.Gen.dats m 0 c).arrAt 5 Cert.FfnOutIdeal.cfg0.N, Cert.FfnOutIdeal.Value.run_blocks m g, ?_⟩
  refine (θ_run _ _ _).mono (fun r h c => ⟨?_, (h c).2⟩) (Cert.FfnOutRefIdeal.Value.run (F := Ideal) m' g')
  obtain ⟨a0, a1, a2, a3, a4⟩ := hagree c
  rw [(h c).1, a0, a1, a2, a3, a4]
  exact (Cert.FfnOutIdeal.Value.final m c).symm

/-- The reference of the first half of the feed-forward part: its run leaves its arguments, and every counter at zero. -/
theorem frame_ffnAct (m : (ℓ : Loc Cert.FfnActRefIdeal.nD Cert.FfnActRefIdeal.τ Cert.FfnActRefIdeal.sig) → Buf (Elt Ideal) ℓ)
    (g : Dev Cert.FfnActRefIdeal.nD → PrngReg) :
    θ_run (Cert.FfnActRefIdeal.defs (F := Ideal)) (onTc (τ := Cert.FfnActRefIdeal.τ) (Cert.FfnActRefIdeal.main (F := Ideal)))
      ⟨m, fun _ => 0, g⟩ (fun r => (∀ c : Dev Cert.FfnActRefIdeal.nD,
        r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
        ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
        ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
        ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
        ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
        ∧ r.2.sem = fun _ => 0) :=
  (θ_run Cert.FfnActRefIdeal.defs _ _).mono (fun r h => ⟨fun c => (h c).2,
      Idealize.ShloMosaic.sem_eq_zero_of_no_sems (by decide) r.2⟩)
    (Cert.FfnActRefIdeal.Value.run (F := Ideal) m g)

/-- The first half of the feed-forward part: the kernel and the reference end with the same result. -/
theorem value_ffnAct : Cert.algebraic_FfnActIdeal_FfnActRefIdeal := by
  intro m g m' g' _ hagree
  refine ⟨fun c => (Cert.FfnActIdeal.Gen.dats m 0 c).arrAt 6 Cert.FfnActIdeal.cfg0.N, Cert.FfnActIdeal.Value.run_blocks m g, ?_⟩
  refine (θ_run _ _ _).mono (fun r h c => ⟨?_, (h c).2⟩) (Cert.FfnActRefIdeal.Value.run (F := Ideal) m' g')
  obtain ⟨a0, a1, a2, a3, a4⟩ := hagree c
  rw [(h c).1, Cert.FfnActIdeal.Value.reference_eq, a0, a1, a2, a3, a4]
  exact (Cert.FfnActIdeal.Value.final m c).symm

/-- The reference of the modulation: its run leaves its arguments, and every counter at zero. -/
theorem frame_modul (m : (ℓ : Loc Cert.ModulRefIdeal.nD Cert.ModulRefIdeal.τ Cert.ModulRefIdeal.sig) → Buf (Elt Ideal) ℓ)
    (g : Dev Cert.ModulRefIdeal.nD → PrngReg) :
    θ_run (Cert.ModulRefIdeal.defs (F := Ideal)) (onTc (τ := Cert.ModulRefIdeal.τ) (Cert.ModulRefIdeal.main (F := Ideal)))
      ⟨m, fun _ => 0, g⟩ (fun r => (∀ c : Dev Cert.ModulRefIdeal.nD,
        r.2.mem ((c.tc : Thread Cert.ModulRefIdeal.nD Cert.ModulRefIdeal.τ).loc Cert.ModulRefIdeal.main_arg0) = m ((c.tc : Thread Cert.ModulRefIdeal.nD Cert.ModulRefIdeal.τ).loc Cert.ModulRefIdeal.main_arg0)
        ∧ r.2.mem ((c.tc : Thread Cert.ModulRefIdeal.nD Cert.ModulRefIdeal.τ).loc Cert.ModulRefIdeal.main_arg1) = m ((c.tc : Thread Cert.ModulRefIdeal.nD Cert.ModulRefIdeal.τ).loc Cert.ModulRefIdeal.main_arg1)
        ∧ r.2.mem ((c.tc : Thread Cert.ModulRefIdeal.nD Cert.ModulRefIdeal.τ).loc Cert.ModulRefIdeal.main_arg2) = m ((c.tc : Thread Cert.ModulRefIdeal.nD Cert.ModulRefIdeal.τ).loc Cert.ModulRefIdeal.main_arg2))
        ∧ r.2.sem = fun _ => 0) :=
  (θ_run Cert.ModulRefIdeal.defs _ _).mono (fun r h => ⟨fun c => (h c).2,
      Idealize.ShloMosaic.sem_eq_zero_of_no_sems (by decide) r.2⟩)
    (Cert.ModulRefIdeal.Value.run (F := Ideal) m g)

/-- The modulation: the kernel and the reference end with the same result. -/
theorem value_modul : Cert.algebraic_ModulIdeal_ModulRefIdeal := by
  intro m g m' g' _ hagree
  refine ⟨fun c => (Cert.ModulIdeal.Gen.dats m 0 c).arrAt 3 Cert.ModulIdeal.cfg0.N, Cert.ModulIdeal.Value.run_blocks m g, ?_⟩
  refine (θ_run _ _ _).mono (fun r h c => ⟨?_, (h c).2⟩) (Cert.ModulRefIdeal.Value.run (F := Ideal) m' g')
  obtain ⟨a0, a1, a2⟩ := hagree c
  rw [(h c).1, a0, a1, a2]
  exact (Cert.ModulIdeal.Value.final m c).symm

/-- The reference of the read-out of the gated DeltaNet branch: its run leaves its arguments, and every counter at zero. -/
theorem frame_gdread (m : (ℓ : Loc Cert.GdreadRefIdeal.nD Cert.GdreadRefIdeal.τ Cert.GdreadRefIdeal.sig) → Buf (Elt Ideal) ℓ)
    (g : Dev Cert.GdreadRefIdeal.nD → PrngReg) :
    θ_run (Cert.GdreadRefIdeal.defs (F := Ideal)) (onTc (τ := Cert.GdreadRefIdeal.τ) (Cert.GdreadRefIdeal.main (F := Ideal)))
      ⟨m, fun _ => 0, g⟩ (fun r => (∀ c : Dev Cert.GdreadRefIdeal.nD,
        r.2.mem ((c.tc : Thread Cert.GdreadRefIdeal.nD Cert.GdreadRefIdeal.τ).loc Cert.GdreadRefIdeal.main_arg0) = m ((c.tc : Thread Cert.GdreadRefIdeal.nD Cert.GdreadRefIdeal.τ).loc Cert.GdreadRefIdeal.main_arg0)
        ∧ r.2.mem ((c.tc : Thread Cert.GdreadRefIdeal.nD Cert.GdreadRefIdeal.τ).loc Cert.GdreadRefIdeal.main_arg1) = m ((c.tc : Thread Cert.GdreadRefIdeal.nD Cert.GdreadRefIdeal.τ).loc Cert.GdreadRefIdeal.main_arg1)
        ∧ r.2.mem ((c.tc : Thread Cert.GdreadRefIdeal.nD Cert.GdreadRefIdeal.τ).loc Cert.GdreadRefIdeal.main_arg2) = m ((c.tc : Thread Cert.GdreadRefIdeal.nD Cert.GdreadRefIdeal.τ).loc Cert.GdreadRefIdeal.main_arg2)
        ∧ r.2.mem ((c.tc : Thread Cert.GdreadRefIdeal.nD Cert.GdreadRefIdeal.τ).loc Cert.GdreadRefIdeal.main_arg3) = m ((c.tc : Thread Cert.GdreadRefIdeal.nD Cert.GdreadRefIdeal.τ).loc Cert.GdreadRefIdeal.main_arg3))
        ∧ r.2.sem = fun _ => 0) :=
  (θ_run Cert.GdreadRefIdeal.defs _ _).mono (fun r h => ⟨fun c => (h c).2,
      Idealize.ShloMosaic.sem_eq_zero_of_no_sems (by decide) r.2⟩)
    (Cert.GdreadRefIdeal.Value.run (F := Ideal) m g)

/-- The read-out of the gated DeltaNet branch: the kernel and the reference end with the same result. -/
theorem value_gdread : Cert.algebraic_GdreadIdeal_GdreadRefIdeal := by
  intro m g m' g' _ hagree
  refine ⟨fun c => (Cert.GdreadIdeal.Gen.dats m 0 c).arrAt 4 Cert.GdreadIdeal.cfg0.N, Cert.GdreadIdeal.Value.run_blocks m g, ?_⟩
  refine (θ_run _ _ _).mono (fun r h c => ⟨?_, (h c).2⟩) (Cert.GdreadRefIdeal.Value.run (F := Ideal) m' g')
  obtain ⟨a0, a1, a2, a3⟩ := hagree c
  rw [(h c).1, a0, a1, a2, a3]
  exact (Cert.GdreadIdeal.Value.final m c).symm

/-- Everything claimed. -/
theorem claim : Cert.Claim :=
  ⟨Cert.Kernel.Gen.facts, Cert.KernelIdeal.Gen.facts, Cert.ReferenceIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Outproj.Gen.facts, Cert.OutprojIdeal.Gen.facts, Cert.OutprojRefIdeal.Gen.facts,
    Cert.FfnOut.Gen.facts, Cert.FfnOutIdeal.Gen.facts, Cert.FfnOutRefIdeal.Gen.facts,
    Cert.FfnAct.Gen.facts, Cert.FfnActIdeal.Gen.facts, Cert.FfnActRefIdeal.Gen.facts,
    Cert.Modul.Gen.facts, Cert.ModulIdeal.Gen.facts, Cert.ModulRefIdeal.Gen.facts,
    Cert.Gdread.Gen.facts, Cert.GdreadIdeal.Gen.facts, Cert.GdreadRefIdeal.Gen.facts,
    Cert.PreFacts.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    fun m g _ => Cert.Inproj.Gen.frame m g, fun m g _ => Cert.InprojIdeal.Gen.frame m g, fun m g _ => frame_inproj m g,
    fun m g _ => Cert.Merge.Gen.frame m g, fun m g _ => Cert.MergeIdeal.Gen.frame m g, fun m g _ => frame_merge m g,
    fun m g _ => Cert.Outproj.Gen.frame m g, fun m g _ => Cert.OutprojIdeal.Gen.frame m g, fun m g _ => frame_outproj m g,
    fun m g _ => Cert.FfnOut.Gen.frame m g, fun m g _ => Cert.FfnOutIdeal.Gen.frame m g, fun m g _ => frame_ffnOut m g,
    fun m g _ => Cert.FfnAct.Gen.frame m g, fun m g _ => Cert.FfnActIdeal.Gen.frame m g, fun m g _ => frame_ffnAct m g,
    fun m g _ => Cert.Modul.Gen.frame m g, fun m g _ => Cert.ModulIdeal.Gen.frame m g, fun m g _ => frame_modul m g,
    fun m g _ => Cert.Gdread.Gen.frame m g, fun m g _ => Cert.GdreadIdeal.Gen.frame m g, fun m g _ => frame_gdread m g,
    trivial,
    letI := Cert.PreFacts.facts
    value,
    trivial, value_inproj,
    trivial, value_merge,
    trivial, value_outproj,
    trivial, value_ffnOut,
    trivial, value_ffnAct,
    trivial, value_modul,
    trivial, value_gdread⟩

end Cert.Proof

end
